-- ==== Defs.lean ====
def Pre_Kernel [hPre_in_rows : Cert.Pre_in_rows.Facts] (m : (ℓ : Loc Cert.Kernel.nD Cert.Kernel.τ Cert.Kernel.sig) → Buf (Elt Bits) ℓ) : Prop :=
  ∀ c : Dev Cert.Kernel.nD,
    (Cert.Pre_in_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_in_rows : Cert.Pre_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_KernelIdeal_in_rows_and_finite [hPre_in_rows_and_finite : Cert.Pre_in_rows_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_in_rows_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_in_rows : Cert.Pre_in_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_ReferenceIdeal_in_rows_and_finite [hPre_in_rows_and_finite : Cert.Pre_in_rows_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_rows_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Coarse (m : (ℓ : Loc Cert.Coarse.nD Cert.Coarse.τ Cert.Coarse.sig) → Buf (Elt Bits) ℓ) : Prop :=
  True

def Pre_CoarseIdeal (m : (ℓ : Loc Cert.CoarseIdeal.nD Cert.CoarseIdeal.τ Cert.CoarseIdeal.sig) → Buf (Elt Ideal) ℓ) : Prop :=
  True

def Pre_CoarseIdeal_finite [hPre_finite : Cert.Pre_finite.Facts] (m : (ℓ : Loc Cert.CoarseIdeal.nD Cert.CoarseIdeal.τ Cert.CoarseIdeal.sig) → Buf (Elt Ideal) ℓ) : Prop :=
  ∀ c : Dev Cert.CoarseIdeal.nD,
    (Cert.Pre_finite.fn (F := Ideal) (m ((c.tc : Thread Cert.CoarseIdeal.nD Cert.CoarseIdeal.τ).loc Cert.CoarseIdeal.main_arg0)) (m ((c.tc : Thread Cert.CoarseIdeal.nD Cert.CoarseIdeal.τ).loc Cert.CoarseIdeal.main_arg1)) (m ((c.tc : Thread Cert.CoarseIdeal.nD Cert.CoarseIdeal.τ).loc Cert.CoarseIdeal.main_arg2))) = (fun _ => 1#1)

def Pre_CoarseReferenceIdeal (m : (ℓ : Loc Cert.CoarseReferenceIdeal.nD Cert.CoarseReferenceIdeal.τ Cert.CoarseReferenceIdeal.sig) → Buf (Elt Ideal) ℓ) : Prop :=
  True

def Pre_CoarseReferenceIdeal_finite [hPre_finite : Cert.Pre_finite.Facts] (m : (ℓ : Loc Cert.CoarseReferenceIdeal.nD Cert.CoarseReferenceIdeal.τ Cert.CoarseReferenceIdeal.sig) → Buf (Elt Ideal) ℓ) : Prop :=
  ∀ c : Dev Cert.CoarseReferenceIdeal.nD,
    (Cert.Pre_finite.fn (F := Ideal) (m ((c.tc : Thread Cert.CoarseReferenceIdeal.nD Cert.CoarseReferenceIdeal.τ).loc Cert.CoarseReferenceIdeal.main_arg0)) (m ((c.tc : Thread Cert.CoarseReferenceIdeal.nD Cert.CoarseReferenceIdeal.τ).loc Cert.CoarseReferenceIdeal.main_arg1)) (m ((c.tc : Thread Cert.CoarseReferenceIdeal.nD Cert.CoarseReferenceIdeal.τ).loc Cert.CoarseReferenceIdeal.main_arg2))) = (fun _ => 1#1)

def quiescent_Kernel [hKernel : Cert.Kernel.Facts] [hPre_in_rows : Cert.Pre_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_in_rows : Cert.Pre_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_in_rows_and_finite [hKernelIdeal : Cert.KernelIdeal.Facts] [hPre_in_rows_and_finite : Cert.Pre_in_rows_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_rows_and_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] [hPre_in_rows : Cert.Pre_in_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_in_rows_and_finite [hReferenceIdeal : Cert.ReferenceIdeal.Facts] [hPre_in_rows_and_finite : Cert.Pre_in_rows_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_rows_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Coarse [hCoarse : Cert.Coarse.Facts] : Prop :=
  ∀ (m : (ℓ : Loc Cert.Coarse.nD Cert.Coarse.τ Cert.Coarse.sig) → Buf (Elt Bits) ℓ) (g : Dev Cert.Coarse.nD → PrngReg), Pre_Coarse m →
    θ_run (Cert.Coarse.defs (F := Bits)) (onTc (τ := Cert.Coarse.τ) (Cert.Coarse.main (F := Bits))) ⟨m, fun _ => 0, g⟩ (fun r => (∀ c : Dev Cert.Coarse.nD,
      r.2.mem ((c.tc : Thread Cert.Coarse.nD Cert.Coarse.τ).loc Cert.Coarse.main_arg0) = m ((c.tc : Thread Cert.Coarse.nD Cert.Coarse.τ).loc Cert.Coarse.main_arg0)
      ∧ r.2.mem ((c.tc : Thread Cert.Coarse.nD Cert.Coarse.τ).loc Cert.Coarse.main_arg1) = m ((c.tc : Thread Cert.Coarse.nD Cert.Coarse.τ).loc Cert.Coarse.main_arg1)
      ∧ r.2.mem ((c.tc : Thread Cert.Coarse.nD Cert.Coarse.τ).loc Cert.Coarse.main_arg2) = m ((c.tc : Thread Cert.Coarse.nD Cert.Coarse.τ).loc Cert.Coarse.main_arg2))
      ∧ r.2.sem = fun _ => 0)

def quiescent_CoarseIdeal [hCoarseIdeal : Cert.CoarseIdeal.Facts] : Prop :=
  ∀ (m : (ℓ : Loc Cert.CoarseIdeal.nD Cert.CoarseIdeal.τ Cert.CoarseIdeal.sig) → Buf (Elt Ideal) ℓ) (g : Dev Cert.CoarseIdeal.nD → PrngReg), Pre_CoarseIdeal m →
    θ_run (Cert.CoarseIdeal.defs (F := Ideal)) (onTc (τ := Cert.CoarseIdeal.τ) (Cert.CoarseIdeal.main (F := Ideal))) ⟨m, fun _ => 0, g⟩ (fun r => (∀ c : Dev Cert.CoarseIdeal.nD,
      r.2.mem ((c.tc : Thread Cert.CoarseIdeal.nD Cert.CoarseIdeal.τ).loc Cert.CoarseIdeal.main_arg0) = m ((c.tc : Thread Cert.CoarseIdeal.nD Cert.CoarseIdeal.τ).loc Cert.CoarseIdeal.main_arg0)
      ∧ r.2.mem ((c.tc : Thread Cert.CoarseIdeal.nD Cert.CoarseIdeal.τ).loc Cert.CoarseIdeal.main_arg1) = m ((c.tc : Thread Cert.CoarseIdeal.nD Cert.CoarseIdeal.τ).loc Cert.CoarseIdeal.main_arg1)
      ∧ r.2.mem ((c.tc : Thread Cert.CoarseIdeal.nD Cert.CoarseIdeal.τ).loc Cert.CoarseIdeal.main_arg2) = m ((c.tc : Thread Cert.CoarseIdeal.nD Cert.CoarseIdeal.τ).loc Cert.CoarseIdeal.main_arg2))
      ∧ r.2.sem = fun _ => 0)

def quiescent_CoarseIdeal_pre_finite [hCoarseIdeal : Cert.CoarseIdeal.Facts] [hPre_finite : Cert.Pre_finite.Facts] : Prop :=
  ∀ (m : (ℓ : Loc Cert.CoarseIdeal.nD Cert.CoarseIdeal.τ Cert.CoarseIdeal.sig) → Buf (Elt Ideal) ℓ) (g : Dev Cert.CoarseIdeal.nD → PrngReg), Pre_CoarseIdeal_finite m →
    θ_run (Cert.CoarseIdeal.defs (F := Ideal)) (onTc (τ := Cert.CoarseIdeal.τ) (Cert.CoarseIdeal.main (F := Ideal))) ⟨m, fun _ => 0, g⟩ (fun r => (∀ c : Dev Cert.CoarseIdeal.nD,
      r.2.mem ((c.tc : Thread Cert.CoarseIdeal.nD Cert.CoarseIdeal.τ).loc Cert.CoarseIdeal.main_arg0) = m ((c.tc : Thread Cert.CoarseIdeal.nD Cert.CoarseIdeal.τ).loc Cert.CoarseIdeal.main_arg0)
      ∧ r.2.mem ((c.tc : Thread Cert.CoarseIdeal.nD Cert.CoarseIdeal.τ).loc Cert.CoarseIdeal.main_arg1) = m ((c.tc : Thread Cert.CoarseIdeal.nD Cert.CoarseIdeal.τ).loc Cert.CoarseIdeal.main_arg1)
      ∧ r.2.mem ((c.tc : Thread Cert.CoarseIdeal.nD Cert.CoarseIdeal.τ).loc Cert.CoarseIdeal.main_arg2) = m ((c.tc : Thread Cert.CoarseIdeal.nD Cert.CoarseIdeal.τ).loc Cert.CoarseIdeal.main_arg2))
      ∧ r.2.sem = fun _ => 0)

def quiescent_CoarseReferenceIdeal [hCoarseReferenceIdeal : Cert.CoarseReferenceIdeal.Facts] : Prop :=
  ∀ (m : (ℓ : Loc Cert.CoarseReferenceIdeal.nD Cert.CoarseReferenceIdeal.τ Cert.CoarseReferenceIdeal.sig) → Buf (Elt Ideal) ℓ) (g : Dev Cert.CoarseReferenceIdeal.nD → PrngReg), Pre_CoarseReferenceIdeal m →
    θ_run (Cert.CoarseReferenceIdeal.defs (F := Ideal)) (onTc (τ := Cert.CoarseReferenceIdeal.τ) (Cert.CoarseReferenceIdeal.main (F := Ideal))) ⟨m, fun _ => 0, g⟩ (fun r => (∀ c : Dev Cert.CoarseReferenceIdeal.nD,
      r.2.mem ((c.tc : Thread Cert.CoarseReferenceIdeal.nD Cert.CoarseReferenceIdeal.τ).loc Cert.CoarseReferenceIdeal.main_arg0) = m ((c.tc : Thread Cert.CoarseReferenceIdeal.nD Cert.CoarseReferenceIdeal.τ).loc Cert.CoarseReferenceIdeal.main_arg0)
      ∧ r.2.mem ((c.tc : Thread Cert.CoarseReferenceIdeal.nD Cert.CoarseReferenceIdeal.τ).loc Cert.CoarseReferenceIdeal.main_arg1) = m ((c.tc : Thread Cert.CoarseReferenceIdeal.nD Cert.CoarseReferenceIdeal.τ).loc Cert.CoarseReferenceIdeal.main_arg1)
      ∧ r.2.mem ((c.tc : Thread Cert.CoarseReferenceIdeal.nD Cert.CoarseReferenceIdeal.τ).loc Cert.CoarseReferenceIdeal.main_arg2) = m ((c.tc : Thread Cert.CoarseReferenceIdeal.nD Cert.CoarseReferenceIdeal.τ).loc Cert.CoarseReferenceIdeal.main_arg2))
      ∧ r.2.sem = fun _ => 0)

def quiescent_CoarseReferenceIdeal_pre_finite [hCoarseReferenceIdeal : Cert.CoarseReferenceIdeal.Facts] [hPre_finite : Cert.Pre_finite.Facts] : Prop :=
  ∀ (m : (ℓ : Loc Cert.CoarseReferenceIdeal.nD Cert.CoarseReferenceIdeal.τ Cert.CoarseReferenceIdeal.sig) → Buf (Elt Ideal) ℓ) (g : Dev Cert.CoarseReferenceIdeal.nD → PrngReg), Pre_CoarseReferenceIdeal_finite m →
    θ_run (Cert.CoarseReferenceIdeal.defs (F := Ideal)) (onTc (τ := Cert.CoarseReferenceIdeal.τ) (Cert.CoarseReferenceIdeal.main (F := Ideal))) ⟨m, fun _ => 0, g⟩ (fun r => (∀ c : Dev Cert.CoarseReferenceIdeal.nD,
      r.2.mem ((c.tc : Thread Cert.CoarseReferenceIdeal.nD Cert.CoarseReferenceIdeal.τ).loc Cert.CoarseReferenceIdeal.main_arg0) = m ((c.tc : Thread Cert.CoarseReferenceIdeal.nD Cert.CoarseReferenceIdeal.τ).loc Cert.CoarseReferenceIdeal.main_arg0)
      ∧ r.2.mem ((c.tc : Thread Cert.CoarseReferenceIdeal.nD Cert.CoarseReferenceIdeal.τ).loc Cert.CoarseReferenceIdeal.main_arg1) = m ((c.tc : Thread Cert.CoarseReferenceIdeal.nD Cert.CoarseReferenceIdeal.τ).loc Cert.CoarseReferenceIdeal.main_arg1)
      ∧ r.2.mem ((c.tc : Thread Cert.CoarseReferenceIdeal.nD Cert.CoarseReferenceIdeal.τ).loc Cert.CoarseReferenceIdeal.main_arg2) = m ((c.tc : Thread Cert.CoarseReferenceIdeal.nD Cert.CoarseReferenceIdeal.τ).loc Cert.CoarseReferenceIdeal.main_arg2))
      ∧ r.2.sem = fun _ => 0)

def preserves_Kernel_KernelIdeal : Prop :=
  True

def algebraic_KernelIdeal_ReferenceIdeal_pre_in_rows_and_finite [hKernelIdeal : Cert.KernelIdeal.Facts] [hReferenceIdeal : Cert.ReferenceIdeal.Facts] [hPre_in_rows_and_finite : Cert.Pre_in_rows_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_rows_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Coarse_CoarseIdeal : Prop :=
  True

def algebraic_CoarseIdeal_CoarseReferenceIdeal_pre_finite [hCoarseIdeal : Cert.CoarseIdeal.Facts] [hCoarseReferenceIdeal : Cert.CoarseReferenceIdeal.Facts] [hPre_finite : Cert.Pre_finite.Facts] : Prop :=
  ∀ (m : (ℓ : Loc Cert.CoarseIdeal.nD Cert.CoarseIdeal.τ Cert.CoarseIdeal.sig) → Buf (Elt Ideal) ℓ) (g : Dev Cert.CoarseIdeal.nD → PrngReg)
    (m' : (ℓ : Loc Cert.CoarseReferenceIdeal.nD Cert.CoarseReferenceIdeal.τ Cert.CoarseReferenceIdeal.sig) → Buf (Elt Ideal) ℓ) (g' : Dev Cert.CoarseReferenceIdeal.nD → PrngReg), Pre_CoarseIdeal_finite m →
    (∀ c : Dev Cert.CoarseIdeal.nD,
      m' ((c.tc : Thread Cert.CoarseReferenceIdeal.nD Cert.CoarseReferenceIdeal.τ).loc Cert.CoarseReferenceIdeal.main_arg0) = m ((c.tc : Thread Cert.CoarseIdeal.nD Cert.CoarseIdeal.τ).loc Cert.CoarseIdeal.main_arg0)
      ∧ m' ((c.tc : Thread Cert.CoarseReferenceIdeal.nD Cert.CoarseReferenceIdeal.τ).loc Cert.CoarseReferenceIdeal.main_arg1) = m ((c.tc : Thread Cert.CoarseIdeal.nD Cert.CoarseIdeal.τ).loc Cert.CoarseIdeal.main_arg1)
      ∧ m' ((c.tc : Thread Cert.CoarseReferenceIdeal.nD Cert.CoarseReferenceIdeal.τ).loc Cert.CoarseReferenceIdeal.main_arg2) = m ((c.tc : Thread Cert.CoarseIdeal.nD Cert.CoarseIdeal.τ).loc Cert.CoarseIdeal.main_arg2)) →
    ∃ (v0 : (c : Dev Cert.CoarseIdeal.nD) → Buf (Elt Ideal) ((c.tc : Thread Cert.CoarseIdeal.nD Cert.CoarseIdeal.τ).loc Cert.CoarseIdeal.main_v9_0)) (v1 : (c : Dev Cert.CoarseIdeal.nD) → Buf (Elt Ideal) ((c.tc : Thread Cert.CoarseIdeal.nD Cert.CoarseIdeal.τ).loc Cert.CoarseIdeal.main_v9_1)),
      θ_run (Cert.CoarseIdeal.defs (F := Ideal)) (onTc (τ := Cert.CoarseIdeal.τ) (Cert.CoarseIdeal.main (F := Ideal))) ⟨m, fun _ => 0, g⟩ (fun r => ∀ c : Dev Cert.CoarseIdeal.nD,
          r.2.mem ((c.tc : Thread Cert.CoarseIdeal.nD Cert.CoarseIdeal.τ).loc Cert.CoarseIdeal.main_v9_0) = v0 c
          ∧ r.2.mem ((c.tc : Thread Cert.CoarseIdeal.nD Cert.CoarseIdeal.τ).loc Cert.CoarseIdeal.main_v9_1) = v1 c
          ∧ r.2.mem ((c.tc : Thread Cert.CoarseIdeal.nD Cert.CoarseIdeal.τ).loc Cert.CoarseIdeal.main_arg0) = m ((c.tc : Thread Cert.CoarseIdeal.nD Cert.CoarseIdeal.τ).loc Cert.CoarseIdeal.main_arg0)
          ∧ r.2.mem ((c.tc : Thread Cert.CoarseIdeal.nD Cert.CoarseIdeal.τ).loc Cert.CoarseIdeal.main_arg1) = m ((c.tc : Thread Cert.CoarseIdeal.nD Cert.CoarseIdeal.τ).loc Cert.CoarseIdeal.main_arg1)
          ∧ r.2.mem ((c.tc : Thread Cert.CoarseIdeal.nD Cert.CoarseIdeal.τ).loc Cert.CoarseIdeal.main_arg2) = m ((c.tc : Thread Cert.CoarseIdeal.nD Cert.CoarseIdeal.τ).loc Cert.CoarseIdeal.main_arg2))
      ∧ θ_run (Cert.CoarseReferenceIdeal.defs (F := Ideal)) (onTc (τ := Cert.CoarseReferenceIdeal.τ) (Cert.CoarseReferenceIdeal.main (F := Ideal))) ⟨m', fun _ => 0, g'⟩ (fun r => ∀ c : Dev Cert.CoarseReferenceIdeal.nD,
          r.2.mem ((c.tc : Thread Cert.CoarseReferenceIdeal.nD Cert.CoarseReferenceIdeal.τ).loc Cert.CoarseReferenceIdeal.main_v18) = v0 c
          ∧ r.2.mem ((c.tc : Thread Cert.CoarseReferenceIdeal.nD Cert.CoarseReferenceIdeal.τ).loc Cert.CoarseReferenceIdeal.main_v24) = v1 c
          ∧ r.2.mem ((c.tc : Thread Cert.CoarseReferenceIdeal.nD Cert.CoarseReferenceIdeal.τ).loc Cert.CoarseReferenceIdeal.main_arg0) = m' ((c.tc : Thread Cert.CoarseReferenceIdeal.nD Cert.CoarseReferenceIdeal.τ).loc Cert.CoarseReferenceIdeal.main_arg0)
          ∧ r.2.mem ((c.tc : Thread Cert.CoarseReferenceIdeal.nD Cert.CoarseReferenceIdeal.τ).loc Cert.CoarseReferenceIdeal.main_arg1) = m' ((c.tc : Thread Cert.CoarseReferenceIdeal.nD Cert.CoarseReferenceIdeal.τ).loc Cert.CoarseReferenceIdeal.main_arg1)
          ∧ r.2.mem ((c.tc : Thread Cert.CoarseReferenceIdeal.nD Cert.CoarseReferenceIdeal.τ).loc Cert.CoarseReferenceIdeal.main_arg2) = m' ((c.tc : Thread Cert.CoarseReferenceIdeal.nD Cert.CoarseReferenceIdeal.τ).loc Cert.CoarseReferenceIdeal.main_arg2))

def Claim : Prop :=
  ∃ (hKernel : Cert.Kernel.Facts) (hKernelIdeal : Cert.KernelIdeal.Facts) (hReferenceIdeal : Cert.ReferenceIdeal.Facts) (hCoarse : Cert.Coarse.Facts) (hCoarseIdeal : Cert.CoarseIdeal.Facts) (hCoarseReferenceIdeal : Cert.CoarseReferenceIdeal.Facts) (hPre_in_rows : Cert.Pre_in_rows.Facts) (hPre_in_rows_and_finite : Cert.Pre_in_rows_and_finite.Facts) (hPre_finite : Cert.Pre_finite.Facts),
    quiescent_Kernel (hKernel := hKernel) (hPre_in_rows := hPre_in_rows)
    ∧ quiescent_KernelIdeal (hKernelIdeal := hKernelIdeal) (hPre_in_rows := hPre_in_rows)
    ∧ quiescent_KernelIdeal_pre_in_rows_and_finite (hKernelIdeal := hKernelIdeal) (hPre_in_rows_and_finite := hPre_in_rows_and_finite)
    ∧ quiescent_ReferenceIdeal (hReferenceIdeal := hReferenceIdeal) (hPre_in_rows := hPre_in_rows)
    ∧ quiescent_ReferenceIdeal_pre_in_rows_and_finite (hReferenceIdeal := hReferenceIdeal) (hPre_in_rows_and_finite := hPre_in_rows_and_finite)
    ∧ quiescent_Coarse (hCoarse := hCoarse)
    ∧ quiescent_CoarseIdeal (hCoarseIdeal := hCoarseIdeal)
    ∧ quiescent_CoarseIdeal_pre_finite (hCoarseIdeal := hCoarseIdeal) (hPre_finite := hPre_finite)
    ∧ quiescent_CoarseReferenceIdeal (hCoarseReferenceIdeal := hCoarseReferenceIdeal)
    ∧ quiescent_CoarseReferenceIdeal_pre_finite (hCoarseReferenceIdeal := hCoarseReferenceIdeal) (hPre_finite := hPre_finite)
    ∧ preserves_Kernel_KernelIdeal
    ∧ algebraic_KernelIdeal_ReferenceIdeal_pre_in_rows_and_finite (hKernelIdeal := hKernelIdeal) (hReferenceIdeal := hReferenceIdeal) (hPre_in_rows_and_finite := hPre_in_rows_and_finite)
    ∧ preserves_Coarse_CoarseIdeal
    ∧ algebraic_CoarseIdeal_CoarseReferenceIdeal_pre_finite (hCoarseIdeal := hCoarseIdeal) (hCoarseReferenceIdeal := hCoarseReferenceIdeal) (hPre_finite := hPre_finite)
-- ==== Pre_finite.lean ====
abbrev S2x128x16x16 : Shape := ⟨4, ![2, 128, 16, 16]⟩
abbrev S_ : Shape := ⟨0, ![]⟩

class Facts : Prop where
  bcast_S_S2x128x16x16 : S_.BroadcastsInDim S2x128x16x16 (![] : Fin 0 → Fin S2x128x16x16.rank)
  reducesTo_S2x128x16x16_S_d0_1_2_3 : S2x128x16x16.ReducesTo [0, 1, 2, 3] S_
  h_S_ : 0 < S_.numel

variable [Facts]

def fn {F : FTy → Type} [FloatOps F] (main_arg0 : FVec F S2x128x16x16 .f32) (main_arg1 : FVec F S2x128x16x16 .f32) (main_arg2 : FVec F S2x128x16x16 .f32) : IVec S_ 1 :=
  let main_v0 : FVec F S2x128x16x16 .f32 := Host.absf main_arg0
  let main_cst : FVec F S_ .f32 := constant S_ .f32 0x7F800000#32
  let main_v1 : FVec F S2x128x16x16 .f32 := broadcastInDim S2x128x16x16 ![] bcast_S_S2x128x16x16 main_cst
  let main_v2 : IVec S2x128x16x16 1 := cmpf .olt main_v0 main_v1
  let main_c : IVec S_ 1 := constantI S_ 1 1#1
  let main_v3 : IVec S_ 1 := (fun x v => Host.reduce IntOp.andi x v reducesTo_S2x128x16x16_S_d0_1_2_3 h_S_) main_v2 main_c
  let main_v4 : FVec F S2x128x16x16 .f32 := Host.absf main_arg1
  let main_cst_0 : FVec F S_ .f32 := constant S_ .f32 0x7F800000#32
  let main_v5 : FVec F S2x128x16x16 .f32 := broadcastInDim S2x128x16x16 ![] bcast_S_S2x128x16x16 main_cst_0
  let main_v6 : IVec S2x128x16x16 1 := cmpf .olt main_v4 main_v5
  let main_c_1 : IVec S_ 1 := constantI S_ 1 1#1
  let main_v7 : IVec S_ 1 := (fun x v => Host.reduce IntOp.andi x v reducesTo_S2x128x16x16_S_d0_1_2_3 h_S_) main_v6 main_c_1
  let main_v8 : IVec S_ 1 := andi main_v3 main_v7
  main_v8
-- ==== Pre_in_rows.lean ====
abbrev S2x128x64x64 : Shape := ⟨4, ![2, 128, 64, 64]⟩
abbrev S2x128x32x32 : Shape := ⟨4, ![2, 128, 32, 32]⟩
abbrev S3 : Shape := ⟨1, ![3]⟩
abbrev S16x256x16 : Shape := ⟨3, ![16, 256, 16]⟩
abbrev S16 : Shape := ⟨1, ![16]⟩
abbrev S16x1x1 : Shape := ⟨3, ![16, 1, 1]⟩
abbrev S_ : Shape := ⟨0, ![]⟩

class Facts : Prop where
  bcast_S16_S16x1x1_0 : S16.BroadcastsInDim S16x1x1 (![0] : Fin 1 → Fin S16x1x1.rank)
  bcast_S_S16x1x1 : S_.BroadcastsInDim S16x1x1 (![] : Fin 0 → Fin S16x1x1.rank)
  bcast_S16x1x1_S16x256x16_0_1_2 : S16x1x1.BroadcastsInDim S16x256x16 (![0, 1, 2] : Fin 3 → Fin S16x256x16.rank)
  bcast_S_S16x256x16 : S_.BroadcastsInDim S16x256x16 (![] : Fin 0 → Fin S16x256x16.rank)
  reducesTo_S16x256x16_S_d0_1_2 : S16x256x16.ReducesTo [0, 1, 2] S_
  h_S_ : 0 < S_.numel

variable [Facts]

def fn {F : FTy → Type} [FloatOps F] (main_arg0 : FVec F S2x128x64x64 .f32) (main_arg1 : FVec F S2x128x32x32 .f32) (main_arg2 : FVec F S2x128x64x64 .f32) (main_arg3 : FVec F S2x128x32x32 .f32) (main_arg4 : FVec F S2x128x64x64 .f32) (main_arg5 : FVec F S2x128x32x32 .f32) (main_arg6 : FVec F S3 .f32) (main_arg7 : FVec F S16x256x16 .f32) (main_arg8 : IVec S16x256x16 32) : IVec S_ 1 :=
  let main_v0 : IVec S16 32 := iotaInDim S16 32 0
  let main_v1 : IVec S16x1x1 32 := broadcastInDim S16x1x1 ![0] bcast_S16_S16x1x1_0 main_v0
  let main_c : IVec S_ 32 := constantI S_ 32 256#32
  let main_v2 : IVec S16x1x1 32 := broadcastInDim S16x1x1 ![] bcast_S_S16x1x1 main_c
  let main_v3 : IVec S16x1x1 32 := muli main_v1 main_v2
  let main_v4 : IVec S16x256x16 32 := broadcastInDim S16x256x16 ![0, 1, 2] bcast_S16x1x1_S16x256x16_0_1_2 main_v3
  let main_v5 : IVec S16x256x16 32 := subi main_arg8 main_v4
  let main_c_0 : IVec S_ 32 := constantI S_ 32 0#32
  let main_v6 : IVec S16x256x16 32 := broadcastInDim S16x256x16 ![] bcast_S_S16x256x16 main_c_0
  let main_v7 : IVec S16x256x16 1 := cmpi .sge main_v5 main_v6
  let main_c_1 : IVec S_ 32 := constantI S_ 32 256#32
  let main_v8 : IVec S16x256x16 32 := broadcastInDim S16x256x16 ![] bcast_S_S16x256x16 main_c_1
  let main_v9 : IVec S16x256x16 1 := cmpi .slt main_v5 main_v8
  let main_v10 : IVec S16x256x16 1 := andi main_v7 main_v9
  let main_c_2 : IVec S_ 1 := constantI S_ 1 1#1
  let main_v11 : IVec S_ 1 := (fun x v => Host.reduce IntOp.andi x v reducesTo_S16x256x16_S_d0_1_2 h_S_) main_v10 main_c_2
  main_v11
-- ==== Pre_in_rows_and_finite.lean ====
abbrev S2x128x64x64 : Shape := ⟨4, ![2, 128, 64, 64]⟩
abbrev S2x128x32x32 : Shape := ⟨4, ![2, 128, 32, 32]⟩
abbrev S3 : Shape := ⟨1, ![3]⟩
abbrev S16x256x16 : Shape := ⟨3, ![16, 256, 16]⟩
abbrev S16 : Shape := ⟨1, ![16]⟩
abbrev S16x1x1 : Shape := ⟨3, ![16, 1, 1]⟩
abbrev S_ : Shape := ⟨0, ![]⟩

class Facts : Prop where
  bcast_S16_S16x1x1_0 : S16.BroadcastsInDim S16x1x1 (![0] : Fin 1 → Fin S16x1x1.rank)
  bcast_S_S16x1x1 : S_.BroadcastsInDim S16x1x1 (![] : Fin 0 → Fin S16x1x1.rank)
  bcast_S16x1x1_S16x256x16_0_1_2 : S16x1x1.BroadcastsInDim S16x256x16 (![0, 1, 2] : Fin 3 → Fin S16x256x16.rank)
  bcast_S_S16x256x16 : S_.BroadcastsInDim S16x256x16 (![] : Fin 0 → Fin S16x256x16.rank)
  reducesTo_S16x256x16_S_d0_1_2 : S16x256x16.ReducesTo [0, 1, 2] S_
  h_S_ : 0 < S_.numel
  bcast_S_S2x128x32x32 : S_.BroadcastsInDim S2x128x32x32 (![] : Fin 0 → Fin S2x128x32x32.rank)
  reducesTo_S2x128x32x32_S_d0_1_2_3 : S2x128x32x32.ReducesTo [0, 1, 2, 3] S_

variable [Facts]

def fn_part1 {F : FTy → Type} [FloatOps F] (main_v16 : IVec S_ 1) (main_v17 : FVec F S2x128x32x32 .f32) : IVec S_ 1 :=
  let main_cst_4 : FVec F S_ .f32 := constant S_ .f32 0x7F800000#32
  let main_v18 : FVec F S2x128x32x32 .f32 := broadcastInDim S2x128x32x32 ![] bcast_S_S2x128x32x32 main_cst_4
  let main_v19 : IVec S2x128x32x32 1 := cmpf .olt main_v17 main_v18
  let main_c_5 : IVec S_ 1 := constantI S_ 1 1#1
  let main_v20 : IVec S_ 1 := (fun x v => Host.reduce IntOp.andi x v reducesTo_S2x128x32x32_S_d0_1_2_3 h_S_) main_v19 main_c_5
  let main_v21 : IVec S_ 1 := andi main_v16 main_v20
  main_v21

def fn {F : FTy → Type} [FloatOps F] (main_arg0 : FVec F S2x128x64x64 .f32) (main_arg1 : FVec F S2x128x32x32 .f32) (main_arg2 : FVec F S2x128x64x64 .f32) (main_arg3 : FVec F S2x128x32x32 .f32) (main_arg4 : FVec F S2x128x64x64 .f32) (main_arg5 : FVec F S2x128x32x32 .f32) (main_arg6 : FVec F S3 .f32) (main_arg7 : FVec F S16x256x16 .f32) (main_arg8 : IVec S16x256x16 32) : IVec S_ 1 :=
  let main_v0 : IVec S16 32 := iotaInDim S16 32 0
  let main_v1 : IVec S16x1x1 32 := broadcastInDim S16x1x1 ![0] bcast_S16_S16x1x1_0 main_v0
  let main_c : IVec S_ 32 := constantI S_ 32 256#32
  let main_v2 : IVec S16x1x1 32 := broadcastInDim S16x1x1 ![] bcast_S_S16x1x1 main_c
  let main_v3 : IVec S16x1x1 32 := muli main_v1 main_v2
  let main_v4 : IVec S16x256x16 32 := broadcastInDim S16x256x16 ![0, 1, 2] bcast_S16x1x1_S16x256x16_0_1_2 main_v3
  let main_v5 : IVec S16x256x16 32 := subi main_arg8 main_v4
  let main_c_0 : IVec S_ 32 := constantI S_ 32 0#32
  let main_v6 : IVec S16x256x16 32 := broadcastInDim S16x256x16 ![] bcast_S_S16x256x16 main_c_0
  let main_v7 : IVec S16x256x16 1 := cmpi .sge main_v5 main_v6
  let main_c_1 : IVec S_ 32 := constantI S_ 32 256#32
  let main_v8 : IVec S16x256x16 32 := broadcastInDim S16x256x16 ![] bcast_S_S16x256x16 main_c_1
  let main_v9 : IVec S16x256x16 1 := cmpi .slt main_v5 main_v8
  let main_v10 : IVec S16x256x16 1 := andi main_v7 main_v9
  let main_c_2 : IVec S_ 1 := constantI S_ 1 1#1
  let main_v11 : IVec S_ 1 := (fun x v => Host.reduce IntOp.andi x v reducesTo_S16x256x16_S_d0_1_2 h_S_) main_v10 main_c_2
  let main_v12 : FVec F S2x128x32x32 .f32 := Host.absf main_arg1
  let main_cst : FVec F S_ .f32 := constant S_ .f32 0x7F800000#32
  let main_v13 : FVec F S2x128x32x32 .f32 := broadcastInDim S2x128x32x32 ![] bcast_S_S2x128x32x32 main_cst
  let main_v14 : IVec S2x128x32x32 1 := cmpf .olt main_v12 main_v13
  let main_c_3 : IVec S_ 1 := constantI S_ 1 1#1
  let main_v15 : IVec S_ 1 := (fun x v => Host.reduce IntOp.andi x v reducesTo_S2x128x32x32_S_d0_1_2_3 h_S_) main_v14 main_c_3
  let main_v16 : IVec S_ 1 := andi main_v11 main_v15
  let main_v17 : FVec F S2x128x32x32 .f32 := Host.absf main_arg3
  fn_part1 (F := F) main_v16 main_v17
-- ==== Kernel.lean ====
abbrev S2x128x64x64 : Shape := ⟨4, ![2, 128, 64, 64]⟩
abbrev S2x128x32x32 : Shape := ⟨4, ![2, 128, 32, 32]⟩
abbrev S3 : Shape := ⟨1, ![3]⟩
abbrev S16x256x16 : Shape := ⟨3, ![16, 256, 16]⟩
abbrev S2x8x16x16x2x16x2 : Shape := ⟨7, ![2, 8, 16, 16, 2, 16, 2]⟩
abbrev S2x8x16x16x2x2x16 : Shape := ⟨7, ![2, 8, 16, 16, 2, 2, 16]⟩
abbrev S4096x64 : Shape := ⟨2, ![4096, 64]⟩
abbrev S4096x128 : Shape := ⟨2, ![4096, 128]⟩
abbrev S65536 : Shape := ⟨1, ![65536]⟩
abbrev S65536x128 : Shape := ⟨2, ![65536, 128]⟩
abbrev S128 : Shape := ⟨1, ![128]⟩
abbrev S128x128 : Shape := ⟨2, ![128, 128]⟩
abbrev S_ : Shape := ⟨0, ![]⟩
abbrev S16x256x4x16 : Shape := ⟨4, ![16, 256, 4, 16]⟩
abbrev S16x256x16x128 : Shape := ⟨4, ![16, 256, 16, 128]⟩
abbrev S1x64x4x16 : Shape := ⟨4, ![1, 64, 4, 16]⟩
abbrev S1x64x16x128 : Shape := ⟨4, ![1, 64, 16, 128]⟩
abbrev S1x64x16 : Shape := ⟨3, ![1, 64, 16]⟩
abbrev S64x4x16 : Shape := ⟨3, ![64, 4, 16]⟩
abbrev S64x16x128 : Shape := ⟨3, ![64, 16, 128]⟩
abbrev S64x16x64 : Shape := ⟨3, ![64, 16, 64]⟩
abbrev S64x16x4x16 : Shape := ⟨4, ![64, 16, 4, 16]⟩
abbrev S64x64x16 : Shape := ⟨3, ![64, 64, 16]⟩
abbrev S64x4x64 : Shape := ⟨3, ![64, 4, 64]⟩
abbrev S64x4 : Shape := ⟨2, ![64, 4]⟩
abbrev S64x4x1 : Shape := ⟨3, ![64, 4, 1]⟩
abbrev S1 : Shape := ⟨1, ![1]⟩
abbrev S64x16 : Shape := ⟨2, ![64, 16]⟩
abbrev S64x1x16 : Shape := ⟨3, ![64, 1, 16]⟩
abbrev S16x1024x16 : Shape := ⟨3, ![16, 1024, 16]⟩
abbrev S2x8x16x32x2x32x2 : Shape := ⟨7, ![2, 8, 16, 32, 2, 32, 2]⟩
abbrev S2x8x32x32x2x2x16 : Shape := ⟨7, ![2, 8, 32, 32, 2, 2, 16]⟩
abbrev S16384x64 : Shape := ⟨2, ![16384, 64]⟩
abbrev S16384x128 : Shape := ⟨2, ![16384, 128]⟩
abbrev S262144 : Shape := ⟨1, ![262144]⟩
abbrev S262144x128 : Shape := ⟨2, ![262144, 128]⟩
abbrev S16x1024x4x16 : Shape := ⟨4, ![16, 1024, 4, 16]⟩
abbrev S16x16x2x16x2x4x16 : Shape := ⟨7, ![16, 16, 2, 16, 2, 4, 16]⟩
abbrev S16x16x16x2x2x4x16 : Shape := ⟨7, ![16, 16, 16, 2, 2, 4, 16]⟩
abbrev S16x1024x16x128 : Shape := ⟨4, ![16, 1024, 16, 128]⟩
abbrev S1x128x4x16 : Shape := ⟨4, ![1, 128, 4, 16]⟩
abbrev S1x128x16x128 : Shape := ⟨4, ![1, 128, 16, 128]⟩
abbrev S1x128x16 : Shape := ⟨3, ![1, 128, 16]⟩
abbrev S128x4x16 : Shape := ⟨3, ![128, 4, 16]⟩
abbrev S128x16x128 : Shape := ⟨3, ![128, 16, 128]⟩
abbrev S128x16x64 : Shape := ⟨3, ![128, 16, 64]⟩
abbrev S128x16x4x16 : Shape := ⟨4, ![128, 16, 4, 16]⟩
abbrev S128x64x16 : Shape := ⟨3, ![128, 64, 16]⟩
abbrev S128x4x64 : Shape := ⟨3, ![128, 4, 64]⟩
abbrev S128x4 : Shape := ⟨2, ![128, 4]⟩
abbrev S128x4x1 : Shape := ⟨3, ![128, 4, 1]⟩
abbrev S128x16 : Shape := ⟨2, ![128, 16]⟩
abbrev S128x1x16 : Shape := ⟨3, ![128, 1, 16]⟩
abbrev S2x8x16x16x2x2x2x2x16 : Shape := ⟨9, ![2, 8, 16, 16, 2, 2, 2, 2, 16]⟩
abbrev S2x16x2x2x16x2x2x8x16 : Shape := ⟨9, ![2, 16, 2, 2, 16, 2, 2, 8, 16]⟩
abbrev S2x4096x8x16 : Shape := ⟨4, ![2, 4096, 8, 16]⟩

abbrev nBuf : Table → Nat
  | .hbm => 45
  | .local .tc .vmem => 20
  | .local .tc .smem => 2
  | .local .scVector .vmem => 4
  | _ => 0

abbrev bufTy : (tb : Table) → Fin (nBuf tb) → BufTy
  | .hbm, ⟨0, _⟩ => ⟨S2x128x64x64, .f32⟩
  | .hbm, ⟨1, _⟩ => ⟨S2x128x32x32, .f32⟩
  | .hbm, ⟨2, _⟩ => ⟨S2x128x64x64, .f32⟩
  | .hbm, ⟨3, _⟩ => ⟨S2x128x32x32, .f32⟩
  | .hbm, ⟨4, _⟩ => ⟨S2x128x64x64, .f32⟩
  | .hbm, ⟨5, _⟩ => ⟨S2x128x32x32, .f32⟩
  | .hbm, ⟨6, _⟩ => ⟨S3, .f32⟩
  | .hbm, ⟨7, _⟩ => ⟨S16x256x16, .f32⟩
  | .hbm, ⟨8, _⟩ => ⟨S16x256x16, .i32⟩
  | .hbm, ⟨9, _⟩ => ⟨S2x8x16x16x2x16x2, .f32⟩
  | .hbm, ⟨10, _⟩ => ⟨S2x8x16x16x2x2x16, .f32⟩
  | .hbm, ⟨11, _⟩ => ⟨S4096x64, .f32⟩
  | .hbm, ⟨12, _⟩ => ⟨S2x8x16x16x2x16x2, .f32⟩
  | .hbm, ⟨13, _⟩ => ⟨S2x8x16x16x2x2x16, .f32⟩
  | .hbm, ⟨14, _⟩ => ⟨S4096x64, .f32⟩
  | .hbm, ⟨15, _⟩ => ⟨S4096x128, .f32⟩
  | .hbm, ⟨16, _⟩ => ⟨S65536, .i32⟩
  | .hbm, ⟨17, _⟩ => ⟨S65536x128, .f32⟩
  | .hbm, ⟨18, _⟩ => ⟨S2x8x16x16x2x16x2, .f32⟩
  | .hbm, ⟨19, _⟩ => ⟨S2x8x16x16x2x2x16, .f32⟩
  | .hbm, ⟨20, _⟩ => ⟨S16x256x4x16, .f32⟩
  | .hbm, ⟨21, _⟩ => ⟨S16x256x16x128, .f32⟩
  | .hbm, ⟨22, _⟩ => ⟨S16x256x4x16, .f32⟩
  | .hbm, ⟨23, _⟩ => ⟨S16x256x4x16, .i32⟩
  | .hbm, ⟨24, _⟩ => ⟨S16x1024x16, .f32⟩
  | .hbm, ⟨25, _⟩ => ⟨S2x8x16x32x2x32x2, .f32⟩
  | .hbm, ⟨26, _⟩ => ⟨S2x8x32x32x2x2x16, .f32⟩
  | .hbm, ⟨27, _⟩ => ⟨S16384x64, .f32⟩
  | .hbm, ⟨28, _⟩ => ⟨S2x8x16x32x2x32x2, .f32⟩
  | .hbm, ⟨29, _⟩ => ⟨S2x8x32x32x2x2x16, .f32⟩
  | .hbm, ⟨30, _⟩ => ⟨S16384x64, .f32⟩
  | .hbm, ⟨31, _⟩ => ⟨S16384x128, .f32⟩
  | .hbm, ⟨32, _⟩ => ⟨S262144, .i32⟩
  | .hbm, ⟨33, _⟩ => ⟨S262144x128, .f32⟩
  | .hbm, ⟨34, _⟩ => ⟨S2x8x16x32x2x32x2, .f32⟩
  | .hbm, ⟨35, _⟩ => ⟨S2x8x32x32x2x2x16, .f32⟩
  | .hbm, ⟨36, _⟩ => ⟨S16x1024x4x16, .f32⟩
  | .hbm, ⟨37, _⟩ => ⟨S16x16x2x16x2x4x16, .f32⟩
  | .hbm, ⟨38, _⟩ => ⟨S16x16x16x2x2x4x16, .f32⟩
  | .hbm, ⟨39, _⟩ => ⟨S16x1024x4x16, .f32⟩
  | .hbm, ⟨40, _⟩ => ⟨S16x1024x16x128, .f32⟩
  | .hbm, ⟨41, _⟩ => ⟨S16x1024x4x16, .f32⟩
  | .hbm, ⟨42, _⟩ => ⟨S2x8x16x16x2x2x2x2x16, .f32⟩
  | .hbm, ⟨43, _⟩ => ⟨S2x16x2x2x16x2x2x8x16, .f32⟩
  | .hbm, ⟨44, _⟩ => ⟨S2x4096x8x16, .f32⟩
  | .local .tc .vmem, ⟨0, _⟩ => ⟨S1x64x4x16, .f32⟩
  | .local .tc .vmem, ⟨1, _⟩ => ⟨S1x64x4x16, .f32⟩
  | .local .tc .vmem, ⟨2, _⟩ => ⟨S1x64x16x128, .f32⟩
  | .local .tc .vmem, ⟨3, _⟩ => ⟨S1x64x16x128, .f32⟩
  | .local .tc .vmem, ⟨4, _⟩ => ⟨S1x64x16, .f32⟩
  | .local .tc .vmem, ⟨5, _⟩ => ⟨S1x64x16, .f32⟩
  | .local .tc .vmem, ⟨6, _⟩ => ⟨S1x64x16, .i32⟩
  | .local .tc .vmem, ⟨7, _⟩ => ⟨S1x64x16, .i32⟩
  | .local .tc .vmem, ⟨8, _⟩ => ⟨S1x64x4x16, .f32⟩
  | .local .tc .vmem, ⟨9, _⟩ => ⟨S1x64x4x16, .f32⟩
  | .local .tc .vmem, ⟨10, _⟩ => ⟨S1x64x4x16, .i32⟩
  | .local .tc .vmem, ⟨11, _⟩ => ⟨S1x64x4x16, .i32⟩
  | .local .tc .vmem, ⟨12, _⟩ => ⟨S1x128x4x16, .f32⟩
  | .local .tc .vmem, ⟨13, _⟩ => ⟨S1x128x4x16, .f32⟩
  | .local .tc .vmem, ⟨14, _⟩ => ⟨S1x128x16x128, .f32⟩
  | .local .tc .vmem, ⟨15, _⟩ => ⟨S1x128x16x128, .f32⟩
  | .local .tc .vmem, ⟨16, _⟩ => ⟨S1x128x16, .f32⟩
  | .local .tc .vmem, ⟨17, _⟩ => ⟨S1x128x16, .f32⟩
  | .local .tc .vmem, ⟨18, _⟩ => ⟨S1x128x4x16, .f32⟩
  | .local .tc .vmem, ⟨19, _⟩ => ⟨S1x128x4x16, .f32⟩
  | .local .tc .smem, ⟨0, _⟩ => ⟨S3, .f32⟩
  | .local .tc .smem, ⟨1, _⟩ => ⟨S3, .f32⟩
  | .local .scVector .vmem, ⟨0, _⟩ => ⟨S128, .i32⟩
  | .local .scVector .vmem, ⟨1, _⟩ => ⟨S128x128, .f32⟩
  | .local .scVector .vmem, ⟨2, _⟩ => ⟨S128, .i32⟩
  | .local .scVector .vmem, ⟨3, _⟩ => ⟨S128x128, .f32⟩
  | _, _ => ⟨S2x128x64x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | .smem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 28 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => false
  | ⟨17, _⟩ => false
  | ⟨18, _⟩ => false
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTables nBuf rfl bufTy 4 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v6_scv : Ref sig .scVector := ⟨.hbm, 15, rfl⟩
abbrev main_v7_scv : Ref sig .scVector := ⟨.hbm, 16, rfl⟩
abbrev main_v8_scv : Ref sig .scVector := ⟨.hbm, 17, rfl⟩
abbrev main_v21_scv : Ref sig .scVector := ⟨.hbm, 31, rfl⟩
abbrev main_v22_scv : Ref sig .scVector := ⟨.hbm, 32, rfl⟩
abbrev main_v23_scv : Ref sig .scVector := ⟨.hbm, 33, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg5_0 : Ref sig .tc := ⟨.vmem, 8, rfl⟩
abbrev cc1_stg5_1 : Ref sig .tc := ⟨.vmem, 9, rfl⟩
abbrev cc1_stg6_0 : Ref sig .tc := ⟨.vmem, 10, rfl⟩
abbrev cc1_stg6_1 : Ref sig .tc := ⟨.vmem, 11, rfl⟩
abbrev cc3_stg0_0 : Ref sig .tc := ⟨.vmem, 12, rfl⟩
abbrev cc3_stg0_1 : Ref sig .tc := ⟨.vmem, 13, rfl⟩
abbrev cc3_stg1_0 : Ref sig .tc := ⟨.vmem, 14, rfl⟩
abbrev cc3_stg1_1 : Ref sig .tc := ⟨.vmem, 15, rfl⟩
abbrev cc3_stg2_0 : Ref sig .tc := ⟨.vmem, 16, rfl⟩
abbrev cc3_stg2_1 : Ref sig .tc := ⟨.vmem, 17, rfl⟩
abbrev cc3_stg4_0 : Ref sig .tc := ⟨.vmem, 18, rfl⟩
abbrev cc3_stg4_1 : Ref sig .tc := ⟨.vmem, 19, rfl⟩
abbrev cc1_stg4_0 : Ref sig .tc := ⟨.smem, 0, rfl⟩
abbrev cc3_stg3_0 : Ref sig .tc := ⟨.smem, 1, rfl⟩
abbrev cc0_scratch0 : Ref sig .scVector := ⟨.vmem, 0, rfl⟩
abbrev cc0_scratch1 : Ref sig .scVector := ⟨.vmem, 1, rfl⟩
abbrev cc2_scratch0 : Ref sig .scVector := ⟨.vmem, 2, rfl⟩
abbrev cc2_scratch1 : Ref sig .scVector := ⟨.vmem, 3, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem5_0 : DmaSem sig := 12
abbrev cc1_sem5_1 : DmaSem sig := 13
abbrev cc1_sem6_0 : DmaSem sig := 14
abbrev cc1_sem6_1 : DmaSem sig := 15
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c16_i32 : BitVec 32 := 16#32
  let v3 : BitVec 32 := Scalar.addi c0_i32_0 c16_i32
  let c1_i32 : BitVec 32 := 1#32
  ⟨c0_i32_0, v3, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_0 : BitVec 32 := 0#32
  let c1_i32 : BitVec 32 := 1#32
  let arg8 : BitVec 32 := Scf.iv c0_i32_0 c1_i32 k0_t1
  let c128_i32 : BitVec 32 := 128#32
  let v4 : BitVec 32 := Scalar.muli arg8 c128_i32
  let v5 : BitVec 32 := Scalar.addi v2 v4
  ![v5.toNat]
def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_0 : BitVec 32 := 0#32
  let c1_i32 : BitVec 32 := 1#32
  let arg8 : BitVec 32 := Scf.iv c0_i32_0 c1_i32 k0_t1
  let c128_i32 : BitVec 32 := 128#32
  let v4 : BitVec 32 := Scalar.muli arg8 c128_i32
  let v5 : BitVec 32 := Scalar.addi v2 v4
  let c0_i32_6_r1 : BitVec 32 := 0#32
  ![v5.toNat, 0]
abbrev grid1 : Pipeline.Grid := ⟨2, ![16, 4], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_6 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x64x4x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x64x16x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x64x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x64x16 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 1 → Memref sig .tc .smem S3 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x64x4x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x64x4x16 .i32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev grid2 : Pipeline.Grid := ⟨2, ![2, 16], ![false, false]⟩

@[reducible] def k2_t1_loop : Scf.Loop 32 :=
  let c0_i32_0 : BitVec 32 := 0#32
  let c64_i32 : BitVec 32 := 64#32
  let v3 : BitVec 32 := Scalar.addi c0_i32_0 c64_i32
  let c1_i32 : BitVec 32 := 1#32
  ⟨c0_i32_0, v3, c1_i32⟩
def k2_off1 (i : grid2.Coords) (k2_t1 : Fin k2_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  let c0_i32_0 : BitVec 32 := 0#32
  let c1_i32 : BitVec 32 := 1#32
  let arg8 : BitVec 32 := Scf.iv c0_i32_0 c1_i32 k2_t1
  let c128_i32 : BitVec 32 := 128#32
  let v4 : BitVec 32 := Scalar.muli arg8 c128_i32
  let v5 : BitVec 32 := Scalar.addi v2 v4
  ![v5.toNat]
def k2_off2 (i : grid2.Coords) (k2_t1 : Fin k2_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  let c0_i32_0 : BitVec 32 := 0#32
  let c1_i32 : BitVec 32 := 1#32
  let arg8 : BitVec 32 := Scf.iv c0_i32_0 c1_i32 k2_t1
  let c128_i32 : BitVec 32 := 128#32
  let v4 : BitVec 32 := Scalar.muli arg8 c128_i32
  let v5 : BitVec 32 := Scalar.addi v2 v4
  let c0_i32_6_r1 : BitVec 32 := 0#32
  ![v5.toNat, 0]
abbrev grid3 : Pipeline.Grid := ⟨2, ![16, 8], ![false, false]⟩

def cc3_transform_0 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc3_transform_1 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_3 (i : grid3.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc3_transform_4 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage3_0 : Fin 2 → Memref sig .tc .vmem S1x128x4x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x128x16x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x128x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 1 → Memref sig .tc .smem S3 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 2 → Memref sig .tc .vmem S1x128x4x16 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S2x128x64x64 : Shape := ⟨4, ![2, 128, 64, 64]⟩
abbrev S2x128x32x32 : Shape := ⟨4, ![2, 128, 32, 32]⟩
abbrev S3 : Shape := ⟨1, ![3]⟩
abbrev S16x256x16 : Shape := ⟨3, ![16, 256, 16]⟩
abbrev S4 : Shape := ⟨1, ![4]⟩
abbrev S_ : Shape := ⟨0, ![]⟩
abbrev S16x256x16x1 : Shape := ⟨4, ![16, 256, 16, 1]⟩
abbrev S1x1x1x4 : Shape := ⟨4, ![1, 1, 1, 4]⟩
abbrev S16x256x16x4 : Shape := ⟨4, ![16, 256, 16, 4]⟩
abbrev S16x256x64 : Shape := ⟨3, ![16, 256, 64]⟩
abbrev S16x16x1024 : Shape := ⟨3, ![16, 16, 1024]⟩
abbrev S16x1024x16 : Shape := ⟨3, ![16, 1024, 16]⟩
abbrev S16384x16 : Shape := ⟨2, ![16384, 16]⟩
abbrev S262144 : Shape := ⟨1, ![262144]⟩
abbrev S262144x1 : Shape := ⟨2, ![262144, 1]⟩
abbrev S262144x16 : Shape := ⟨2, ![262144, 16]⟩
abbrev S16x256x64x16 : Shape := ⟨4, ![16, 256, 64, 16]⟩
abbrev S16x16x16x2x16x2 : Shape := ⟨6, ![16, 16, 16, 2, 16, 2]⟩
abbrev S16x16x16x2x2x16 : Shape := ⟨6, ![16, 16, 16, 2, 2, 16]⟩
abbrev S16x256x4x16 : Shape := ⟨4, ![16, 256, 4, 16]⟩
abbrev S16x256x4x64 : Shape := ⟨4, ![16, 256, 4, 64]⟩
abbrev S16x256x4 : Shape := ⟨3, ![16, 256, 4]⟩
abbrev S16x256x4x1 : Shape := ⟨4, ![16, 256, 4, 1]⟩
abbrev S16x256x1x64 : Shape := ⟨4, ![16, 256, 1, 64]⟩
abbrev S16x256x4x16x1 : Shape := ⟨5, ![16, 256, 4, 16, 1]⟩
abbrev S1 : Shape := ⟨1, ![1]⟩
abbrev S1x1x1x1x1 : Shape := ⟨5, ![1, 1, 1, 1, 1]⟩
abbrev S16x256x1x16 : Shape := ⟨4, ![16, 256, 1, 16]⟩
abbrev S16x16x2x16x2x16 : Shape := ⟨6, ![16, 16, 2, 16, 2, 16]⟩
abbrev S16x1024x16x1 : Shape := ⟨4, ![16, 1024, 16, 1]⟩
abbrev S16x1024x16x4 : Shape := ⟨4, ![16, 1024, 16, 4]⟩
abbrev S16x1024x64 : Shape := ⟨3, ![16, 1024, 64]⟩
abbrev S16x16x4096 : Shape := ⟨3, ![16, 16, 4096]⟩
abbrev S16x4096x16 : Shape := ⟨3, ![16, 4096, 16]⟩
abbrev S65536x16 : Shape := ⟨2, ![65536, 16]⟩
abbrev S1048576 : Shape := ⟨1, ![1048576]⟩
abbrev S1048576x1 : Shape := ⟨2, ![1048576, 1]⟩
abbrev S1048576x16 : Shape := ⟨2, ![1048576, 16]⟩
abbrev S16x1024x64x16 : Shape := ⟨4, ![16, 1024, 64, 16]⟩
abbrev S16x16x32x2x32x2 : Shape := ⟨6, ![16, 16, 32, 2, 32, 2]⟩
abbrev S16x32x32x2x2x16 : Shape := ⟨6, ![16, 32, 32, 2, 2, 16]⟩
abbrev S16x1024x4x16 : Shape := ⟨4, ![16, 1024, 4, 16]⟩
abbrev S16x1024x4x64 : Shape := ⟨4, ![16, 1024, 4, 64]⟩
abbrev S16x1024x4 : Shape := ⟨3, ![16, 1024, 4]⟩
abbrev S16x1024x4x1 : Shape := ⟨4, ![16, 1024, 4, 1]⟩
abbrev S16x1024x1x16 : Shape := ⟨4, ![16, 1024, 1, 16]⟩
abbrev S16x32x2x32x2x16 : Shape := ⟨6, ![16, 32, 2, 32, 2, 16]⟩
abbrev S2x8x4096x16 : Shape := ⟨4, ![2, 8, 4096, 16]⟩
abbrev S2x4096x8x16 : Shape := ⟨4, ![2, 4096, 8, 16]⟩

abbrev nBuf : Space → Nat
  | .hbm => 199
  | .vmem => 0
  | .smem => 0
  | _ => 0

abbrev hbmTy0_0 (i : Nat) : BufTy := match i % 128 with
  | 0 => ⟨S2x128x64x64, .f32⟩
  | 1 => ⟨S2x128x32x32, .f32⟩
  | 2 => ⟨S2x128x64x64, .f32⟩
  | 3 => ⟨S2x128x32x32, .f32⟩
  | 4 => ⟨S2x128x64x64, .f32⟩
  | 5 => ⟨S2x128x32x32, .f32⟩
  | 6 => ⟨S3, .f32⟩
  | 7 => ⟨S16x256x16, .f32⟩
  | 8 => ⟨S16x256x16, .i32⟩
  | 9 => ⟨S4, .i32⟩
  | 10 => ⟨S4, .i32⟩
  | 11 => ⟨S_, .f32⟩
  | 12 => ⟨S_, .f32⟩
  | 13 => ⟨S3, .f32⟩
  | 14 => ⟨S3, .f32⟩
  | 15 => ⟨S3, .f32⟩
  | 16 => ⟨S_, .f32⟩
  | 17 => ⟨S_, .f32⟩
  | 18 => ⟨S3, .f32⟩
  | 19 => ⟨S3, .f32⟩
  | 20 => ⟨S_, .i32⟩
  | 21 => ⟨S16x256x16, .i32⟩
  | 22 => ⟨S16x256x16, .i32⟩
  | 23 => ⟨S_, .i32⟩
  | 24 => ⟨S16x256x16, .i32⟩
  | 25 => ⟨S16x256x16, .i32⟩
  | 26 => ⟨S_, .i32⟩
  | 27 => ⟨S16x256x16, .i32⟩
  | 28 => ⟨S16x256x16, .i32⟩
  | 29 => ⟨S_, .i32⟩
  | 30 => ⟨S16x256x16, .i32⟩
  | 31 => ⟨S16x256x16, .i32⟩
  | 32 => ⟨S_, .i32⟩
  | 33 => ⟨S16x256x16, .i32⟩
  | 34 => ⟨S16x256x16, .i32⟩
  | 35 => ⟨S16x256x16, .i32⟩
  | 36 => ⟨S_, .i32⟩
  | 37 => ⟨S16x256x16, .i32⟩
  | 38 => ⟨S16x256x16, .i32⟩
  | 39 => ⟨S_, .i32⟩
  | 40 => ⟨S16x256x16, .i32⟩
  | 41 => ⟨S16x256x16, .i32⟩
  | 42 => ⟨S16x256x16, .i32⟩
  | 43 => ⟨S16x256x16x1, .i32⟩
  | 44 => ⟨S1x1x1x4, .i32⟩
  | 45 => ⟨S16x256x16x4, .i32⟩
  | 46 => ⟨S16x256x16x4, .i32⟩
  | 47 => ⟨S16x256x16x4, .i32⟩
  | 48 => ⟨S16x256x64, .i32⟩
  | 49 => ⟨S16x16x1024, .f32⟩
  | 50 => ⟨S16x1024x16, .f32⟩
  | 51 => ⟨S16384x16, .f32⟩
  | 52 => ⟨S262144, .i32⟩
  | 53 => ⟨S262144x1, .i32⟩
  | 54 => ⟨S262144x16, .f32⟩
  | 55 => ⟨S16x256x64x16, .f32⟩
  | 56 => ⟨S16x16x1024, .f32⟩
  | 57 => ⟨S16x1024x16, .f32⟩
  | 58 => ⟨S16384x16, .f32⟩
  | 59 => ⟨S262144, .i32⟩
  | 60 => ⟨S262144x1, .i32⟩
  | 61 => ⟨S262144x16, .f32⟩
  | 62 => ⟨S16x256x64x16, .f32⟩
  | 63 => ⟨S16x16x16x2x16x2, .f32⟩
  | 64 => ⟨S16x16x16x2x2x16, .f32⟩
  | 65 => ⟨S16x256x4x16, .f32⟩
  | 66 => ⟨S16x256x4x64, .f32⟩
  | 67 => ⟨S_, .f32⟩
  | 68 => ⟨S16x256x4x64, .f32⟩
  | 69 => ⟨S16x256x4x64, .f32⟩
  | 70 => ⟨S_, .f32⟩
  | 71 => ⟨S16x256x4, .f32⟩
  | 72 => ⟨S16x256x4x1, .f32⟩
  | 73 => ⟨S16x256x4x64, .f32⟩
  | 74 => ⟨S16x256x4x64, .f32⟩
  | 75 => ⟨S16x256x4x64, .f32⟩
  | 76 => ⟨S_, .f32⟩
  | 77 => ⟨S16x256x4, .f32⟩
  | 78 => ⟨S16x256x4x1, .f32⟩
  | 79 => ⟨S16x256x4x64, .f32⟩
  | 80 => ⟨S16x256x4x64, .f32⟩
  | 81 => ⟨S16x256x4x16, .f32⟩
  | 82 => ⟨S16x256x4x16, .f32⟩
  | 83 => ⟨S16x256x4x16, .i32⟩
  | 84 => ⟨S16x256x1x64, .i32⟩
  | 85 => ⟨S16x256x4x64, .i32⟩
  | 86 => ⟨S_, .i32⟩
  | 87 => ⟨S16x256x4x16, .i32⟩
  | 88 => ⟨S16x256x4x16, .i1⟩
  | 89 => ⟨S_, .i32⟩
  | 90 => ⟨S16x256x4x16, .i32⟩
  | 91 => ⟨S16x256x4x16, .i32⟩
  | 92 => ⟨S16x256x4x16, .i32⟩
  | 93 => ⟨S16x256x4x16x1, .i32⟩
  | 94 => ⟨S1, .i32⟩
  | 95 => ⟨S_, .i32⟩
  | 96 => ⟨S16x256x4x16x1, .i32⟩
  | 97 => ⟨S16x256x4x16x1, .i1⟩
  | 98 => ⟨S1x1x1x1x1, .i32⟩
  | 99 => ⟨S16x256x4x16x1, .i32⟩
  | 100 => ⟨S16x256x4x16x1, .i1⟩
  | 101 => ⟨S16x256x4x16x1, .i1⟩
  | 102 => ⟨S_, .i1⟩
  | 103 => ⟨S16x256x4x16, .i1⟩
  | 104 => ⟨S16x256x4x16, .i32⟩
  | 105 => ⟨S_, .i32⟩
  | 106 => ⟨S16x256x4x16, .i32⟩
  | 107 => ⟨S16x256x4x16, .i32⟩
  | 108 => ⟨S16x256x1x16, .f32⟩
  | 109 => ⟨S1, .f32⟩
  | 110 => ⟨S_, .f32⟩
  | 111 => ⟨S16x256x1x16, .f32⟩
  | 112 => ⟨S16x256x1x16, .f32⟩
  | 113 => ⟨S1, .f32⟩
  | 114 => ⟨S_, .f32⟩
  | 115 => ⟨S16x256x4x16, .f32⟩
  | 116 => ⟨S16x256x4x16, .f32⟩
  | 117 => ⟨S16x256x4x16, .f32⟩
  | 118 => ⟨S16x256x4x16, .f32⟩
  | 119 => ⟨S16x16x16x2x2x16, .f32⟩
  | 120 => ⟨S16x16x2x16x2x16, .f32⟩
  | 121 => ⟨S16x1024x16, .f32⟩
  | 122 => ⟨S16x16x16x2x2x16, .i32⟩
  | 123 => ⟨S16x16x2x16x2x16, .i32⟩
  | 124 => ⟨S16x1024x16, .i32⟩
  | 125 => ⟨S_, .i32⟩
  | 126 => ⟨S16x1024x16, .i32⟩
  | 127 => ⟨S16x1024x16, .i32⟩
  | _ => ⟨S2x128x64x64, .f32⟩

abbrev hbmTy0_1 (i : Nat) : BufTy := match i % 128 with
  | 0 => ⟨S_, .i32⟩
  | 1 => ⟨S16x1024x16, .i32⟩
  | 2 => ⟨S16x1024x16, .i32⟩
  | 3 => ⟨S_, .i32⟩
  | 4 => ⟨S16x1024x16, .i32⟩
  | 5 => ⟨S16x1024x16, .i32⟩
  | 6 => ⟨S_, .i32⟩
  | 7 => ⟨S16x1024x16, .i32⟩
  | 8 => ⟨S16x1024x16, .i32⟩
  | 9 => ⟨S_, .i32⟩
  | 10 => ⟨S16x1024x16, .i32⟩
  | 11 => ⟨S16x1024x16, .i32⟩
  | 12 => ⟨S16x1024x16, .i32⟩
  | 13 => ⟨S_, .i32⟩
  | 14 => ⟨S16x1024x16, .i32⟩
  | 15 => ⟨S16x1024x16, .i32⟩
  | 16 => ⟨S_, .i32⟩
  | 17 => ⟨S16x1024x16, .i32⟩
  | 18 => ⟨S16x1024x16, .i32⟩
  | 19 => ⟨S16x1024x16, .i32⟩
  | 20 => ⟨S16x1024x16x1, .i32⟩
  | 21 => ⟨S1x1x1x4, .i32⟩
  | 22 => ⟨S16x1024x16x4, .i32⟩
  | 23 => ⟨S16x1024x16x4, .i32⟩
  | 24 => ⟨S16x1024x16x4, .i32⟩
  | 25 => ⟨S16x1024x64, .i32⟩
  | 26 => ⟨S16x16x4096, .f32⟩
  | 27 => ⟨S16x4096x16, .f32⟩
  | 28 => ⟨S65536x16, .f32⟩
  | 29 => ⟨S1048576, .i32⟩
  | 30 => ⟨S1048576x1, .i32⟩
  | 31 => ⟨S1048576x16, .f32⟩
  | 32 => ⟨S16x1024x64x16, .f32⟩
  | 33 => ⟨S16x16x4096, .f32⟩
  | 34 => ⟨S16x4096x16, .f32⟩
  | 35 => ⟨S65536x16, .f32⟩
  | 36 => ⟨S1048576, .i32⟩
  | 37 => ⟨S1048576x1, .i32⟩
  | 38 => ⟨S1048576x16, .f32⟩
  | 39 => ⟨S16x1024x64x16, .f32⟩
  | 40 => ⟨S16x16x32x2x32x2, .f32⟩
  | 41 => ⟨S16x32x32x2x2x16, .f32⟩
  | 42 => ⟨S16x1024x4x16, .f32⟩
  | 43 => ⟨S16x1024x4x64, .f32⟩
  | 44 => ⟨S_, .f32⟩
  | 45 => ⟨S16x1024x4x64, .f32⟩
  | 46 => ⟨S16x1024x4x64, .f32⟩
  | 47 => ⟨S_, .f32⟩
  | 48 => ⟨S16x1024x4, .f32⟩
  | 49 => ⟨S16x1024x4x1, .f32⟩
  | 50 => ⟨S16x1024x4x64, .f32⟩
  | 51 => ⟨S16x1024x4x64, .f32⟩
  | 52 => ⟨S16x1024x4x64, .f32⟩
  | 53 => ⟨S_, .f32⟩
  | 54 => ⟨S16x1024x4, .f32⟩
  | 55 => ⟨S16x1024x4x1, .f32⟩
  | 56 => ⟨S16x1024x4x64, .f32⟩
  | 57 => ⟨S16x1024x4x64, .f32⟩
  | 58 => ⟨S16x1024x4x16, .f32⟩
  | 59 => ⟨S16x1024x1x16, .f32⟩
  | 60 => ⟨S1, .f32⟩
  | 61 => ⟨S_, .f32⟩
  | 62 => ⟨S16x1024x4x16, .f32⟩
  | 63 => ⟨S16x1024x4x16, .f32⟩
  | 64 => ⟨S16x1024x4x16, .f32⟩
  | 65 => ⟨S16x1024x4x16, .f32⟩
  | 66 => ⟨S16x32x32x2x2x16, .f32⟩
  | 67 => ⟨S16x32x2x32x2x16, .f32⟩
  | 68 => ⟨S16x4096x16, .f32⟩
  | 69 => ⟨S2x8x4096x16, .f32⟩
  | 70 => ⟨S2x4096x8x16, .f32⟩
  | _ => ⟨S2x128x64x64, .f32⟩

abbrev hbmTy (i : Nat) : BufTy := match i / 128 with
  | 0 => hbmTy0_0 i
  | 1 => hbmTy0_1 i
  | _ => ⟨S2x128x64x64, .f32⟩

abbrev bufTy : (tb : Table) → Fin (tcTables nBuf tb) → BufTy
  | .hbm, ⟨i, _⟩ => hbmTy i
  | _, _ => ⟨S2x128x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_2 : Ref sig .tc := ⟨.hbm, 20, rfl⟩
abbrev main_v7 : Ref sig .tc := ⟨.hbm, 21, rfl⟩
abbrev main_v8 : Ref sig .tc := ⟨.hbm, 22, rfl⟩
abbrev main_c_3 : Ref sig .tc := ⟨.hbm, 23, rfl⟩
abbrev main_v9 : Ref sig .tc := ⟨.hbm, 24, rfl⟩
abbrev main_v10 : Ref sig .tc := ⟨.hbm, 25, rfl⟩
abbrev main_c_4 : Ref sig .tc := ⟨.hbm, 26, rfl⟩
abbrev main_v11 : Ref sig .tc := ⟨.hbm, 27, rfl⟩
abbrev main_v12 : Ref sig .tc := ⟨.hbm, 28, rfl⟩
abbrev main_c_5 : Ref sig .tc := ⟨.hbm, 29, rfl⟩
abbrev main_v13 : Ref sig .tc := ⟨.hbm, 30, rfl⟩
abbrev main_v14 : Ref sig .tc := ⟨.hbm, 31, rfl⟩
abbrev main_c_6 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c_7 : Ref sig .tc := ⟨.hbm, 36, rfl⟩
abbrev main_v18 : Ref sig .tc := ⟨.hbm, 37, rfl⟩
abbrev main_v19 : Ref sig .tc := ⟨.hbm, 38, rfl⟩
abbrev main_c_8 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_call0_v0 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_call1_v0 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_9 : Ref sig .tc := ⟨.hbm, 67, rfl⟩
abbrev main_v45 : Ref sig .tc := ⟨.hbm, 68, rfl⟩
abbrev main_v46 : Ref sig .tc := ⟨.hbm, 69, rfl⟩
abbrev main_cst_10 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_11 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_values : Ref sig .tc := ⟨.hbm, 82, rfl⟩
abbrev main_indices : Ref sig .tc := ⟨.hbm, 83, rfl⟩
abbrev main_v57 : Ref sig .tc := ⟨.hbm, 84, rfl⟩
abbrev main_v58 : Ref sig .tc := ⟨.hbm, 85, rfl⟩
abbrev main_call2_c : Ref sig .tc := ⟨.hbm, 86, rfl⟩
abbrev main_call2_v0 : Ref sig .tc := ⟨.hbm, 87, rfl⟩
abbrev main_call2_v1 : Ref sig .tc := ⟨.hbm, 88, rfl⟩
abbrev main_call2_c_0 : Ref sig .tc := ⟨.hbm, 89, rfl⟩
abbrev main_call2_v2 : Ref sig .tc := ⟨.hbm, 90, rfl⟩
abbrev main_call2_v3 : Ref sig .tc := ⟨.hbm, 91, rfl⟩
abbrev main_call2_v4 : Ref sig .tc := ⟨.hbm, 92, rfl⟩
abbrev main_call2_v5 : Ref sig .tc := ⟨.hbm, 93, rfl⟩
abbrev main_call2_c_1 : Ref sig .tc := ⟨.hbm, 94, rfl⟩
abbrev main_call2_c_2 : Ref sig .tc := ⟨.hbm, 95, rfl⟩
abbrev main_call2_v6 : Ref sig .tc := ⟨.hbm, 96, rfl⟩
abbrev main_call2_v7 : Ref sig .tc := ⟨.hbm, 97, rfl⟩
abbrev main_call2_v8 : Ref sig .tc := ⟨.hbm, 98, rfl⟩
abbrev main_call2_v9 : Ref sig .tc := ⟨.hbm, 99, rfl⟩
abbrev main_call2_v10 : Ref sig .tc := ⟨.hbm, 100, rfl⟩
abbrev main_call2_v11 : Ref sig .tc := ⟨.hbm, 101, rfl⟩
abbrev main_call2_c_3 : Ref sig .tc := ⟨.hbm, 102, rfl⟩
abbrev main_call2_v12 : Ref sig .tc := ⟨.hbm, 103, rfl⟩
abbrev main_call2_v13 : Ref sig .tc := ⟨.hbm, 104, rfl⟩
abbrev main_call2_c_4 : Ref sig .tc := ⟨.hbm, 105, rfl⟩
abbrev main_call2_v14 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_c_12 : Ref sig .tc := ⟨.hbm, 125, rfl⟩
abbrev main_v77 : Ref sig .tc := ⟨.hbm, 126, rfl⟩
abbrev main_v78 : Ref sig .tc := ⟨.hbm, 127, rfl⟩
abbrev main_c_13 : Ref sig .tc := ⟨.hbm, 128, rfl⟩
abbrev main_v79 : Ref sig .tc := ⟨.hbm, 129, rfl⟩
abbrev main_v80 : Ref sig .tc := ⟨.hbm, 130, rfl⟩
abbrev main_c_14 : Ref sig .tc := ⟨.hbm, 131, rfl⟩
abbrev main_v81 : Ref sig .tc := ⟨.hbm, 132, rfl⟩
abbrev main_v82 : Ref sig .tc := ⟨.hbm, 133, rfl⟩
abbrev main_c_15 : Ref sig .tc := ⟨.hbm, 134, rfl⟩
abbrev main_v83 : Ref sig .tc := ⟨.hbm, 135, rfl⟩
abbrev main_v84 : Ref sig .tc := ⟨.hbm, 136, rfl⟩
abbrev main_c_16 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_c_17 : Ref sig .tc := ⟨.hbm, 141, rfl⟩
abbrev main_v88 : Ref sig .tc := ⟨.hbm, 142, rfl⟩
abbrev main_v89 : Ref sig .tc := ⟨.hbm, 143, rfl⟩
abbrev main_c_18 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_call3_v0 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_call4_v0 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_cst_19 : Ref sig .tc := ⟨.hbm, 172, rfl⟩
abbrev main_v115 : Ref sig .tc := ⟨.hbm, 173, rfl⟩
abbrev main_v116 : Ref sig .tc := ⟨.hbm, 174, rfl⟩
abbrev main_cst_20 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_cst_21 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_v138 : Ref sig .tc := ⟨.hbm, 198, rfl⟩

abbrev nD : Nat := 1
abbrev τ : Topo := Topo.v7x

variable {F : FTy → Type} [FloatOps F]
-- ==== Coarse.lean ====
abbrev S2x128x16x16 : Shape := ⟨4, ![2, 128, 16, 16]⟩
abbrev S2x8x16x16x16 : Shape := ⟨5, ![2, 8, 16, 16, 16]⟩
abbrev S16x256x16 : Shape := ⟨3, ![16, 256, 16]⟩
abbrev S1x256x16 : Shape := ⟨3, ![1, 256, 16]⟩
abbrev S256x16 : Shape := ⟨2, ![256, 16]⟩
abbrev S256x256 : Shape := ⟨2, ![256, 256]⟩
abbrev S256 : Shape := ⟨1, ![256]⟩
abbrev S256x1 : Shape := ⟨2, ![256, 1]⟩

abbrev nBuf : Space → Nat
  | .hbm => 14
  | .vmem => 10
  | .smem => 0
  | _ => 0

abbrev bufTy : (tb : Table) → Fin (tcTables nBuf tb) → BufTy
  | .hbm, ⟨0, _⟩ => ⟨S2x128x16x16, .f32⟩
  | .hbm, ⟨1, _⟩ => ⟨S2x128x16x16, .f32⟩
  | .hbm, ⟨2, _⟩ => ⟨S2x128x16x16, .f32⟩
  | .hbm, ⟨3, _⟩ => ⟨S2x8x16x16x16, .f32⟩
  | .hbm, ⟨4, _⟩ => ⟨S2x8x16x16x16, .f32⟩
  | .hbm, ⟨5, _⟩ => ⟨S16x256x16, .f32⟩
  | .hbm, ⟨6, _⟩ => ⟨S2x8x16x16x16, .f32⟩
  | .hbm, ⟨7, _⟩ => ⟨S2x8x16x16x16, .f32⟩
  | .hbm, ⟨8, _⟩ => ⟨S16x256x16, .f32⟩
  | .hbm, ⟨9, _⟩ => ⟨S2x8x16x16x16, .f32⟩
  | .hbm, ⟨10, _⟩ => ⟨S2x8x16x16x16, .f32⟩
  | .hbm, ⟨11, _⟩ => ⟨S16x256x16, .f32⟩
  | .hbm, ⟨12, _⟩ => ⟨S16x256x16, .f32⟩
  | .hbm, ⟨13, _⟩ => ⟨S16x256x16, .i32⟩
  | .local _ .vmem, ⟨0, _⟩ => ⟨S1x256x16, .f32⟩
  | .local _ .vmem, ⟨1, _⟩ => ⟨S1x256x16, .f32⟩
  | .local _ .vmem, ⟨2, _⟩ => ⟨S1x256x16, .f32⟩
  | .local _ .vmem, ⟨3, _⟩ => ⟨S1x256x16, .f32⟩
  | .local _ .vmem, ⟨4, _⟩ => ⟨S1x256x16, .f32⟩
  | .local _ .vmem, ⟨5, _⟩ => ⟨S1x256x16, .f32⟩
  | .local _ .vmem, ⟨6, _⟩ => ⟨S1x256x16, .f32⟩
  | .local _ .vmem, ⟨7, _⟩ => ⟨S1x256x16, .f32⟩
  | .local _ .vmem, ⟨8, _⟩ => ⟨S1x256x16, .i32⟩
  | .local _ .vmem, ⟨9, _⟩ => ⟨S1x256x16, .i32⟩
  | _, _ => ⟨S2x128x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x16 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== CoarseReferenceIdeal.lean ====
abbrev S2x128x16x16 : Shape := ⟨4, ![2, 128, 16, 16]⟩
abbrev S16x16x256 : Shape := ⟨3, ![16, 16, 256]⟩
abbrev S16x256x16 : Shape := ⟨3, ![16, 256, 16]⟩
abbrev S16x256x256 : Shape := ⟨3, ![16, 256, 256]⟩
abbrev S_ : Shape := ⟨0, ![]⟩
abbrev S16x256 : Shape := ⟨2, ![16, 256]⟩
abbrev S16x256x1 : Shape := ⟨3, ![16, 256, 1]⟩
abbrev S16 : Shape := ⟨1, ![16]⟩
abbrev S16x1x1 : Shape := ⟨3, ![16, 1, 1]⟩

abbrev nBuf : Space → Nat
  | .hbm => 34
  | .vmem => 0
  | .smem => 0
  | _ => 0

abbrev bufTy : (tb : Table) → Fin (tcTables nBuf tb) → BufTy
  | .hbm, ⟨0, _⟩ => ⟨S2x128x16x16, .f32⟩
  | .hbm, ⟨1, _⟩ => ⟨S2x128x16x16, .f32⟩
  | .hbm, ⟨2, _⟩ => ⟨S2x128x16x16, .f32⟩
  | .hbm, ⟨3, _⟩ => ⟨S16x16x256, .f32⟩
  | .hbm, ⟨4, _⟩ => ⟨S16x256x16, .f32⟩
  | .hbm, ⟨5, _⟩ => ⟨S16x16x256, .f32⟩
  | .hbm, ⟨6, _⟩ => ⟨S16x256x16, .f32⟩
  | .hbm, ⟨7, _⟩ => ⟨S16x256x256, .f32⟩
  | .hbm, ⟨8, _⟩ => ⟨S_, .f32⟩
  | .hbm, ⟨9, _⟩ => ⟨S16x256x256, .f32⟩
  | .hbm, ⟨10, _⟩ => ⟨S16x256x256, .f32⟩
  | .hbm, ⟨11, _⟩ => ⟨S_, .f32⟩
  | .hbm, ⟨12, _⟩ => ⟨S16x256, .f32⟩
  | .hbm, ⟨13, _⟩ => ⟨S16x256x1, .f32⟩
  | .hbm, ⟨14, _⟩ => ⟨S16x256x256, .f32⟩
  | .hbm, ⟨15, _⟩ => ⟨S16x256x256, .f32⟩
  | .hbm, ⟨16, _⟩ => ⟨S16x256x256, .f32⟩
  | .hbm, ⟨17, _⟩ => ⟨S_, .f32⟩
  | .hbm, ⟨18, _⟩ => ⟨S16x256, .f32⟩
  | .hbm, ⟨19, _⟩ => ⟨S16x256x1, .f32⟩
  | .hbm, ⟨20, _⟩ => ⟨S16x256x256, .f32⟩
  | .hbm, ⟨21, _⟩ => ⟨S16x256x256, .f32⟩
  | .hbm, ⟨22, _⟩ => ⟨S16x16x256, .f32⟩
  | .hbm, ⟨23, _⟩ => ⟨S16x256x16, .f32⟩
  | .hbm, ⟨24, _⟩ => ⟨S16x256x16, .f32⟩
  | .hbm, ⟨25, _⟩ => ⟨S16x256x16, .f32⟩
  | .hbm, ⟨26, _⟩ => ⟨S16x256x16, .i32⟩
  | .hbm, ⟨27, _⟩ => ⟨S16, .i32⟩
  | .hbm, ⟨28, _⟩ => ⟨S16x1x1, .i32⟩
  | .hbm, ⟨29, _⟩ => ⟨S_, .i32⟩
  | .hbm, ⟨30, _⟩ => ⟨S16x1x1, .i32⟩
  | .hbm, ⟨31, _⟩ => ⟨S16x1x1, .i32⟩
  | .hbm, ⟨32, _⟩ => ⟨S16x256x16, .i32⟩
  | .hbm, ⟨33, _⟩ => ⟨S16x256x16, .i32⟩
  | _, _ => ⟨S2x128x16x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_values : Ref sig .tc := ⟨.hbm, 25, rfl⟩
abbrev main_indices : Ref sig .tc := ⟨.hbm, 26, rfl⟩
abbrev main_v19 : Ref sig .tc := ⟨.hbm, 27, rfl⟩
abbrev main_v20 : Ref sig .tc := ⟨.hbm, 28, rfl⟩
abbrev main_c : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Proof.Attend.lean ====
/-
  The attention of one query over the tokens it is given, and a level's weight among the three, as functions of plain
  families of numbers: what every level computes at the ideal instance.
-/
module

public import Idealize.ShloMosaic.Lib.Pointwise

@[expose] public section

noncomputable section

namespace Cert.Proof.Tail

open Idealize.ShloMosaic

abbrev Re : Type := Ideal .f32

/-! ## Attention of one query -/

variable {N : ℕ}

/-- The scaled score of a key. -/
def score (q : Fin 16 → Re) (k : Fin N → Fin 16 → Re) (x : Fin N) : Re := (∑ c, q c * k x c) * Ideal.ofBits .f32 1048576000#32

/-- The softmax of the scores. -/
def att (q : Fin 16 → Re) (k : Fin N → Fin 16 → Re) (x : Fin N) : Re :=
  Ideal.div (Ideal.exp (score q k x - Finset.fold max (Ideal.ofBits .f32 4286578688#32) (score q k) Finset.univ))
    (∑ x, Ideal.exp (score q k x - Finset.fold max (Ideal.ofBits .f32 4286578688#32) (score q k) Finset.univ))

/-- The values, weighted. -/
def msg (q : Fin 16 → Re) (k v : Fin N → Fin 16 → Re) (d : Fin 16) : Re := ∑ x, att q k x * v x d

/-- A level's weight among the three. -/
def share (w : Fin 3 → Re) (i : Fin 3) : Re :=
  Ideal.div (Ideal.exp (w i - max (max (w 0) (w 1)) (w 2))) (Ideal.exp (w 0 - max (max (w 0) (w 1)) (w 2)) + Ideal.exp (w 1 - max (max (w 0) (w 1)) (w 2)) + Ideal.exp (w 2 - max (max (w 0) (w 1)) (w 2)))

end Cert.Proof.Tail

end
-- ==== Proof.Top.lean ====
/-
  Choosing the greatest again and again, the earliest of equals first, and striking each choice out with a number below all:
  the first choices are the head of the stable sort by "greater first".
-/
module

public import proofs.«01_k».proof.Proof.Attend
public import Idealize.ShloMosaic.Lib.SortPrefix

@[expose] public section

noncomputable section

namespace Cert.Proof.Tail

open Idealize.ShloMosaic

/-! ## The stable sort refined by position -/

theorem stableSort_increasing {ι : Type} [LinearOrder ι] (R R' : ι → ι → Bool) (h : ∀ k k', k < k' → R k' k = R' k' k) :
    ∀ l : List ι, l.Pairwise (· < ·) → stableSort R l = stableSort R' l
  | [], _ => rfl
  | a :: l, hl => by
    have hl' := List.pairwise_cons.1 hl
    unfold stableSort
    rw [stableSort_increasing R R' h l hl'.2]
    exact insertBefore_congr R R' a _ fun b hb => h a b (hl'.1 b ((perm_stableSort R' l).mem_iff.1 hb))

theorem sortedFrom_increasing {n : ℕ} (R R' : Fin n → Fin n → Bool) (h : ∀ k k', k < k' → R k' k = R' k' k) (k : Fin n) :
    sortedFrom R k = sortedFrom R' k := by
  have e : sortPositions n R = sortPositions n R' := stableSort_increasing R R' h _ (List.pairwise_lt_finRange n)
  exact List.get_of_eq e _

/-! ## The rounds -/

variable {N : ℕ} [NeZero N]

/-- The places of the greatest. -/
def tops (w : Fin N → Re) : Finset (Fin N) := Finset.univ.filter fun u => ∀ v, w v ≤ w u

theorem tops_nonempty (w : Fin N → Re) : (tops w).Nonempty := by
  obtain ⟨u, _, hu⟩ := Finset.exists_max_image (Finset.univ : Finset (Fin N)) w ⟨0, Finset.mem_univ _⟩
  exact ⟨u, Finset.mem_filter.2 ⟨Finset.mem_univ _, fun v => hu v (Finset.mem_univ _)⟩⟩

/-- The first place of the greatest. -/
def best (w : Fin N → Re) : Fin N := (tops w).min' (tops_nonempty w)

theorem best_max (w : Fin N → Re) (v : Fin N) : w v ≤ w (best w) := (Finset.mem_filter.1 (Finset.min'_mem _ (tops_nonempty w))).2 v

theorem best_first (w : Fin N → Re) (u : Fin N) (hu : w u = w (best w)) : best w ≤ u :=
  Finset.min'_le _ _ (Finset.mem_filter.2 ⟨Finset.mem_univ _, fun v => hu ▸ best_max w v⟩)

/-- The numbers with a place struck out. -/
def struck (low : Re) (w : Fin N → Re) (j : Fin N) (u : Fin N) : Re := if u = j then low else w u

/-- What is left before round `n`, and its choice. -/
def rest (low : Re) (a : Fin N → Re) : ℕ → Fin N → Re
  | 0 => a
  | n + 1 => struck low (rest low a n) (best (rest low a n))
def nth (low : Re) (a : Fin N → Re) (n : ℕ) : Fin N := best (rest low a n)

variable {low : Re} {a : Fin N → Re}

theorem rest_of_new (n : ℕ) (u : Fin N) (h : ∀ i < n, nth low a i ≠ u) : rest low a n u = a u := by
  induction n with
  | zero => rfl
  | succ n ih =>
    show struck low (rest low a n) (nth low a n) u = a u
    unfold struck
    rw [if_neg fun e => h n (Nat.lt_succ_self n) e.symm]
    exact ih fun i hi => h i (Nat.lt_succ_of_lt hi)

theorem rest_of_old (n i : ℕ) (hi : i < n) : rest low a n (nth low a i) = low := by
  induction n with
  | zero => omega
  | succ n ih =>
    show struck low (rest low a n) (nth low a n) (nth low a i) = low
    unfold struck
    split
    · rfl
    · rename_i hne
      exact ih (lt_of_le_of_ne (Nat.lt_succ_iff.1 hi) fun e => hne (by rw [e]))

theorem exists_new (n : ℕ) (hn : n < N) : ∃ u, ∀ i < n, nth low a i ≠ u := by
  by_contra hc
  push Not at hc
  have hs : (Finset.univ : Finset (Fin N)) ⊆ (Finset.range n).image (nth low a) := fun u _ => by
    obtain ⟨i, hi, e⟩ := hc u
    exact Finset.mem_image.2 ⟨i, Finset.mem_range.2 hi, e⟩
  have h1 := (Finset.card_le_card hs).trans Finset.card_image_le
  rw [Finset.card_univ, Fintype.card_fin, Finset.card_range] at h1
  omega

variable (hlow : ∀ u, low < a u)
include hlow

theorem nth_new (n : ℕ) (hn : n < N) (i : ℕ) (hi : i < n) : nth low a i ≠ nth low a n := fun e => by
  obtain ⟨u, hu⟩ := exists_new (low := low) (a := a) n hn
  have h1 := best_max (rest low a n) u
  rw [rest_of_new n u hu, show rest low a n (best (rest low a n)) = low from (congrArg (rest low a n) e.symm).trans (rest_of_old n i hi)] at h1
  exact absurd (hlow u) (not_lt.2 h1)

theorem rest_nth (n : ℕ) (hn : n < N) : rest low a n (nth low a n) = a (nth low a n) := rest_of_new n _ (nth_new hlow n hn)

theorem nth_max (n : ℕ) (hn : n < N) (u : Fin N) (hu : ∀ i < n, nth low a i ≠ u) : a u ≤ a (nth low a n) := by
  have h1 := best_max (rest low a n) u
  rw [rest_of_new n u hu] at h1
  exact h1.trans (rest_nth hlow n hn).le

theorem nth_first (n : ℕ) (hn : n < N) (u : Fin N) (hu : ∀ i < n, nth low a i ≠ u) (e : a u = a (nth low a n)) : nth low a n ≤ u :=
  best_first (rest low a n) u (by rw [rest_of_new n u hu, e]; exact (rest_nth hlow n hn).symm)

/-- The choices are the head of the stable sort. -/
theorem sortedFrom_eq_nth (hN : 16 ≤ N) (n : ℕ) (hn : n < 16) : sortedFrom (fun k k' : Fin N => decide (a k' < a k)) ⟨n, by omega⟩ = nth low a n := by
  classical
  have hB := StrictTotalBefore.of_key_then_position (n := N) (fun x y : Re => decide (y < x)) a (fun x => decide_eq_false (lt_irrefl x))
    (fun x y z h h' => decide_eq_true ((of_decide_eq_true h').trans (of_decide_eq_true h)))
    (fun x y => by
      rcases lt_trichotomy x y with h | h | h
      · exact Or.inr (Or.inr (decide_eq_true h))
      · exact Or.inr (Or.inl h)
      · exact Or.inl (decide_eq_true h))
  have key : ∀ (i : Fin 16) (u : Fin N), (∀ t < i.val, nth low a t ≠ u) →
      (decide (a (nth low a i) < a u) || (decide (a u = a (nth low a i)) && decide (u < nth low a i))) = false := fun i u hu => by
    have h1 := nth_max hlow i.val (by omega) u hu
    rw [decide_eq_false (not_lt.2 h1), Bool.false_or]
    by_cases e : a u = a (nth low a i)
    · rw [decide_eq_false (not_lt.2 (nth_first hlow i.val (by omega) u hu e)), Bool.and_false]
    · rw [decide_eq_false e, Bool.false_and]
  have h := hB.sortedFrom_eq_of_prefix (k := 16) (by omega) (fun i => nth low a i.val)
    (fun i j e => by
      rcases lt_trichotomy i.val j.val with h | h | h
      · exact absurd e (nth_new hlow j.val (by omega) i.val h)
      · exact Fin.ext h
      · exact absurd e.symm (nth_new hlow i.val (by omega) j.val h))
    (fun i j hij => key i _ fun t ht => nth_new hlow j.val (by omega) t (ht.trans hij))
    (fun i p hp => key i p fun t ht => hp ⟨t, by omega⟩) ⟨n, hn⟩
  refine Eq.trans (sortedFrom_increasing _ _ (fun k k' hk => ?_) _) h
  show decide (a k < a k') = (decide (a k < a k') || (decide (a k' = a k) && decide (k' < k)))
  rw [decide_eq_false (not_lt.2 hk.le), Bool.and_false, Bool.or_false]

end Cert.Proof.Tail

end
-- ==== Proof.Base.lean ====
/-
  The program as the launch theorem of the SparseCores sees it: two SparseCore calls, two regions of the TensorCore, and
  the ghost state all of them share.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ValueIdxCore
public import Idealize.ShloMosaic.Lib.Tactic
public import proofs.«01_k».proof.Proof.Gen.KernelIdeal
public import proofs.«01_k».proof.Proof.Gen.KernelIdeal.Skeleton

@[expose] public section

noncomputable section

namespace Cert.Proof.Tail

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := URounds (GSem nD τ sig) Unit
abbrev UU : Type := UH × (UP × Counters)

local notation "𝕄" => MT nD τ sig (HIx 2) (Elt F) ℕ UU ℕ

abbrev EH : Emb UH (MT nD τ sig (HIx 2) (Elt F) ℕ UU ℕ) := embL
def EP : Emb UP (MT nD τ sig (HIx 2) (Elt F) ℕ UU ℕ) := (Emb.inl : Emb UP (UP × Counters)).trans embR
instance EP_landsIn : (EP (F := F)).LandsIn (upEmb : UEmb _ (MT nD τ sig (HIx 2) (Elt F) ℕ UU ℕ)) := by unfold EP; infer_instance

end Cert.Proof.Tail

end
-- ==== Proof.Layout.lean ====
/-
  The two regions of the TensorCore: the layout facts of their windows, and what both regions' proof data share.
-/
module

public import proofs.«01_k».proof.Proof.Base
public import Idealize.ShloMosaic.Lib.Pipeline.Kit
public import Idealize.ShloMosaic.Lib.Pipeline.Regions
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Pipeline.Value
public import Idealize.ShloMosaic.Lib.Pointwise

@[expose] public section

set_option maxRecDepth 16384

noncomputable section

namespace Cert.Proof.Tail

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

/-! ## The windows' layout -/

abbrev semTab : Fin 2 → List (DmaSem sig) := fun | 0 => Pipeline.specSems spec1 | 1 => Pipeline.specSems spec3
theorem semsDistinct : ∀ p : Fin 2, (semTab p).Nodup := by decide
theorem semsDisjoint : ∀ p p' : Fin 2, p ≠ p' → (semTab p).Forall (· ∉ semTab p') := by decide
theorem cellOf_inj : Function.Injective (Pipeline.cellOf (nD := nD) (τ := τ) cfgs) :=
  Pipeline.cellOf_injective_of_table cfgs semTab (fun | 0 => rfl | 1 => rfl) semsDistinct semsDisjoint

theorem winFacts1 : Pipeline.WinFacts spec1 := by decide
theorem block_pos1 : ∀ w : Fin 7, 0 < (spec1 w).block.numel := by decide
theorem arr_whole1 : ∀ w : Fin 7, (spec1 w).arr.IsWhole :=
  fun | 0 => Memref.isWhole_whole _ | 1 => Memref.isWhole_whole _ | 2 => Memref.isWhole_whole _ | 3 => Memref.isWhole_whole _ | 4 => Memref.isWhole_whole _
      | 5 => Memref.isWhole_whole _ | 6 => Memref.isWhole_whole _ | ⟨_ + 7, h⟩ => absurd h (Nat.not_lt.2 (Nat.le_add_left _ _))
theorem stage_whole1 : ∀ (w : Fin 7) (s : Fin (spec1 w).nbuf), ((spec1 w).stage s).IsWhole :=
  fun | 0 => fun s => hstage1_0 (s.cast nbuf1_0) | 1 => fun s => hstage1_1 (s.cast nbuf1_1) | 2 => fun s => hstage1_2 (s.cast nbuf1_2)
      | 3 => fun s => hstage1_3 (s.cast nbuf1_3) | 4 => fun s => hstage1_4 (s.cast nbuf1_4) | 5 => fun s => hstage1_5 (s.cast nbuf1_5)
      | 6 => fun s => hstage1_6 (s.cast nbuf1_6) | ⟨_ + 7, h⟩ => absurd h (Nat.not_lt.2 (Nat.le_add_left _ _))
theorem launch1 : Pipeline.LaunchFacts (nD := nD) (τ := τ) cfgs 0 := ⟨cellOf_inj, winFacts1, block_pos1, arr_whole1, stage_whole1⟩

theorem winFacts3 : Pipeline.WinFacts spec3 := by decide
theorem block_pos3 : ∀ w : Fin 5, 0 < (spec3 w).block.numel := by decide
theorem arr_whole3 : ∀ w : Fin 5, (spec3 w).arr.IsWhole :=
  fun | 0 => Memref.isWhole_whole _ | 1 => Memref.isWhole_whole _ | 2 => Memref.isWhole_whole _ | 3 => Memref.isWhole_whole _ | 4 => Memref.isWhole_whole _
      | ⟨_ + 5, h⟩ => absurd h (Nat.not_lt.2 (Nat.le_add_left _ _))
theorem stage_whole3 : ∀ (w : Fin 5) (s : Fin (spec3 w).nbuf), ((spec3 w).stage s).IsWhole :=
  fun | 0 => fun s => hstage3_0 (s.cast nbuf3_0) | 1 => fun s => hstage3_1 (s.cast nbuf3_1) | 2 => fun s => hstage3_2 (s.cast nbuf3_2)
      | 3 => fun s => hstage3_3 (s.cast nbuf3_3) | 4 => fun s => hstage3_4 (s.cast nbuf3_4)
      | ⟨_ + 5, h⟩ => absurd h (Nat.not_lt.2 (Nat.le_add_left _ _))
theorem launch3 : Pipeline.LaunchFacts (nD := nD) (τ := τ) cfgs 1 := ⟨cellOf_inj, winFacts3, block_pos3, arr_whole3, stage_whole3⟩

omit [FloatOps F] in
/-- A load of a whole buffer at stated contents is the contents' rectangle. -/
theorem load_unread {sp : Space} {s : Shape} {e : EltTy} {M : Memref sig .tc sp s e} (h : M.IsWhole) (X : Vec F s e) (r : Rect s) :
    M.view.readAt (Elt F) r.toLoadRect (h.unread X) = View.ld X r := by
  funext y; rw [View.readAt_apply, h.read_unread]

/-- The three level weights' loads. -/
theorem weight_load (x : Vec F S3 .f32) :
    View.ld x (Rect.unit (s := S3) ![0] ![1] inb_S3_S1_0) (Shape.Idx.first (by decide)) = x (ix1 0)
      ∧ View.ld x (Rect.unit (s := S3) ![1] ![1] inb_S3_S1_1) (Shape.Idx.first (by decide)) = x (ix1 1)
      ∧ View.ld x (Rect.unit (s := S3) ![2] ![1] inb_S3_S1_2) (Shape.Idx.first (by decide)) = x (ix1 2) :=
  ⟨congrArg x (funext fun a => match a with | ⟨0, _⟩ => rfl), congrArg x (funext fun a => match a with | ⟨0, _⟩ => rfl),
    congrArg x (funext fun a => match a with | ⟨0, _⟩ => rfl)⟩

/-- The waits a TensorCore may have recorded before call `n` of the SparseCores. -/
def recordedAt (c : Dev nD) (n : ℕ) : Set (SemLoc sig × HIx 2) := {p | (K (F := F)).lev ((SparseCore.T c : Thread nD τ), p.1) p.2 ≤ 8 * n}

end Cert.Proof.Tail

end
-- ==== Proof.Region.lean ====
/-
  A region of the TensorCore inside the program of SparseCore calls: entered and left holding every array of @main, the
  generator register, and what the TensorCore owes the calls still to come. Stated for any pipeline of the program whose
  body touches its windows alone, at any contents of the arrays and any number of calls done.
-/
module

public import proofs.«01_k».proof.Proof.Layout

@[expose] public section

set_option maxRecDepth 16384

noncomputable section

namespace Cert.Proof.Tail

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (Dat Cfg Window BodyObligation cellOf ucRefs)

variable {F : FTy → Type} [FloatOps F]

local notation "𝕄" => MT nD τ sig (HIx 2) (Elt F) ℕ UU ℕ

abbrev adm (p : Fin 2) : (pcfgs (F := F) p).Adm := (cfgs p).toPCfg_adm

abbrev Dats : Type := (p : Fin 2) → (c : Dev nD) → Dat τ (Elt F) (HIx 2) ℕ UU ℕ (Pipeline.pin (pcfgs (F := F)) adm p) c

/-- What the TensorCore owes before call `n` of the SparseCores, its recorded waits at or below that call's levels. -/
abbrev owing (n : ℕ) (c : Dev nD) : sProp 𝕄 :=
  iprop(∃ W, ⌜(K (F := F)).WBelow (SparseCore.T c) W (8 * n)⌝ ∗ owes (SparseCore.T c : Thread nD τ) ((K (F := F)).Otc c n) W)

/-- Everything a region is entered from and left at: every array at `V`, the generator register, the tallies owed. -/
abbrev around (n : ℕ) (V : Dev nD → Valuation τ sig (Elt F)) (c : Dev nD) : sProp 𝕄 :=
  iprop(held (c : Thread nD τ) (ucRefs τ sig) (V c) ∗ (∃ r, prngReg c r) ∗ owing n c)

section Seg

variable (pdats : Dats (F := F)) (p : Fin 2) (launch : Pipeline.LaunchFacts (nD := nD) (τ := τ) cfgs p) (n : ℕ)
  (V V' : Dev nD → Valuation τ sig (Elt F))

-- a library lemma over the pinned configuration is applied at the program's own
set_option backward.isDefEq.respectTransparency.types false in
def seg
    (hA : ∀ c w, (pdats p c).A w = V c (Pipeline.arrRef (cfgs p).spec w))
    (hΦ : ∀ c t, (pdats p c).Φ t = iprop(Pipeline.scopedRest (Ix := HIx 2) (Name := ℕ) (U := UU) (Lvl := ℕ) (Val := Elt F) (cfgs p).spec c ∗ ∃ r, prngReg c r))
    (hq : ∀ c w, (pdats p c).q w = fullShare)
    (howed : ∀ c t, (pdats p c).owed t = (K (F := F)).Otc c n)
    (hrec : ∀ c t, (pdats p c).recorded t = recordedAt (F := F) c n)
    (hbody : ∀ c, BodyObligation (pdats p c) (defs₀ (F := F)) 𝒱₀ none Set.univ)
    (hF : ∀ c w, (pdats p c).arrAt w (cfgs p).N = V' c (Pipeline.arrRef (cfgs p).spec w))
    (hrest : ∀ c (b : Ref sig .tc), b ∉ Finset.univ.image (Pipeline.arrRef (cfgs p).spec) → V' c (Proc.devRef .tc b) = V c (Proc.devRef .tc b)) :
    Pipeline.RegionSeg (pcfgs (F := F)) adm pdats (none : HIx 2) defs₀ 𝒱₀ (K (F := F)).L (K (F := F)).lev p where
  win := launch.win.to₀
  block_pos := launch.block_pos
  stage_whole := launch.stage_whole
  K := PEmpty
  osem k := k.elim
  ho := Pipeline.OwnSemFacts.none _
  hbody c := (hbody c).loose
  hwaits c := Pipeline.cellsWaits_of_cut (Pipeline.pin (pcfgs (F := F)) adm) pdats none p c 0 ((K (F := F)).Otc c n) (howed c)
    (fun _ _ => Finset.mem_univ _) (fun _ _ => le_rfl) fun g i h => ⟨Finset.mem_univ _, by
      have := SparseCore.Cfg.lev_of_Otc_pos h; omega⟩
  pre c := around n V c
  post c := around n V' c
  X c := iprop(∃ r, prngReg c r)
  Y c := iprop(∃ r, prngReg c r)
  Z c := Pipeline.unscopedRest (Ix := HIx 2) (Name := ℕ) (U := UU) (Lvl := ℕ) (cfgs p).spec c (fun b => V c (Proc.devRef .tc b))
  hentry c := by
    rw [Pipeline.ownSems0_none]
    have hsplit := Pipeline.arrays_of_unscopedBufs (p := p) (pcfgs (F := F)) adm pdats launch.win launch.arr_whole c
      ((pdats p c).share_full (hq c)) (fun b => V c (Proc.devRef .tc b)) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed]
      icases HO with ⟨%W, %hW, HO⟩; iexists W; isplitr
      · ipureintro; exact fun x hx => Or.inl (by rw [hrec]; exact hW x hx)
      iexact HO
    isplitl [Hp]; · iexact Hp
    iexact Hrest
  hin c := by
    rw [hΦ]
    iintro ⟨Hp, -, Hr⟩
    isplitl [Hr]; · iexact Hr
    iexact Hp
  hout c := by
    rw [Pipeline.ownSems0_none, hΦ]
    iintro ⟨Hr, Hp⟩
    isplitl [Hp]; · iexact Hp
    isplitr; · iempintro
    iexact Hr
  hexit c := by
    have hjoin := Pipeline.unscopedBufs_of_arrays (p := p) (pcfgs (F := F)) adm (Ix := HIx 2) (Name := ℕ) (U := UU) (Lvl := ℕ)
      launch.win launch.arr_whole c pdats ((pdats p c).share_full (hq c))
      (fun b => V c (Proc.devRef .tc b)) (fun b => V' c (Proc.devRef .tc b)) ((pdats p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed]
    icases HO with ⟨%W, %hW, HO⟩; iexists W; isplitr
    · ipureintro
      intro x hx
      rcases hW hx with h | ⟨w, s, rfl⟩
      · rw [hrec] at h; exact h
      · exact Nat.zero_le _
    iexact HO

set_option backward.isDefEq.respectTransparency.types false in
/-- The region run on a device's TensorCore, as @main of the SparseCore program spells it. -/
theorem seg_run (R : Pipeline.RegionSeg (pcfgs (F := F)) adm pdats (none : HIx 2) defs₀ 𝒱₀ (K (F := F)).L (K (F := F)).lev p)
    (d : Dev nD) (Q : PUnit → sProp 𝕄) :
    iprop((iprop(boundary (d.tc : Thread nD τ) ∗ R.post d) -∗ Q ⟨⟩)
        ∗ boundary (d.tc : Thread nD τ) ∗ R.pre d ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE ((K (F := F)).defs (D (F := F))) 𝒱 (SparseCore.T d) none) Set.univ
          (Prog.lift (.customCall (SparseCore.inner (Pipeline.entry p)) ())) Q := by
  have hin : iprop((iprop(boundary (d.tc : Thread nD τ) ∗ R.post d) -∗ Q ⟨⟩)
        ∗ boundary (d.tc : Thread nD τ) ∗ R.pre d ∗ levAts (K (F := F)).L (K (F := F)).lev
        ∗ Pipeline.cellsGhost (Pipeline.pin (pcfgs (F := F)) adm) EP p d ∗ Pipeline.toksInit (Pipeline.pin (pcfgs (F := F)) adm) EP p d)
      ⊢ iprop((iprop(boundary (d.tc : Thread nD τ) ∗ R.post d)
          -∗ wp frame (wpE (D (F := F)) 𝒱 (d.tc : Thread nD τ) none) Set.univ (Prog.ret PUnit.unit) Q)
        ∗ boundary (d.tc : Thread nD τ) ∗ R.pre d ∗ levAts (K (F := F)).L (K (F := F)).lev
        ∗ Pipeline.cellsGhost (Pipeline.pin (pcfgs (F := F)) adm) EP p d ∗ Pipeline.toksInit (Pipeline.pin (pcfgs (F := F)) adm) EP p d) := by
    iintro ⟨Hk, H⟩
    isplitl [Hk]
    · iintro Hb
      rw [wp_ret]; imodintro
      iapply Hk; iexact Hb
    iexact H
  exact (hin.trans (Pipeline.RegionSeg.wp (pcfgs (F := F)) adm pdats none cellOf_inj EP defs₀ 𝒱₀ (K (F := F)).L (K (F := F)).lev
    R d none (fun _ h => nomatch h) (fun x => .ret x) Q)).trans
    ((K (F := F)).wp_liftProg (D (F := F)) 𝒱 (SparseCore.T d) Set.univ none (Prog.lift (.customCall (Pipeline.entry p) ())) Q)

end Seg

end Cert.Proof.Tail

end
-- ==== Proof.Gather1.lean ====
/-
  The gather of the second finest level's rows on the vector subcores: one subcore's task, and the arrays cut into the
  thirty-two tasks' parts and joined again. Two SparseCores of sixteen subcores walk 16 blocks of 128 list entries each: a
  block of the list is copied in, the rows it names are fetched by the indirect copy, and the rows are copied out to the
  same block of the result. Every task reads the whole table and the whole list at a share; of the result it holds its own
  blocks. The loop's invariant says which of them hold the gathered rows.
-/
module

public import proofs.«01_k».proof.Proof.Base

@[expose] public section

noncomputable section

namespace Cert.Proof.Tail.G1

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-! ## The arrays of the call -/

abbrev tLoc (d : Dev nD) : Loc nD τ sig := (SparseCore.T d).loc main_v6
abbrev iLoc (d : Dev nD) : Loc nD τ sig := (SparseCore.T d).loc main_v7
abbrev oLoc (d : Dev nD) : Loc nD τ sig := (SparseCore.T d).loc main_v8

local notation "tV" => (Memref.whole Cert.KernelIdeal.main_v6_scv : Memref Cert.KernelIdeal.sig Kind.scVector Space.hbm Cert.KernelIdeal.S4096x128 EltTy.f32)
local notation "iV" => (Memref.whole Cert.KernelIdeal.main_v7_scv : Memref Cert.KernelIdeal.sig Kind.scVector Space.hbm Cert.KernelIdeal.S65536 EltTy.i32)
local notation "oV" => (Memref.whole Cert.KernelIdeal.main_v8_scv : Memref Cert.KernelIdeal.sig Kind.scVector Space.hbm Cert.KernelIdeal.S65536x128 EltTy.f32)
local notation "sV" => (Memref.whole Cert.KernelIdeal.cc0_scratch0 : Memref Cert.KernelIdeal.sig Kind.scVector Space.vmem Cert.KernelIdeal.S128 EltTy.i32)
local notation "rV" => (Memref.whole Cert.KernelIdeal.cc0_scratch1 : Memref Cert.KernelIdeal.sig Kind.scVector Space.vmem Cert.KernelIdeal.S128x128 EltTy.f32)

/-- The rows the list names: row `k` of the result is row `I k` of the table (`I k` below the table's height where it
    matters). -/
def gathered (T : S4096x128.Idx → Elt F .f32) (I : S65536.Idx → BitVec 32) : S65536x128.Idx → Elt F .f32 :=
  fun x => T (ix2 ⟨(I (ix1 (x 0))).toNat % 4096, Nat.mod_lt _ (by decide)⟩ (x 1))

/-- The list names rows of the table. -/
def InRows (I : S65536.Idx → BitVec 32) : Prop := ∀ j, (I j).toNat < 4096

variable [FloatOps F]

section Tile

variable (d : Dev nD) (L : grid0.Coords)

abbrev cV (L : grid0.Coords) : Fin τ.nSC := (L 0).castLE hcore0
abbrev jV (L : grid0.Coords) : Fin τ.nSub := (L 1).castLE hsub0

abbrev iBlk (L : grid0.Coords) (t : Fin k0_t1_loop.trips) : Memref sig .scVector .hbm S128 .i32 :=
  (iV).slice (Rect.unit (s := S65536) (k0_off1 L t) S128.size (k0_off1_inb L t)) (fun _ => rfl)
abbrev oBlk (L : grid0.Coords) (t : Fin k0_t1_loop.trips) : Memref sig .scVector .hbm S128x128 .f32 :=
  (oV).slice (Rect.unit (s := S65536x128) (k0_off2 L t) S128x128.size (k0_off2_inb L t)) (fun _ => rfl)
abbrev tAll : Memref sig .scVector .hbm S4096x128 .f32 :=
  (tV).slice (Rect.unit (s := S4096x128) ![0, 0] S4096x128.size inb_S4096x128_S4096x128_0_0) (fun _ => rfl)

/-- The elements of block `t` of task `L` in the result. -/
abbrev oSet (L : grid0.Coords) (t : Fin k0_t1_loop.trips) : Finset S65536x128.Idx := (oBlk L t).view.set

/-- Task `L`'s share of the table and of the list. -/
abbrev sh (L : grid0.Coords) : PosShare TreeShare :=
  pieceOf (pieceOf fullShare 2 (by decide) (L 0)) 16 (by decide) (L 1)

abbrev tPts (d : Dev nD) (q : PosShare TreeShare) (Tb : Buf (Elt F) (tLoc d)) : sProp 𝕄 := tLoc d ↦{q} Tb
abbrev iPts (d : Dev nD) (q : PosShare TreeShare) (Ib : Buf (Elt F) (iLoc d)) : sProp 𝕄 := iLoc d ↦{q} Ib
abbrev oBlkPts (d : Dev nD) (L : grid0.Coords) (t : Fin k0_t1_loop.trips) (f : Buf (Elt F) (oLoc d)) : sProp 𝕄 := oLoc d ↦[oSet L t]{fullShare} f
/-- Task `L`'s blocks of the result, the first `n` of them at the gathered rows. -/
abbrev oTask (d : Dev nD) (L : grid0.Coords) (Tb : Buf (Elt F) (tLoc d)) (Ib : Buf (Elt F) (iLoc d)) (f0 : Buf (Elt F) (oLoc d)) (n : ℕ) : sProp 𝕄 :=
  bigSep Finset.univ fun t : Fin k0_t1_loop.trips => oBlkPts d L t (if t.val < n then gathered Tb Ib else f0)

omit [FloatOps F] in
theorem pts_oBlk (t : Fin k0_t1_loop.trips) (f : Buf (Elt F) (oLoc d)) :
    ((oBlk L t).view.loc (V d (cV L) (jV L)) ↦[(oBlk L t).view.set]{fullShare} f : sProp 𝕄) = oLoc d ↦[oSet L t]{fullShare} f := rfl
omit [FloatOps F] in
theorem pts_tV (q : PosShare TreeShare) (f : Buf (Elt F) (tLoc d)) :
    ((tV).view.loc (V d (cV L) (jV L)) ↦{q} f : sProp 𝕄) = tLoc d ↦{q} f := rfl
omit [FloatOps F] in
theorem pts_iV (q : PosShare TreeShare) (f : Buf (Elt F) (iLoc d)) :
    ((iV).view.loc (V d (cV L) (jV L)) ↦{q} f : sProp 𝕄) = iLoc d ↦{q} f := rfl
omit [FloatOps F] in
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
omit [FloatOps F] in
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

abbrev cAcell (d : Dev nD) (c : Fin τ.nSC) (i : Fin τ.nSub) : GSem nD τ sig := (V d c i, .dma cc0_scratch2.sem)
abbrev cBcell (d : Dev nD) (c : Fin τ.nSC) (i : Fin τ.nSub) : GSem nD τ sig := (V d c i, .dma cc0_scoped0.sem)
abbrev cCcell (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scratch2.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scoped0.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped1.sem : SemLoc sig).isScoped .scVector = true; decide⟩⟩⟩)]

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- What the block's copy of the list reads: entry `j` of block `t` is the list's at the block's element `j`. -/
theorem read_iBlk (t : Fin k0_t1_loop.trips) (Ib : Buf (Elt F) (iLoc d)) (j : S128.Idx) :
    (iBlk L t).view.read (Elt F) Ib j = Ib ((iBlk L t).view.emb j) := (View.read_apply _ _).trans (cast_eq _ _)

/-- The list as the stream reads it from its scratch, the copy landed. -/
theorem list_read (t : Fin k0_t1_loop.trips) (Ib : Buf (Elt F) (iLoc d)) (fs : Buf (Elt F) ((V d (cV L) (jV L)).loc cc0_scratch0))
    (pay : S128.Idx → Elt F .i32) (hpay : pay = (iBlk L t).view.read (Elt F) Ib) (x : S128.Idx) :
    (sV).view.read (Elt F) (View.write (Elt F) (sV).view fs pay Finset.univ) x = Ib ((iBlk L t).view.emb x) := by
  subst hpay
  rw [View.write_whole_univ]
  simp only [Memref.view_whole, View.read_whole]
  exact read_iBlk d L t Ib x

theorem trips_lt (t : Fin k0_t1_loop.trips) : t.val < 16 := lt_of_lt_of_le t.isLt (by decide)

omit [FloatOps F] in
theorem iBlk_emb (t : Fin k0_t1_loop.trips) (x : S128.Idx) :
    (((iBlk L t).view.emb x) 0).val = 4096 * (L 1).val + 2048 * (L 0).val + 128 * t.val + (x 0).val := by
  show k0_off1 L t 0 + 1 * (x 0).val = _
  rw [k0_off1_eq]
  simp
omit [FloatOps F] in
theorem oBlk_emb (t : Fin k0_t1_loop.trips) (x : S128x128.Idx) :
    (((oBlk L t).view.emb x) 0).val = 4096 * (L 1).val + 2048 * (L 0).val + 128 * t.val + (x 0).val
      ∧ (((oBlk L t).view.emb x) 1).val = (x 1).val := by
  constructor
  · show k0_off2 L t 0 + 1 * (x 0).val = _
    rw [k0_off2_eq]
    simp
  · show k0_off2 L t 1 + 1 * (x 1).val = _
    rw [k0_off2_eq]
    simp

omit [FloatOps F] in
theorem tAll_read (Tb : Buf (Elt F) (tLoc d)) (z : S4096x128.Idx) : (tAll).view.read (Elt F) Tb z = Tb z := by
  refine ((View.read_apply _ _).trans (cast_eq _ _)).trans (congrArg Tb ?_)
  funext a; refine Fin.ext ?_
  match a with
  | 0 => show 0 + 1 * (z 0).val = _; omega
  | 1 => show 0 + 1 * (z 1).val = _; omega

omit [FloatOps F] in
/-- The rows the stream fetches for a block are the result's rows there. -/
theorem gathered_blk (t : Fin k0_t1_loop.trips) (Tb : Buf (Elt F) (tLoc d)) (Ib : Buf (Elt F) (iLoc d))
    (w : S128.Idx → Elt F .i32) (hw : ∀ x, w x = Ib ((iBlk L t).view.emb x))
    (hin : ∀ x, (w x).toNat < S4096x128.size gathers_S4096x128_S128x128.axis) (y : S128x128.Idx) :
    SparseCore.gatherPayload gathers_S4096x128_S128x128 ((tAll).view.read (Elt F) Tb) (SparseCore.rows w rfl hin) y
      = gathered Tb Ib ((oBlk L t).view.emb y) := by
  unfold SparseCore.gatherPayload gathered
  rw [tAll_read]
  refine congrArg Tb ?_
  have hx : S128.rowMajor.symm ((y 0).cast rfl) = (ix1 (y 0) : S128.Idx) := by
    rw [Equiv.symm_apply_eq]
    exact Fin.ext (Shape.rowMajor_val_one (d := ![128]) (ix1 (y 0))).symm
  have he : (iBlk L t).view.emb (ix1 (y 0) : S128.Idx) = (ix1 (((oBlk L t).view.emb y) 0) : S65536.Idx) := by
    funext a; refine Fin.ext ?_
    match a with
    | 0 => rw [iBlk_emb]; exact (oBlk_emb L t y).1.symm
  have hI : w (ix1 (y 0)) = Ib (ix1 (((oBlk L t).view.emb y) 0) : S65536.Idx) := by rw [hw, he]
  funext a; refine Fin.ext ?_
  match a with
  | 0 =>
    have h1 : (gathers_S4096x128_S128x128.idx (SparseCore.rows w rfl hin) y 0).val = (w (S128.rowMajor.symm ((y 0).cast rfl))).toNat := rfl
    rw [h1, hx]
    exact (Nat.mod_eq_of_lt (hin _)).symm.trans (congrArg (fun b : BitVec 32 => b.toNat % 4096) hI)
  | 1 =>
    have h1 := Shape.Gathers.idx_of_ne gathers_S4096x128_S128x128 (SparseCore.rows w rfl hin) y 1 (by decide)
    exact h1.trans (oBlk_emb L t y).2.symm

/-- The loop's invariant at trip `n`: the task's shares of the table and the list, its blocks of the result with the first
    `n` done, the two scratch buffers at anything, the three counters at zero, what the task owes with waits recorded
    beyond `W` at index `none` alone. -/
def inv (Tb : Buf (Elt F) (tLoc d)) (Ib : Buf (Elt F) (iLoc d)) (f0 : Buf (Elt F) (oLoc d))
    (O : CellTallies nD τ sig (HIx 2)) (W : Waits sig (HIx 2)) (n : Nat) (_ : PUnit) : sProp 𝕄 :=
  iprop(Transfers.MayWaits (V d (cV L) (jV L)) (none : HIx 2) O
    ∗ ((tV).view.loc (V d (cV L) (jV L)) ↦{sh L} Tb)
    ∗ ((iV).view.loc (V d (cV L) (jV L)) ↦{sh L} Ib)
    ∗ oTask d L Tb Ib f0 n
    ∗ (∃ f, (sV).view.loc (V d (cV L) (jV L)) ↦{fullShare} f)
    ∗ (∃ f, (rV).view.loc (V d (cV L) (jV L)) ↦{fullShare} f)
    ∗ semVal (cAcell d (cV L) (jV L)) 0 ∗ semVal (cBcell d (cV L) (jV L)) 0 ∗ semVal (cCcell d (cV L) (jV L)) 0
    ∗ ∃ W', ⌜∀ p ∈ W', p ∈ W ∨ p.2 = none⌝ ∗ owes (V d (cV L) (jV L)) O W')

omit [FloatOps F] in
/-- Block `t` taken out of the task's blocks at trip `t`, to be put back done. -/
theorem oTask_step (Tb : Buf (Elt F) (tLoc d)) (Ib : Buf (Elt F) (iLoc d)) (f0 : Buf (Elt F) (oLoc d)) (t : Fin k0_t1_loop.trips) :
    (oTask d L Tb Ib f0 t.val : sProp 𝕄) ⊢ iprop(oBlkPts d L t f0 ∗ (oBlkPts d L t (gathered Tb Ib) -∗ oTask d L Tb Ib f0 (t.val + 1))) := by
  unfold oTask
  rw [SparseCore.bigSep_erase' (Finset.mem_univ t), SparseCore.bigSep_erase' (s := Finset.univ) (Finset.mem_univ t)
    (Φ := fun t' : Fin k0_t1_loop.trips => oBlkPts d L t' (if t'.val < t.val + 1 then gathered Tb Ib else f0)), if_neg (lt_irrefl _), if_pos (Nat.lt_succ_self _)]
  rw [show (bigSep (Finset.univ.erase t) fun t' : Fin k0_t1_loop.trips => (oBlkPts d L t' (if t'.val < t.val then gathered Tb Ib else f0) : sProp 𝕄))
      = bigSep (Finset.univ.erase t) fun t' : Fin k0_t1_loop.trips => oBlkPts d L t' (if t'.val < t.val + 1 then gathered Tb Ib else f0) from
    bigSep_congr fun t' ht' => by
      have hne : t'.val ≠ t.val := fun h => (Finset.mem_erase.mp ht').1 (Fin.ext h)
      rw [if_congr (show t'.val < t.val ↔ t'.val < t.val + 1 by omega) rfl rfl]]
  iintro ⟨H, Hr⟩
  isplitl [H]; · iexact H
  iintro H
  isplitl [H] <;> iassumption

omit [FloatOps F] in
/-- The result's block once the copy has landed: the copied rows, wherever the block reaches. -/
theorem oBlk_written (t : Fin k0_t1_loop.trips) (f0 g : Buf (Elt F) (oLoc d)) (pay : S128x128.Idx → Elt F .f32)
    (h : ∀ y, pay y = g ((oBlk L t).view.emb y)) (z : S65536x128.Idx) (hz : z ∈ oSet L t) :
    (oBlk L t).view.writes (Elt F) f0 [⟨Rect.whole S128x128, pay⟩] z = g z := by
  obtain ⟨y, -, rfl⟩ := Finset.mem_map.mp hz
  show ((oBlk L t).view.slice (Rect.whole S128x128)).write (Elt F) f0 pay Finset.univ ((oBlk L t).view.emb y) = _
  have he : (oBlk L t).view.emb y = ((oBlk L t).view.slice (Rect.whole S128x128)).emb y :=
    congrArg (oBlk L t).view.emb (Rect.emb_whole_apply S128x128 y).symm
  rw [he, View.write_emb_of_mem _ _ (Finset.mem_univ _), ← he, ← h]
  exact cast_eq _ _

set_option maxHeartbeats 4000000 in
/-- One trip. -/
theorem tile_trip (Tb : Buf (Elt F) (tLoc d)) (Ib : Buf (Elt F) (iLoc d)) (f0 : Buf (Elt F) (oLoc d)) (hI : InRows Ib)
    (O : CellTallies nD τ sig (HIx 2)) (W : Waits sig (HIx 2)) (t : Fin k0_t1_loop.trips) (u : Unit) :
    inv d L Tb Ib f0 O W t.val u
      ⊢ wp frame (wpE (defs₀ (F := F)) 𝒱₀ (V d (cV L) (jV L)) none) Set.univ
          (k0_t1_body (F := F) L tV (Memref.isWhole_whole _) iV (Memref.isWhole_whole _) oV (Memref.isWhole_whole _)
            sV (Memref.isWhole_whole _) rV (Memref.isWhole_whole _) cc0_scratch2 cc0_scoped0 cc0_scoped1 t u)
          fun u' => inv d L Tb Ib f0 O W (t.val + 1) u' := by
  unfold inv k0_t1_body
  iintro ⟨#Hmw, Ht, Hi, Ho, ⟨%fs, Hs⟩, ⟨%fr, Hr⟩, HsemA, HsemB, HsemC, %W', %hW', HO⟩
  ihave Ho := (oTask_step d L Tb Ib f0 t) $$ Ho
  icases Ho with ⟨Ho, Hback⟩
  ihave Ho' := (Entails.of_eq (pts_oBlk (F := F) d L t _).symm) $$ Ho
  sl_exec
  have hli : ∀ x, (sV).view.read (Elt F) (View.write (Elt F) (sV).view fs (tile_trip.sl.dma0 d L Ib t) Finset.univ) x = Ib ((iBlk L t).view.emb x) :=
    list_read d L t Ib fs _ rfl
  have hin : ∀ x, ((sV).view.read (Elt F) (View.write (Elt F) (sV).view fs (tile_trip.sl.dma0 d L Ib t) Finset.univ) x).toNat
      < S4096x128.size gathers_S4096x128_S128x128.axis := fun x => by rw [hli]; exact hI _
  ihave Hts := (pointsTo_split_subset (q := sh L) (f := Tb) (S := Finset.univ) (Finset.subset_univ (tAll).view.set)).1 $$ Ht
  icases Hts with ⟨Hts, Htr⟩
  have hrs : (rV).view.set = Finset.univ := View.set_whole _
  have hss : (sV).view.set = Finset.univ := View.set_whole _
  ihave Hr := (Entails.of_eq (show ((rV).view.loc (V d (cV L) (jV L)) ↦{fullShare} fr : sProp 𝕄)
      = (rV).view.loc (V d (cV L) (jV L)) ↦[(rV).view.set]{fullShare} fr by rw [hrs])) $$ Hr
  ihave Hs := (Entails.of_eq (show ((sV).view.loc (V d (cV L) (jV L)) ↦{fullShare} View.write (Elt F) (sV).view fs (tile_trip.sl.dma0 d L Ib t) Finset.univ : sProp 𝕄)
      = (sV).view.loc (V d (cV L) (jV L)) ↦[(sV).view.set]{fullShare} View.write (Elt F) (sV).view fs (tile_trip.sl.dma0 d L Ib t) Finset.univ
      by rw [hss])) $$ Hs
  have hN : ∀ h : S4096x128.Gathers 0 S128x128, ∑ j, ((rV).slice (S128x128.rowRect h.axis' j) (S128x128.stride_rowRect h.axis' j)).view.dmaCredit
      = (rV).view.dmaCredit := by decide
  iapply (SparseCore.wp_indirectGatherLocal countersEmb 𝒱₀ (V d (cV L) (jV L)) none (hg := gathers_S4096x128_S128x128) (default : HIx 2)
      (rV).view.dmaCredit (hN _) (by decide) hin) $$ [Hts Hr Hs HsemA]
  · isplitl [Hts]; · iexact Hts
    isplitl [Hr]; · iexact Hr
    isplitl [Hs]; · iexact Hs
    iexact HsemA
  iintro Hfl
  sl_exec
  iapply (Transfers.wp_waitLocalO countersEmb 𝒱₀ (V d (cV L) (jV L)) none (default : HIx 2) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr, Hts, Hs⟩, HsemA, HO⟩
  ihave Ht := (pointsTo_split_subset (q := sh L) (f := Tb) (S := Finset.univ) (Finset.subset_univ (tAll).view.set)).2 $$ [Hts Htr]; · isplitl [Hts] <;> iassumption
  ihave Hr := (Entails.of_eq (show ((rV).view.loc (V d (cV L) (jV L)) ↦[(rV).view.set]{fullShare} _ : sProp 𝕄)
      = (rV).view.loc (V d (cV L) (jV L)) ↦{fullShare} _ by rw [hrs])) $$ Hr
  ihave Hs := (Entails.of_eq (show ((sV).view.loc (V d (cV L) (jV L)) ↦[(sV).view.set]{fullShare} _ : sProp 𝕄)
      = (sV).view.loc (V d (cV L) (jV L)) ↦{fullShare} _ by rw [hss])) $$ Hs
  sl_exec
  sl_step
  ihave Ho := (Entails.of_eq (pointsTo_congr (ℓ := oLoc d) (q := fullShare) (I := oSet L t)
    (oBlk_written d L t f0 (gathered Tb Ib) (tile_trip.sl.dma0_1 d L Tb Ib t fs fr hin) fun y => by
      show (rV).view.read (Elt F) (View.write (Elt F) (rV).view fr _ Finset.univ) y = _
      rw [View.write_whole_univ]
      simp only [Memref.view_whole, View.read_whole]
      exact gathered_blk d L t Tb Ib _ hli hin y))) $$ Ho'
  ihave Ho := Hback $$ Ho
  isplitr; · iexact Hmw
  isplitl [Ht]; · iexact Ht
  isplitl [Hi]; · iexact Hi
  isplitl [Ho]; · iexact Ho
  isplitl [Hs]; · iexists _; iexact Hs
  isplitl [Hr]; · iexists _; iexact Hr
  isplitl [HsemA]; · iexact HsemA
  isplitl [HsemB]; · iexact HsemB
  isplitl [HsemC]; · iexact HsemC
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

omit [FloatOps F] in
theorem oTask_start (Tb : Buf (Elt F) (tLoc d)) (Ib : Buf (Elt F) (iLoc d)) (f0 : Buf (Elt F) (oLoc d)) :
    (oTask d L Tb Ib f0 0 : sProp 𝕄) = bigSep Finset.univ fun t : Fin k0_t1_loop.trips => oBlkPts d L t f0 :=
  bigSep_congr fun t _ => by rw [if_neg (Nat.not_lt_zero _)]
omit [FloatOps F] in
theorem oTask_end (Tb : Buf (Elt F) (tLoc d)) (Ib : Buf (Elt F) (iLoc d)) (f0 : Buf (Elt F) (oLoc d)) :
    (oTask d L Tb Ib f0 k0_t1_loop.trips : sProp 𝕄) = bigSep Finset.univ fun t : Fin k0_t1_loop.trips => oBlkPts d L t (gathered Tb Ib) :=
  bigSep_congr fun t _ => by rw [if_pos t.isLt]

set_option maxHeartbeats 4000000 in
/-- The task: the 16 trips by the invariant. -/
theorem tile_body (hF : (K (F := F)).Facts) (Tb : Buf (Elt F) (tLoc d)) (Ib : Buf (Elt F) (iLoc d)) (f0 : Buf (Elt F) (oLoc d)) (hI : InRows Ib)
    (O : CellTallies nD τ sig (HIx 2)) (W : Waits sig (HIx 2)) (hO : ∀ g, O g none = 0) :
    iprop(levAts (K (F := F)).L (K (F := F)).lev ∗ emp
        ∗ (tPts d (sh L) Tb ∗ iPts d (sh L) Ib ∗ bigSep Finset.univ fun t : Fin k0_t1_loop.trips => oBlkPts d L t f0)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gk L tV (Memref.isWhole_whole _) iV (Memref.isWhole_whole _) oV (Memref.isWhole_whole _)
            sV (Memref.isWhole_whole _) rV (Memref.isWhole_whole _) cc0_scratch2 cc0_scoped0 cc0_scoped1)
          fun _ => iprop((tPts d (sh L) Tb ∗ iPts d (sh L) Ib ∗ bigSep Finset.univ fun t : Fin k0_t1_loop.trips => oBlkPts d L t (gathered Tb Ib))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_gk_eq_skeleton]; unfold cc0_gk_skel
  rw [(K (F := F)).scopedBufs_V hF d (cV L) (jV L), SparseCore.Cfg.scopedSems0_V (Val := Elt F) d (cV L) (jV L), ownSems0_V, ownBufs_V]
  iintro ⟨#Hlv, -, ⟨Ht, Hi, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 2) O from
    (K (F := F)).mayWaits_none (thr := V d (cV L) (jV L)) hO) $$ Hlv
  ihave Ho := (Entails.of_eq (oTask_start (F := F) d L Tb Ib f0).symm) $$ Ho
  ihave Hi := (Entails.of_eq (pts_iV (F := F) d L _ _).symm) $$ Hi
  ihave Ht := (Entails.of_eq (pts_tV (F := F) d L _ _).symm) $$ Ht
  ihave Hs := (Entails.of_eq (pts_sV (F := F) d L _).symm) $$ Hs
  ihave Hr := (Entails.of_eq (pts_rV (F := F) d L _).symm) $$ Hr
  sl_for (inv d L Tb Ib f0 O W) $$ [Hmw Ht Hi Ho Hs Hr HsemA HsemB HsemC HO]
  case region =>
    intro k u
    exact tile_trip d L Tb Ib f0 hI O W k u
  · unfold inv
    isplitl [Hmw]; · iexact Hmw
    isplitl [Ht]; · iexact Ht
    isplitl [Hi]; · iexact Hi
    isplitl [Ho]; · iexact Ho
    isplitl [Hs]; · iexists _; iexact Hs
    isplitl [Hr]; · iexists _; iexact Hr
    isplitl [HsemA]; · iexact HsemA
    isplitl [HsemB]; · iexact HsemB
    isplitl [HsemC]; · iexact HsemC
    iexists W; isplitr
    · ipureintro; exact fun p hp => .inl hp
    · iexact HO
  iintro %_ HI
  unfold inv
  icases HI with ⟨-, Ht, Hi, Ho, ⟨%fs', Hs⟩, ⟨%fr', Hr⟩, HsemA, HsemB, HsemC, %W', %hW', HO⟩
  ihave Ho := (Entails.of_eq (oTask_end (F := F) d L Tb Ib f0)) $$ Ho
  sl_exec
  sl_step
  isplitl [Ht Hi Ho]
  · isplitl [Ht]; · iexact Ht
    isplitl [Hi]; · iexact Hi
    iexact Ho
  isplitl [Hs Hr Hbufs]
  · isplitl [Hs]; · iexists _; iexact Hs
    isplitl [Hr]; · iexists _; iexact Hr
    iexact Hbufs
  isplitl [HsemA HsemB HsemC Hsems]
  · isplitl [HsemA]; · iexact HsemA
    isplitl [HsemB]; · iexact HsemB
    isplitl [HsemC]; · iexact HsemC
    iexact Hsems
  iexists W'; isplitr
  · ipureintro; exact hW'
  · iexact HO

end Tile

def coordsV (c : Fin (grid0.bound 0)) (s : Fin (grid0.bound 1)) : grid0.Coords :=
  fun | 0 => c | 1 => s | ⟨_ + 2, h⟩ => absurd h (Nat.not_lt.2 (Nat.le_add_left _ _))

abbrev LV (c : Fin 2) (i : Fin 16) : grid0.Coords := coordsV c i

abbrev oPts (d : Dev nD) (f : Buf (Elt F) (oLoc d)) : sProp 𝕄 := oLoc d ↦{fullShare} f

/-! ## The cut of the arrays -/

omit [FloatOps F] in
theorem tPts_shares (d : Dev nD) (f : Buf (Elt F) (tLoc d)) :
    (tPts d fullShare f : sProp 𝕄) = bigSep Finset.univ fun c : Fin 2 => bigSep Finset.univ fun i : Fin 16 => tPts d (sh (LV c i)) f :=
  (pointsTo_piecesOf Finset.univ f (by decide : 0 < 2) fullShare).trans
    (bigSep_congr fun c _ => pointsTo_piecesOf Finset.univ f (by decide : 0 < 16) (pieceOf fullShare 2 (by decide) c))
omit [FloatOps F] in
theorem iPts_shares (d : Dev nD) (f : Buf (Elt F) (iLoc d)) :
    (iPts d fullShare f : sProp 𝕄) = bigSep Finset.univ fun c : Fin 2 => bigSep Finset.univ fun i : Fin 16 => iPts d (sh (LV c i)) f :=
  (pointsTo_piecesOf Finset.univ f (by decide : 0 < 2) fullShare).trans
    (bigSep_congr fun c _ => pointsTo_piecesOf Finset.univ f (by decide : 0 < 16) (pieceOf fullShare 2 (by decide) c))

theorem mem_oSet (L : grid0.Coords) (t : Fin k0_t1_loop.trips) (x : S65536x128.Idx) :
    x ∈ oSet L t ↔ 4096 * (L 1).val + 2048 * (L 0).val + 128 * t.val ≤ (x 0).val
      ∧ (x 0).val < 4096 * (L 1).val + 2048 * (L 0).val + 128 * t.val + 128 := by
  constructor
  · intro h
    obtain ⟨y, -, rfl⟩ := Finset.mem_map.mp h
    have h0 := (oBlk_emb L t y).1
    have h1 : (y 0).val < 128 := (y 0).isLt
    exact ⟨by rw [h0]; omega, by rw [h0]; omega⟩
  · rintro ⟨h1, h2⟩
    refine Finset.mem_map.mpr ⟨ValueIdx.ix2 ⟨(x 0).val - (4096 * (L 1).val + 2048 * (L 0).val + 128 * t.val), by omega⟩ (x 1), Finset.mem_univ _, ?_⟩
    funext a; refine Fin.ext ?_
    match a with
    | 0 => exact ((oBlk_emb L t _).1).trans (by show _ + ((x 0).val - _) = _; omega)
    | 1 => exact (oBlk_emb L t _).2

abbrev oPart (p : Fin 2 × Fin 16 × Fin k0_t1_loop.trips) : Finset S65536x128.Idx := oSet (LV p.1 p.2.1) p.2.2

theorem oParts_disjoint : ∀ p ∈ (Finset.univ : Finset (Fin 2 × Fin 16 × Fin k0_t1_loop.trips)), ∀ p' ∈ (Finset.univ : Finset (Fin 2 × Fin 16 × Fin k0_t1_loop.trips)),
    p ≠ p' → Disjoint (oPart p) (oPart p') := by
  rintro ⟨c, i, t⟩ - ⟨c', i', t'⟩ - hne
  refine Finset.disjoint_left.mpr fun x hx hx' => hne ?_
  have hx : 4096 * i.val + 2048 * c.val + 128 * t.val ≤ (x 0).val ∧ (x 0).val < 4096 * i.val + 2048 * c.val + 128 * t.val + 128 :=
    (mem_oSet (LV c i) t x).mp hx
  have hx' : 4096 * i'.val + 2048 * c'.val + 128 * t'.val ≤ (x 0).val ∧ (x 0).val < 4096 * i'.val + 2048 * c'.val + 128 * t'.val + 128 :=
    (mem_oSet (LV c' i') t' x).mp hx'
  have ht := trips_lt t; have ht' := trips_lt t'
  have hc := c.isLt; have hc' := c'.isLt
  have h1 : i = i' := Fin.ext (by omega)
  have h2 : c = c' := Fin.ext (by omega)
  have h3 : t = t' := Fin.ext (by omega)
  rw [h1, h2, h3]

set_option maxRecDepth 16384 in
theorem oParts_cover : (Finset.univ : Finset (Fin 2 × Fin 16 × Fin k0_t1_loop.trips)).biUnion oPart = Finset.univ := by
  refine Finset.eq_univ_of_forall fun x => ?_
  rw [Finset.mem_biUnion]
  have hx : (x 0).val < 65536 := idx2_lt0 (n0 := 65536) (n1 := 128) x
  refine ⟨(⟨(x 0).val / 2048 % 2, by omega⟩, ⟨(x 0).val / 4096, by omega⟩, ⟨(x 0).val / 128 % 16, lt_of_lt_of_le (Nat.mod_lt _ (by decide)) (by decide)⟩), Finset.mem_univ _, ?_⟩
  rw [mem_oSet]
  show 4096 * ((x 0).val / 4096) + 2048 * ((x 0).val / 2048 % 2) + 128 * ((x 0).val / 128 % 16) ≤ (x 0).val
    ∧ (x 0).val < 4096 * ((x 0).val / 4096) + 2048 * ((x 0).val / 2048 % 2) + 128 * ((x 0).val / 128 % 16) + 128
  omega

omit [FloatOps F] in
theorem oPts_parts (d : Dev nD) (f : Buf (Elt F) (oLoc d)) :
    (oPts d f : sProp 𝕄) = bigSep Finset.univ fun c : Fin 2 => bigSep Finset.univ fun i : Fin 16 =>
      bigSep Finset.univ fun t : Fin k0_t1_loop.trips => oBlkPts d (LV c i) t f := by
  have h : (oPts d f : sProp 𝕄) = bigSep Finset.univ fun p : Fin 2 × Fin 16 × Fin k0_t1_loop.trips => oLoc d ↦[oPart p]{fullShare} f := by
    rw [← pointsTo_biUnion Finset.univ (ℓ := oLoc d) oPart oParts_disjoint, oParts_cover]
  rw [h, bigSep_univ_prod]
  exact bigSep_congr fun c _ => bigSep_univ_prod _

/-! ## What the handshakes carry -/

variable (Tb : (d : Dev nD) → Buf (Elt F) (tLoc d)) (Ib : (d : Dev nD) → Buf (Elt F) (iLoc d)) (f0 : (d : Dev nD) → Buf (Elt F) (oLoc d))

/-- What a task takes, … -/
abbrev goT (d : Dev nD) (c : Fin 2) (i : Fin 16) : sProp 𝕄 :=
  iprop(tPts d (sh (LV c i)) (Tb d) ∗ iPts d (sh (LV c i)) (Ib d) ∗ bigSep Finset.univ fun t : Fin k0_t1_loop.trips => oBlkPts d (LV c i) t (f0 d))
/-- … and brings back. -/
abbrev tdT (d : Dev nD) (c : Fin 2) (i : Fin 16) : sProp 𝕄 :=
  iprop(tPts d (sh (LV c i)) (Tb d) ∗ iPts d (sh (LV c i)) (Ib d) ∗ bigSep Finset.univ fun t : Fin k0_t1_loop.trips => oBlkPts d (LV c i) t (gathered (Tb d) (Ib d)))

theorem st_eq (d : Dev nD) : (bigSep Finset.univ fun c : Fin 2 => bigSep Finset.univ fun i : Fin 16 => goT Tb Ib f0 d c i)
    = (iprop(tPts d fullShare (Tb d) ∗ iPts d fullShare (Ib d) ∗ oPts d (f0 d)) : sProp 𝕄) := by
  rw [tPts_shares, iPts_shares, oPts_parts]
  simp only [goT, bigSep_sep']
theorem dn_eq (d : Dev nD) : (bigSep Finset.univ fun c : Fin 2 => bigSep Finset.univ fun i : Fin 16 => tdT Tb Ib d c i)
    = (iprop(tPts d fullShare (Tb d) ∗ iPts d fullShare (Ib d) ∗ oPts d (gathered (Tb d) (Ib d))) : sProp 𝕄) := by
  rw [tPts_shares, iPts_shares, oPts_parts]
  simp only [tdT, bigSep_sep']

end Cert.Proof.Tail.G1

end
-- ==== Proof.Gather0.lean ====
/-
  The gather of the finest level's rows on the vector subcores: one subcore's task, and the arrays cut into the
  thirty-two tasks' parts and joined again. Two SparseCores of sixteen subcores walk 64 blocks of 128 list entries each: a
  block of the list is copied in, the rows it names are fetched by the indirect copy, and the rows are copied out to the
  same block of the result. Every task reads the whole table and the whole list at a share; of the result it holds its own
  blocks. The loop's invariant says which of them hold the gathered rows.
-/
module

public import proofs.«01_k».proof.Proof.Base

@[expose] public section

noncomputable section

namespace Cert.Proof.Tail.G0

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-! ## The arrays of the call -/

abbrev tLoc (d : Dev nD) : Loc nD τ sig := (SparseCore.T d).loc main_v21
abbrev iLoc (d : Dev nD) : Loc nD τ sig := (SparseCore.T d).loc main_v22
abbrev oLoc (d : Dev nD) : Loc nD τ sig := (SparseCore.T d).loc main_v23

local notation "tV" => (Memref.whole Cert.KernelIdeal.main_v21_scv : Memref Cert.KernelIdeal.sig Kind.scVector Space.hbm Cert.KernelIdeal.S16384x128 EltTy.f32)
local notation "iV" => (Memref.whole Cert.KernelIdeal.main_v22_scv : Memref Cert.KernelIdeal.sig Kind.scVector Space.hbm Cert.KernelIdeal.S262144 EltTy.i32)
local notation "oV" => (Memref.whole Cert.KernelIdeal.main_v23_scv : Memref Cert.KernelIdeal.sig Kind.scVector Space.hbm Cert.KernelIdeal.S262144x128 EltTy.f32)
local notation "sV" => (Memref.whole Cert.KernelIdeal.cc2_scratch0 : Memref Cert.KernelIdeal.sig Kind.scVector Space.vmem Cert.KernelIdeal.S128 EltTy.i32)
local notation "rV" => (Memref.whole Cert.KernelIdeal.cc2_scratch1 : Memref Cert.KernelIdeal.sig Kind.scVector Space.vmem Cert.KernelIdeal.S128x128 EltTy.f32)

/-- The rows the list names: row `k` of the result is row `I k` of the table (`I k` below the table's height where it
    matters). -/
def gathered (T : S16384x128.Idx → Elt F .f32) (I : S262144.Idx → BitVec 32) : S262144x128.Idx → Elt F .f32 :=
  fun x => T (ix2 ⟨(I (ix1 (x 0))).toNat % 16384, Nat.mod_lt _ (by decide)⟩ (x 1))

/-- The list names rows of the table. -/
def InRows (I : S262144.Idx → BitVec 32) : Prop := ∀ j, (I j).toNat < 16384

variable [FloatOps F]

section Tile

variable (d : Dev nD) (L : grid2.Coords)

abbrev cV (L : grid2.Coords) : Fin τ.nSC := (L 0).castLE hcore2
abbrev jV (L : grid2.Coords) : Fin τ.nSub := (L 1).castLE hsub2

abbrev iBlk (L : grid2.Coords) (t : Fin k2_t1_loop.trips) : Memref sig .scVector .hbm S128 .i32 :=
  (iV).slice (Rect.unit (s := S262144) (k2_off1 L t) S128.size (k2_off1_inb L t)) (fun _ => rfl)
abbrev oBlk (L : grid2.Coords) (t : Fin k2_t1_loop.trips) : Memref sig .scVector .hbm S128x128 .f32 :=
  (oV).slice (Rect.unit (s := S262144x128) (k2_off2 L t) S128x128.size (k2_off2_inb L t)) (fun _ => rfl)
abbrev tAll : Memref sig .scVector .hbm S16384x128 .f32 :=
  (tV).slice (Rect.unit (s := S16384x128) ![0, 0] S16384x128.size inb_S16384x128_S16384x128_0_0) (fun _ => rfl)

/-- The elements of block `t` of task `L` in the result. -/
abbrev oSet (L : grid2.Coords) (t : Fin k2_t1_loop.trips) : Finset S262144x128.Idx := (oBlk L t).view.set

/-- Task `L`'s share of the table and of the list. -/
abbrev sh (L : grid2.Coords) : PosShare TreeShare :=
  pieceOf (pieceOf fullShare 2 (by decide) (L 0)) 16 (by decide) (L 1)

abbrev tPts (d : Dev nD) (q : PosShare TreeShare) (Tb : Buf (Elt F) (tLoc d)) : sProp 𝕄 := tLoc d ↦{q} Tb
abbrev iPts (d : Dev nD) (q : PosShare TreeShare) (Ib : Buf (Elt F) (iLoc d)) : sProp 𝕄 := iLoc d ↦{q} Ib
abbrev oBlkPts (d : Dev nD) (L : grid2.Coords) (t : Fin k2_t1_loop.trips) (f : Buf (Elt F) (oLoc d)) : sProp 𝕄 := oLoc d ↦[oSet L t]{fullShare} f
/-- Task `L`'s blocks of the result, the first `n` of them at the gathered rows. -/
abbrev oTask (d : Dev nD) (L : grid2.Coords) (Tb : Buf (Elt F) (tLoc d)) (Ib : Buf (Elt F) (iLoc d)) (f0 : Buf (Elt F) (oLoc d)) (n : ℕ) : sProp 𝕄 :=
  bigSep Finset.univ fun t : Fin k2_t1_loop.trips => oBlkPts d L t (if t.val < n then gathered Tb Ib else f0)

omit [FloatOps F] in
theorem pts_oBlk (t : Fin k2_t1_loop.trips) (f : Buf (Elt F) (oLoc d)) :
    ((oBlk L t).view.loc (V d (cV L) (jV L)) ↦[(oBlk L t).view.set]{fullShare} f : sProp 𝕄) = oLoc d ↦[oSet L t]{fullShare} f := rfl
omit [FloatOps F] in
theorem pts_tV (q : PosShare TreeShare) (f : Buf (Elt F) (tLoc d)) :
    ((tV).view.loc (V d (cV L) (jV L)) ↦{q} f : sProp 𝕄) = tLoc d ↦{q} f := rfl
omit [FloatOps F] in
theorem pts_iV (q : PosShare TreeShare) (f : Buf (Elt F) (iLoc d)) :
    ((iV).view.loc (V d (cV L) (jV L)) ↦{q} f : sProp 𝕄) = iLoc d ↦{q} f := rfl
omit [FloatOps F] in
theorem pts_sV (f : Buf (Elt F) ((V d (cV L) (jV L)).loc cc2_scratch0)) :
    ((sV).view.loc (V d (cV L) (jV L)) ↦{fullShare} f : sProp 𝕄) = (V d (cV L) (jV L)).loc cc2_scratch0 ↦{fullShare} f := rfl
omit [FloatOps F] in
theorem pts_rV (f : Buf (Elt F) ((V d (cV L) (jV L)).loc cc2_scratch1)) :
    ((rV).view.loc (V d (cV L) (jV L)) ↦{fullShare} f : sProp 𝕄) = (V d (cV L) (jV L)).loc cc2_scratch1 ↦{fullShare} f := rfl

abbrev cAcell (d : Dev nD) (c : Fin τ.nSC) (i : Fin τ.nSub) : GSem nD τ sig := (V d c i, .dma cc2_scratch2.sem)
abbrev cBcell (d : Dev nD) (c : Fin τ.nSC) (i : Fin τ.nSub) : GSem nD τ sig := (V d c i, .dma cc2_scoped0.sem)
abbrev cCcell (d : Dev nD) (c : Fin τ.nSC) (i : Fin τ.nSub) : GSem nD τ sig := (V d c i, .dma cc2_scoped1.sem)

omit [FloatOps F] in
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc2_scratch2.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc2_scoped0.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc2_scoped1.sem : SemLoc sig).isScoped .scVector = true; decide⟩⟩⟩)]

omit [FloatOps F] in
theorem ownBufs_V :
    (ownBufs (V d (cV L) (jV L)) : sProp 𝕄)
      = iprop((∃ f, (V d (cV L) (jV L)).loc cc2_scratch0 ↦{fullShare} f) ∗ (∃ f, (V d (cV L) (jV L)).loc cc2_scratch1 ↦{fullShare} f)
          ∗ bigSep (((ownRefs (τ := τ) (.scVector (cV L) (jV L))).erase ((Proc.scVector (cV L) (jV L)).devRef cc2_scratch0)).erase
              ((Proc.scVector (cV L) (jV L)).devRef cc2_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc2_scratch0) rfl)).trans ?_
  rw [SparseCore.bigSep_erase' (Finset.mem_erase.mpr ⟨fun e => absurd (Proc.devRef_injective _ e) (show (cc2_scratch1 : Ref sig .scVector) ≠ cc2_scratch0 by decide),
    SparseCore.Cfg.mem_ownRefs_of_owner (p := Proc.scVector (cV L) (jV L)) (b := (Proc.scVector (cV L) (jV L)).devRef cc2_scratch1) rfl⟩)]

/-- What the block's copy of the list reads: entry `j` of block `t` is the list's at the block's element `j`. -/
theorem read_iBlk (t : Fin k2_t1_loop.trips) (Ib : Buf (Elt F) (iLoc d)) (j : S128.Idx) :
    (iBlk L t).view.read (Elt F) Ib j = Ib ((iBlk L t).view.emb j) := (View.read_apply _ _).trans (cast_eq _ _)

/-- The list as the stream reads it from its scratch, the copy landed. -/
theorem list_read (t : Fin k2_t1_loop.trips) (Ib : Buf (Elt F) (iLoc d)) (fs : Buf (Elt F) ((V d (cV L) (jV L)).loc cc2_scratch0))
    (pay : S128.Idx → Elt F .i32) (hpay : pay = (iBlk L t).view.read (Elt F) Ib) (x : S128.Idx) :
    (sV).view.read (Elt F) (View.write (Elt F) (sV).view fs pay Finset.univ) x = Ib ((iBlk L t).view.emb x) := by
  subst hpay
  rw [View.write_whole_univ]
  simp only [Memref.view_whole, View.read_whole]
  exact read_iBlk d L t Ib x

theorem trips_lt (t : Fin k2_t1_loop.trips) : t.val < 64 := lt_of_lt_of_le t.isLt (by decide)

omit [FloatOps F] in
theorem iBlk_emb (t : Fin k2_t1_loop.trips) (x : S128.Idx) :
    (((iBlk L t).view.emb x) 0).val = 16384 * (L 1).val + 8192 * (L 0).val + 128 * t.val + (x 0).val := by
  show k2_off1 L t 0 + 1 * (x 0).val = _
  rw [k2_off1_eq]
  simp
omit [FloatOps F] in
theorem oBlk_emb (t : Fin k2_t1_loop.trips) (x : S128x128.Idx) :
    (((oBlk L t).view.emb x) 0).val = 16384 * (L 1).val + 8192 * (L 0).val + 128 * t.val + (x 0).val
      ∧ (((oBlk L t).view.emb x) 1).val = (x 1).val := by
  constructor
  · show k2_off2 L t 0 + 1 * (x 0).val = _
    rw [k2_off2_eq]
    simp
  · show k2_off2 L t 1 + 1 * (x 1).val = _
    rw [k2_off2_eq]
    simp

omit [FloatOps F] in
theorem tAll_read (Tb : Buf (Elt F) (tLoc d)) (z : S16384x128.Idx) : (tAll).view.read (Elt F) Tb z = Tb z := by
  refine ((View.read_apply _ _).trans (cast_eq _ _)).trans (congrArg Tb ?_)
  funext a; refine Fin.ext ?_
  match a with
  | 0 => show 0 + 1 * (z 0).val = _; omega
  | 1 => show 0 + 1 * (z 1).val = _; omega

omit [FloatOps F] in
/-- The rows the stream fetches for a block are the result's rows there. -/
theorem gathered_blk (t : Fin k2_t1_loop.trips) (Tb : Buf (Elt F) (tLoc d)) (Ib : Buf (Elt F) (iLoc d))
    (w : S128.Idx → Elt F .i32) (hw : ∀ x, w x = Ib ((iBlk L t).view.emb x))
    (hin : ∀ x, (w x).toNat < S16384x128.size gathers_S16384x128_S128x128.axis) (y : S128x128.Idx) :
    SparseCore.gatherPayload gathers_S16384x128_S128x128 ((tAll).view.read (Elt F) Tb) (SparseCore.rows w rfl hin) y
      = gathered Tb Ib ((oBlk L t).view.emb y) := by
  unfold SparseCore.gatherPayload gathered
  rw [tAll_read]
  refine congrArg Tb ?_
  have hx : S128.rowMajor.symm ((y 0).cast rfl) = (ix1 (y 0) : S128.Idx) := by
    rw [Equiv.symm_apply_eq]
    exact Fin.ext (Shape.rowMajor_val_one (d := ![128]) (ix1 (y 0))).symm
  have he : (iBlk L t).view.emb (ix1 (y 0) : S128.Idx) = (ix1 (((oBlk L t).view.emb y) 0) : S262144.Idx) := by
    funext a; refine Fin.ext ?_
    match a with
    | 0 => rw [iBlk_emb]; exact (oBlk_emb L t y).1.symm
  have hI : w (ix1 (y 0)) = Ib (ix1 (((oBlk L t).view.emb y) 0) : S262144.Idx) := by rw [hw, he]
  funext a; refine Fin.ext ?_
  match a with
  | 0 =>
    have h1 : (gathers_S16384x128_S128x128.idx (SparseCore.rows w rfl hin) y 0).val = (w (S128.rowMajor.symm ((y 0).cast rfl))).toNat := rfl
    rw [h1, hx]
    exact (Nat.mod_eq_of_lt (hin _)).symm.trans (congrArg (fun b : BitVec 32 => b.toNat % 16384) hI)
  | 1 =>
    have h1 := Shape.Gathers.idx_of_ne gathers_S16384x128_S128x128 (SparseCore.rows w rfl hin) y 1 (by decide)
    exact h1.trans (oBlk_emb L t y).2.symm

/-- The loop's invariant at trip `n`: the task's shares of the table and the list, its blocks of the result with the first
    `n` done, the two scratch buffers at anything, the three counters at zero, what the task owes with waits recorded
    beyond `W` at index `none` alone. -/
def inv (Tb : Buf (Elt F) (tLoc d)) (Ib : Buf (Elt F) (iLoc d)) (f0 : Buf (Elt F) (oLoc d))
    (O : CellTallies nD τ sig (HIx 2)) (W : Waits sig (HIx 2)) (n : Nat) (_ : PUnit) : sProp 𝕄 :=
  iprop(Transfers.MayWaits (V d (cV L) (jV L)) (none : HIx 2) O
    ∗ ((tV).view.loc (V d (cV L) (jV L)) ↦{sh L} Tb)
    ∗ ((iV).view.loc (V d (cV L) (jV L)) ↦{sh L} Ib)
    ∗ oTask d L Tb Ib f0 n
    ∗ (∃ f, (sV).view.loc (V d (cV L) (jV L)) ↦{fullShare} f)
    ∗ (∃ f, (rV).view.loc (V d (cV L) (jV L)) ↦{fullShare} f)
    ∗ semVal (cAcell d (cV L) (jV L)) 0 ∗ semVal (cBcell d (cV L) (jV L)) 0 ∗ semVal (cCcell d (cV L) (jV L)) 0
    ∗ ∃ W', ⌜∀ p ∈ W', p ∈ W ∨ p.2 = none⌝ ∗ owes (V d (cV L) (jV L)) O W')

omit [FloatOps F] in
/-- Block `t` taken out of the task's blocks at trip `t`, to be put back done. -/
theorem oTask_step (Tb : Buf (Elt F) (tLoc d)) (Ib : Buf (Elt F) (iLoc d)) (f0 : Buf (Elt F) (oLoc d)) (t : Fin k2_t1_loop.trips) :
    (oTask d L Tb Ib f0 t.val : sProp 𝕄) ⊢ iprop(oBlkPts d L t f0 ∗ (oBlkPts d L t (gathered Tb Ib) -∗ oTask d L Tb Ib f0 (t.val + 1))) := by
  unfold oTask
  rw [SparseCore.bigSep_erase' (Finset.mem_univ t), SparseCore.bigSep_erase' (s := Finset.univ) (Finset.mem_univ t)
    (Φ := fun t' : Fin k2_t1_loop.trips => oBlkPts d L t' (if t'.val < t.val + 1 then gathered Tb Ib else f0)), if_neg (lt_irrefl _), if_pos (Nat.lt_succ_self _)]
  rw [show (bigSep (Finset.univ.erase t) fun t' : Fin k2_t1_loop.trips => (oBlkPts d L t' (if t'.val < t.val then gathered Tb Ib else f0) : sProp 𝕄))
      = bigSep (Finset.univ.erase t) fun t' : Fin k2_t1_loop.trips => oBlkPts d L t' (if t'.val < t.val + 1 then gathered Tb Ib else f0) from
    bigSep_congr fun t' ht' => by
      have hne : t'.val ≠ t.val := fun h => (Finset.mem_erase.mp ht').1 (Fin.ext h)
      rw [if_congr (show t'.val < t.val ↔ t'.val < t.val + 1 by omega) rfl rfl]]
  iintro ⟨H, Hr⟩
  isplitl [H]; · iexact H
  iintro H
  isplitl [H] <;> iassumption

omit [FloatOps F] in
/-- The result's block once the copy has landed: the copied rows, wherever the block reaches. -/
theorem oBlk_written (t : Fin k2_t1_loop.trips) (f0 g : Buf (Elt F) (oLoc d)) (pay : S128x128.Idx → Elt F .f32)
    (h : ∀ y, pay y = g ((oBlk L t).view.emb y)) (z : S262144x128.Idx) (hz : z ∈ oSet L t) :
    (oBlk L t).view.writes (Elt F) f0 [⟨Rect.whole S128x128, pay⟩] z = g z := by
  obtain ⟨y, -, rfl⟩ := Finset.mem_map.mp hz
  show ((oBlk L t).view.slice (Rect.whole S128x128)).write (Elt F) f0 pay Finset.univ ((oBlk L t).view.emb y) = _
  have he : (oBlk L t).view.emb y = ((oBlk L t).view.slice (Rect.whole S128x128)).emb y :=
    congrArg (oBlk L t).view.emb (Rect.emb_whole_apply S128x128 y).symm
  rw [he, View.write_emb_of_mem _ _ (Finset.mem_univ _), ← he, ← h]
  exact cast_eq _ _

set_option maxHeartbeats 4000000 in
/-- One trip. -/
theorem tile_trip (Tb : Buf (Elt F) (tLoc d)) (Ib : Buf (Elt F) (iLoc d)) (f0 : Buf (Elt F) (oLoc d)) (hI : InRows Ib)
    (O : CellTallies nD τ sig (HIx 2)) (W : Waits sig (HIx 2)) (t : Fin k2_t1_loop.trips) (u : Unit) :
    inv d L Tb Ib f0 O W t.val u
      ⊢ wp frame (wpE (defs₀ (F := F)) 𝒱₀ (V d (cV L) (jV L)) none) Set.univ
          (k2_t1_body (F := F) L tV (Memref.isWhole_whole _) iV (Memref.isWhole_whole _) oV (Memref.isWhole_whole _)
            sV (Memref.isWhole_whole _) rV (Memref.isWhole_whole _) cc2_scratch2 cc2_scoped0 cc2_scoped1 t u)
          fun u' => inv d L Tb Ib f0 O W (t.val + 1) u' := by
  unfold inv k2_t1_body
  iintro ⟨#Hmw, Ht, Hi, Ho, ⟨%fs, Hs⟩, ⟨%fr, Hr⟩, HsemA, HsemB, HsemC, %W', %hW', HO⟩
  ihave Ho := (oTask_step d L Tb Ib f0 t) $$ Ho
  icases Ho with ⟨Ho, Hback⟩
  ihave Ho' := (Entails.of_eq (pts_oBlk (F := F) d L t _).symm) $$ Ho
  sl_exec
  have hli : ∀ x, (sV).view.read (Elt F) (View.write (Elt F) (sV).view fs (tile_trip.sl.dma0 d L Ib t) Finset.univ) x = Ib ((iBlk L t).view.emb x) :=
    list_read d L t Ib fs _ rfl
  have hin : ∀ x, ((sV).view.read (Elt F) (View.write (Elt F) (sV).view fs (tile_trip.sl.dma0 d L Ib t) Finset.univ) x).toNat
      < S16384x128.size gathers_S16384x128_S128x128.axis := fun x => by rw [hli]; exact hI _
  ihave Hts := (pointsTo_split_subset (q := sh L) (f := Tb) (S := Finset.univ) (Finset.subset_univ (tAll).view.set)).1 $$ Ht
  icases Hts with ⟨Hts, Htr⟩
  have hrs : (rV).view.set = Finset.univ := View.set_whole _
  have hss : (sV).view.set = Finset.univ := View.set_whole _
  ihave Hr := (Entails.of_eq (show ((rV).view.loc (V d (cV L) (jV L)) ↦{fullShare} fr : sProp 𝕄)
      = (rV).view.loc (V d (cV L) (jV L)) ↦[(rV).view.set]{fullShare} fr by rw [hrs])) $$ Hr
  ihave Hs := (Entails.of_eq (show ((sV).view.loc (V d (cV L) (jV L)) ↦{fullShare} View.write (Elt F) (sV).view fs (tile_trip.sl.dma0 d L Ib t) Finset.univ : sProp 𝕄)
      = (sV).view.loc (V d (cV L) (jV L)) ↦[(sV).view.set]{fullShare} View.write (Elt F) (sV).view fs (tile_trip.sl.dma0 d L Ib t) Finset.univ
      by rw [hss])) $$ Hs
  have hN : ∀ h : S16384x128.Gathers 0 S128x128, ∑ j, ((rV).slice (S128x128.rowRect h.axis' j) (S128x128.stride_rowRect h.axis' j)).view.dmaCredit
      = (rV).view.dmaCredit := by decide
  iapply (SparseCore.wp_indirectGatherLocal countersEmb 𝒱₀ (V d (cV L) (jV L)) none (hg := gathers_S16384x128_S128x128) (default : HIx 2)
      (rV).view.dmaCredit (hN _) (by decide) hin) $$ [Hts Hr Hs HsemA]
  · isplitl [Hts]; · iexact Hts
    isplitl [Hr]; · iexact Hr
    isplitl [Hs]; · iexact Hs
    iexact HsemA
  iintro Hfl
  sl_exec
  iapply (Transfers.wp_waitLocalO countersEmb 𝒱₀ (V d (cV L) (jV L)) none (default : HIx 2) (rfl : (rV).view.dmaCredit = _)) $$ [Hfl HO]
  · isplitl [Hfl]; · iexact Hfl
    isplitl [HO]; · iexact HO
    iapply (Transfers.MayWaits.elim (SemLoc.dma cc2_scratch2.sem)) $$ Hmw
  iintro ⟨⟨Hr, Hts, Hs⟩, HsemA, HO⟩
  ihave Ht := (pointsTo_split_subset (q := sh L) (f := Tb) (S := Finset.univ) (Finset.subset_univ (tAll).view.set)).2 $$ [Hts Htr]; · isplitl [Hts] <;> iassumption
  ihave Hr := (Entails.of_eq (show ((rV).view.loc (V d (cV L) (jV L)) ↦[(rV).view.set]{fullShare} _ : sProp 𝕄)
      = (rV).view.loc (V d (cV L) (jV L)) ↦{fullShare} _ by rw [hrs])) $$ Hr
  ihave Hs := (Entails.of_eq (show ((sV).view.loc (V d (cV L) (jV L)) ↦[(sV).view.set]{fullShare} _ : sProp 𝕄)
      = (sV).view.loc (V d (cV L) (jV L)) ↦{fullShare} _ by rw [hss])) $$ Hs
  sl_exec
  sl_step
  ihave Ho := (Entails.of_eq (pointsTo_congr (ℓ := oLoc d) (q := fullShare) (I := oSet L t)
    (oBlk_written d L t f0 (gathered Tb Ib) (tile_trip.sl.dma0_1 d L Tb Ib t fs fr hin) fun y => by
      show (rV).view.read (Elt F) (View.write (Elt F) (rV).view fr _ Finset.univ) y = _
      rw [View.write_whole_univ]
      simp only [Memref.view_whole, View.read_whole]
      exact gathered_blk d L t Tb Ib _ hli hin y))) $$ Ho'
  ihave Ho := Hback $$ Ho
  isplitr; · iexact Hmw
  isplitl [Ht]; · iexact Ht
  isplitl [Hi]; · iexact Hi
  isplitl [Ho]; · iexact Ho
  isplitl [Hs]; · iexists _; iexact Hs
  isplitl [Hr]; · iexists _; iexact Hr
  isplitl [HsemA]; · iexact HsemA
  isplitl [HsemB]; · iexact HsemB
  isplitl [HsemC]; · iexact HsemC
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

omit [FloatOps F] in
theorem oTask_start (Tb : Buf (Elt F) (tLoc d)) (Ib : Buf (Elt F) (iLoc d)) (f0 : Buf (Elt F) (oLoc d)) :
    (oTask d L Tb Ib f0 0 : sProp 𝕄) = bigSep Finset.univ fun t : Fin k2_t1_loop.trips => oBlkPts d L t f0 :=
  bigSep_congr fun t _ => by rw [if_neg (Nat.not_lt_zero _)]
omit [FloatOps F] in
theorem oTask_end (Tb : Buf (Elt F) (tLoc d)) (Ib : Buf (Elt F) (iLoc d)) (f0 : Buf (Elt F) (oLoc d)) :
    (oTask d L Tb Ib f0 k2_t1_loop.trips : sProp 𝕄) = bigSep Finset.univ fun t : Fin k2_t1_loop.trips => oBlkPts d L t (gathered Tb Ib) :=
  bigSep_congr fun t _ => by rw [if_pos t.isLt]

set_option maxHeartbeats 4000000 in
/-- The task: the 64 trips by the invariant. -/
theorem tile_body (hF : (K (F := F)).Facts) (Tb : Buf (Elt F) (tLoc d)) (Ib : Buf (Elt F) (iLoc d)) (f0 : Buf (Elt F) (oLoc d)) (hI : InRows Ib)
    (O : CellTallies nD τ sig (HIx 2)) (W : Waits sig (HIx 2)) (hO : ∀ g, O g none = 0) :
    iprop(levAts (K (F := F)).L (K (F := F)).lev ∗ emp
        ∗ (tPts d (sh L) Tb ∗ iPts d (sh L) Ib ∗ bigSep Finset.univ fun t : Fin k2_t1_loop.trips => oBlkPts d L t f0)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc2_gk L tV (Memref.isWhole_whole _) iV (Memref.isWhole_whole _) oV (Memref.isWhole_whole _)
            sV (Memref.isWhole_whole _) rV (Memref.isWhole_whole _) cc2_scratch2 cc2_scoped0 cc2_scoped1)
          fun _ => iprop((tPts d (sh L) Tb ∗ iPts d (sh L) Ib ∗ bigSep Finset.univ fun t : Fin k2_t1_loop.trips => oBlkPts d L t (gathered Tb Ib))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc2_gk_eq_skeleton]; unfold cc2_gk_skel
  rw [(K (F := F)).scopedBufs_V hF d (cV L) (jV L), SparseCore.Cfg.scopedSems0_V (Val := Elt F) d (cV L) (jV L), ownSems0_V, ownBufs_V]
  iintro ⟨#Hlv, -, ⟨Ht, Hi, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 2) O from
    (K (F := F)).mayWaits_none (thr := V d (cV L) (jV L)) hO) $$ Hlv
  ihave Ho := (Entails.of_eq (oTask_start (F := F) d L Tb Ib f0).symm) $$ Ho
  ihave Hi := (Entails.of_eq (pts_iV (F := F) d L _ _).symm) $$ Hi
  ihave Ht := (Entails.of_eq (pts_tV (F := F) d L _ _).symm) $$ Ht
  ihave Hs := (Entails.of_eq (pts_sV (F := F) d L _).symm) $$ Hs
  ihave Hr := (Entails.of_eq (pts_rV (F := F) d L _).symm) $$ Hr
  sl_for (inv d L Tb Ib f0 O W) $$ [Hmw Ht Hi Ho Hs Hr HsemA HsemB HsemC HO]
  case region =>
    intro k u
    exact tile_trip d L Tb Ib f0 hI O W k u
  · unfold inv
    isplitl [Hmw]; · iexact Hmw
    isplitl [Ht]; · iexact Ht
    isplitl [Hi]; · iexact Hi
    isplitl [Ho]; · iexact Ho
    isplitl [Hs]; · iexists _; iexact Hs
    isplitl [Hr]; · iexists _; iexact Hr
    isplitl [HsemA]; · iexact HsemA
    isplitl [HsemB]; · iexact HsemB
    isplitl [HsemC]; · iexact HsemC
    iexists W; isplitr
    · ipureintro; exact fun p hp => .inl hp
    · iexact HO
  iintro %_ HI
  unfold inv
  icases HI with ⟨-, Ht, Hi, Ho, ⟨%fs', Hs⟩, ⟨%fr', Hr⟩, HsemA, HsemB, HsemC, %W', %hW', HO⟩
  ihave Ho := (Entails.of_eq (oTask_end (F := F) d L Tb Ib f0)) $$ Ho
  sl_exec
  sl_step
  isplitl [Ht Hi Ho]
  · isplitl [Ht]; · iexact Ht
    isplitl [Hi]; · iexact Hi
    iexact Ho
  isplitl [Hs Hr Hbufs]
  · isplitl [Hs]; · iexists _; iexact Hs
    isplitl [Hr]; · iexists _; iexact Hr
    iexact Hbufs
  isplitl [HsemA HsemB HsemC Hsems]
  · isplitl [HsemA]; · iexact HsemA
    isplitl [HsemB]; · iexact HsemB
    isplitl [HsemC]; · iexact HsemC
    iexact Hsems
  iexists W'; isplitr
  · ipureintro; exact hW'
  · iexact HO

end Tile

def coordsV (c : Fin (grid2.bound 0)) (s : Fin (grid2.bound 1)) : grid2.Coords :=
  fun | 0 => c | 1 => s | ⟨_ + 2, h⟩ => absurd h (Nat.not_lt.2 (Nat.le_add_left _ _))

abbrev LV (c : Fin 2) (i : Fin 16) : grid2.Coords := coordsV c i

abbrev oPts (d : Dev nD) (f : Buf (Elt F) (oLoc d)) : sProp 𝕄 := oLoc d ↦{fullShare} f

/-! ## The cut of the arrays -/

omit [FloatOps F] in
theorem tPts_shares (d : Dev nD) (f : Buf (Elt F) (tLoc d)) :
    (tPts d fullShare f : sProp 𝕄) = bigSep Finset.univ fun c : Fin 2 => bigSep Finset.univ fun i : Fin 16 => tPts d (sh (LV c i)) f :=
  (pointsTo_piecesOf Finset.univ f (by decide : 0 < 2) fullShare).trans
    (bigSep_congr fun c _ => pointsTo_piecesOf Finset.univ f (by decide : 0 < 16) (pieceOf fullShare 2 (by decide) c))
omit [FloatOps F] in
theorem iPts_shares (d : Dev nD) (f : Buf (Elt F) (iLoc d)) :
    (iPts d fullShare f : sProp 𝕄) = bigSep Finset.univ fun c : Fin 2 => bigSep Finset.univ fun i : Fin 16 => iPts d (sh (LV c i)) f :=
  (pointsTo_piecesOf Finset.univ f (by decide : 0 < 2) fullShare).trans
    (bigSep_congr fun c _ => pointsTo_piecesOf Finset.univ f (by decide : 0 < 16) (pieceOf fullShare 2 (by decide) c))

theorem mem_oSet (L : grid2.Coords) (t : Fin k2_t1_loop.trips) (x : S262144x128.Idx) :
    x ∈ oSet L t ↔ 16384 * (L 1).val + 8192 * (L 0).val + 128 * t.val ≤ (x 0).val
      ∧ (x 0).val < 16384 * (L 1).val + 8192 * (L 0).val + 128 * t.val + 128 := by
  constructor
  · intro h
    obtain ⟨y, -, rfl⟩ := Finset.mem_map.mp h
    have h0 := (oBlk_emb L t y).1
    have h1 : (y 0).val < 128 := (y 0).isLt
    exact ⟨by rw [h0]; omega, by rw [h0]; omega⟩
  · rintro ⟨h1, h2⟩
    refine Finset.mem_map.mpr ⟨ValueIdx.ix2 ⟨(x 0).val - (16384 * (L 1).val + 8192 * (L 0).val + 128 * t.val), by omega⟩ (x 1), Finset.mem_univ _, ?_⟩
    funext a; refine Fin.ext ?_
    match a with
    | 0 => exact ((oBlk_emb L t _).1).trans (by show _ + ((x 0).val - _) = _; omega)
    | 1 => exact (oBlk_emb L t _).2

abbrev oPart (p : Fin 2 × Fin 16 × Fin k2_t1_loop.trips) : Finset S262144x128.Idx := oSet (LV p.1 p.2.1) p.2.2

theorem oParts_disjoint : ∀ p ∈ (Finset.univ : Finset (Fin 2 × Fin 16 × Fin k2_t1_loop.trips)), ∀ p' ∈ (Finset.univ : Finset (Fin 2 × Fin 16 × Fin k2_t1_loop.trips)),
    p ≠ p' → Disjoint (oPart p) (oPart p') := by
  rintro ⟨c, i, t⟩ - ⟨c', i', t'⟩ - hne
  refine Finset.disjoint_left.mpr fun x hx hx' => hne ?_
  have hx : 16384 * i.val + 8192 * c.val + 128 * t.val ≤ (x 0).val ∧ (x 0).val < 16384 * i.val + 8192 * c.val + 128 * t.val + 128 :=
    (mem_oSet (LV c i) t x).mp hx
  have hx' : 16384 * i'.val + 8192 * c'.val + 128 * t'.val ≤ (x 0).val ∧ (x 0).val < 16384 * i'.val + 8192 * c'.val + 128 * t'.val + 128 :=
    (mem_oSet (LV c' i') t' x).mp hx'
  have ht := trips_lt t; have ht' := trips_lt t'
  have hc := c.isLt; have hc' := c'.isLt
  have h1 : i = i' := Fin.ext (by omega)
  have h2 : c = c' := Fin.ext (by omega)
  have h3 : t = t' := Fin.ext (by omega)
  rw [h1, h2, h3]

set_option maxRecDepth 16384 in
theorem oParts_cover : (Finset.univ : Finset (Fin 2 × Fin 16 × Fin k2_t1_loop.trips)).biUnion oPart = Finset.univ := by
  refine Finset.eq_univ_of_forall fun x => ?_
  rw [Finset.mem_biUnion]
  have hx : (x 0).val < 262144 := idx2_lt0 (n0 := 262144) (n1 := 128) x
  refine ⟨(⟨(x 0).val / 8192 % 2, by omega⟩, ⟨(x 0).val / 16384, by omega⟩, ⟨(x 0).val / 128 % 64, lt_of_lt_of_le (Nat.mod_lt _ (by decide)) (by decide)⟩), Finset.mem_univ _, ?_⟩
  rw [mem_oSet]
  show 16384 * ((x 0).val / 16384) + 8192 * ((x 0).val / 8192 % 2) + 128 * ((x 0).val / 128 % 64) ≤ (x 0).val
    ∧ (x 0).val < 16384 * ((x 0).val / 16384) + 8192 * ((x 0).val / 8192 % 2) + 128 * ((x 0).val / 128 % 64) + 128
  omega

omit [FloatOps F] in
theorem oPts_parts (d : Dev nD) (f : Buf (Elt F) (oLoc d)) :
    (oPts d f : sProp 𝕄) = bigSep Finset.univ fun c : Fin 2 => bigSep Finset.univ fun i : Fin 16 =>
      bigSep Finset.univ fun t : Fin k2_t1_loop.trips => oBlkPts d (LV c i) t f := by
  have h : (oPts d f : sProp 𝕄) = bigSep Finset.univ fun p : Fin 2 × Fin 16 × Fin k2_t1_loop.trips => oLoc d ↦[oPart p]{fullShare} f := by
    rw [← pointsTo_biUnion Finset.univ (ℓ := oLoc d) oPart oParts_disjoint, oParts_cover]
  rw [h, bigSep_univ_prod]
  exact bigSep_congr fun c _ => bigSep_univ_prod _

/-! ## What the handshakes carry -/

variable (Tb : (d : Dev nD) → Buf (Elt F) (tLoc d)) (Ib : (d : Dev nD) → Buf (Elt F) (iLoc d)) (f0 : (d : Dev nD) → Buf (Elt F) (oLoc d))

/-- What a task takes, … -/
abbrev goT (d : Dev nD) (c : Fin 2) (i : Fin 16) : sProp 𝕄 :=
  iprop(tPts d (sh (LV c i)) (Tb d) ∗ iPts d (sh (LV c i)) (Ib d) ∗ bigSep Finset.univ fun t : Fin k2_t1_loop.trips => oBlkPts d (LV c i) t (f0 d))
/-- … and brings back. -/
abbrev tdT (d : Dev nD) (c : Fin 2) (i : Fin 16) : sProp 𝕄 :=
  iprop(tPts d (sh (LV c i)) (Tb d) ∗ iPts d (sh (LV c i)) (Ib d) ∗ bigSep Finset.univ fun t : Fin k2_t1_loop.trips => oBlkPts d (LV c i) t (gathered (Tb d) (Ib d)))

theorem st_eq (d : Dev nD) : (bigSep Finset.univ fun c : Fin 2 => bigSep Finset.univ fun i : Fin 16 => goT Tb Ib f0 d c i)
    = (iprop(tPts d fullShare (Tb d) ∗ iPts d fullShare (Ib d) ∗ oPts d (f0 d)) : sProp 𝕄) := by
  rw [tPts_shares, iPts_shares, oPts_parts]
  simp only [goT, bigSep_sep']
theorem dn_eq (d : Dev nD) : (bigSep Finset.univ fun c : Fin 2 => bigSep Finset.univ fun i : Fin 16 => tdT Tb Ib d c i)
    = (iprop(tPts d fullShare (Tb d) ∗ iPts d fullShare (Ib d) ∗ oPts d (gathered (Tb d) (Ib d))) : sProp 𝕄) := by
  rw [tPts_shares, iPts_shares, oPts_parts]
  simp only [tdT, bigSep_sep']

end Cert.Proof.Tail.G0

end
-- ==== Proof.Call.lean ====
/-
  The two calls of the gathers: what the handshakes carry, and each task's obligation. Stated for any tables, lists and old
  contents of the results, so that @main's proof says which.
-/
module

public import proofs.«01_k».proof.Proof.Region
public import proofs.«01_k».proof.Proof.Gather1
public import proofs.«01_k».proof.Proof.Gather0

@[expose] public section

noncomputable section

namespace Cert.Proof.Tail

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-! ## What the handshakes carry -/

variable (T1 : (d : Dev nD) → Buf (Elt F) (G1.tLoc d)) (I1 : (d : Dev nD) → Buf (Elt F) (G1.iLoc d)) (f1 : (d : Dev nD) → Buf (Elt F) (G1.oLoc d))
  (T0 : (d : Dev nD) → Buf (Elt F) (G0.tLoc d)) (I0 : (d : Dev nD) → Buf (Elt F) (G0.iLoc d)) (f0 : (d : Dev nD) → Buf (Elt F) (G0.oLoc d))

def P : (K (F := F)).Pay (nD := nD) (Val := Elt F) (Name := ℕ) (U := UU) where
  st := fun q d c => match q with
    | 0 => bigSep Finset.univ fun i : Fin 16 => G1.goT T1 I1 f1 d c i
    | 1 => bigSep Finset.univ fun i : Fin 16 => G0.goT T0 I0 f0 d c i
  dn := fun q d c => match q with
    | 0 => bigSep Finset.univ fun i : Fin 16 => G1.tdT T1 I1 d c i
    | 1 => bigSep Finset.univ fun i : Fin 16 => G0.tdT T0 I0 d c i
  go := fun q d c i => match q with
    | 0 => G1.goT T1 I1 f1 d c i
    | 1 => G0.goT T0 I0 f0 d c i
  td := fun q d c i => match q with
    | 0 => G1.tdT T1 I1 d c i
    | 1 => G0.tdT T0 I0 d c i
  x := fun _ _ => iprop(emp)

instance P_storable : (P T1 I1 f1 T0 I0 f0).IsStorable where
  st q d c := match q with
    | 0 => (inferInstance : BI.Storable (upEmb : UEmb _ 𝕄) (bigSep Finset.univ fun i : Fin 16 => G1.goT T1 I1 f1 d c i))
    | 1 => (inferInstance : BI.Storable (upEmb : UEmb _ 𝕄) (bigSep Finset.univ fun i : Fin 16 => G0.goT T0 I0 f0 d c i))
  dn q d c := match q with
    | 0 => (inferInstance : BI.Storable (upEmb : UEmb _ 𝕄) (bigSep Finset.univ fun i : Fin 16 => G1.tdT T1 I1 d c i))
    | 1 => (inferInstance : BI.Storable (upEmb : UEmb _ 𝕄) (bigSep Finset.univ fun i : Fin 16 => G0.tdT T0 I0 d c i))
  go q d c i := match q with
    | 0 => (inferInstance : BI.Storable (upEmb : UEmb _ 𝕄) (G1.goT T1 I1 f1 d c i))
    | 1 => (inferInstance : BI.Storable (upEmb : UEmb _ 𝕄) (G0.goT T0 I0 f0 d c i))
  td q d c i := match q with
    | 0 => (inferInstance : BI.Storable (upEmb : UEmb _ 𝕄) (G1.tdT T1 I1 d c i))
    | 1 => (inferInstance : BI.Storable (upEmb : UEmb _ 𝕄) (G0.tdT T0 I0 d c i))

theorem vecSplit0 : (K (F := F)).VecSplit' (P T1 I1 f1 T0 I0 f0) 0 := by
  intro d c
  show (bigSep Finset.univ fun i : Fin 16 => G1.goT T1 I1 f1 d c i) ⊢ |={Set.univ}=> iprop(
      (bigSep Finset.univ fun i : Fin 16 => G1.goT T1 I1 f1 d c i)
      ∗ ((bigSep Finset.univ fun i : Fin 16 => G1.tdT T1 I1 d c i) -∗ bigSep Finset.univ fun i : Fin 16 => G1.tdT T1 I1 d c i))
  iintro H; imodintro
  isplitl [H]; · iexact H
  iintro H; iexact H

theorem vecSplit1 : (K (F := F)).VecSplit' (P T1 I1 f1 T0 I0 f0) 1 := by
  intro d c
  show (bigSep Finset.univ fun i : Fin 16 => G0.goT T0 I0 f0 d c i) ⊢ |={Set.univ}=> iprop(
      (bigSep Finset.univ fun i : Fin 16 => G0.goT T0 I0 f0 d c i)
      ∗ ((bigSep Finset.univ fun i : Fin 16 => G0.tdT T0 I0 d c i) -∗ bigSep Finset.univ fun i : Fin 16 => G0.tdT T0 I0 d c i))
  iintro H; imodintro
  isplitl [H]; · iexact H
  iintro H; iexact H

theorem st0_eq (d : Dev nD) : (bigSep Finset.univ fun c : Fin ((K (F := F)).nCore 0) => (P T1 I1 f1 T0 I0 f0).st 0 d c)
    = iprop(G1.tPts d fullShare (T1 d) ∗ G1.iPts d fullShare (I1 d) ∗ G1.oPts d (f1 d)) := G1.st_eq T1 I1 f1 d
theorem dn0_eq (d : Dev nD) : (bigSep Finset.univ fun c : Fin ((K (F := F)).nCore 0) => (P T1 I1 f1 T0 I0 f0).dn 0 d c)
    = iprop(G1.tPts d fullShare (T1 d) ∗ G1.iPts d fullShare (I1 d) ∗ G1.oPts d (G1.gathered (T1 d) (I1 d))) := G1.dn_eq T1 I1 d
theorem st1_eq (d : Dev nD) : (bigSep Finset.univ fun c : Fin ((K (F := F)).nCore 1) => (P T1 I1 f1 T0 I0 f0).st 1 d c)
    = iprop(G0.tPts d fullShare (T0 d) ∗ G0.iPts d fullShare (I0 d) ∗ G0.oPts d (f0 d)) := G0.st_eq T0 I0 f0 d
theorem dn1_eq (d : Dev nD) : (bigSep Finset.univ fun c : Fin ((K (F := F)).nCore 1) => (P T1 I1 f1 T0 I0 f0).dn 1 d c)
    = iprop(G0.tPts d fullShare (T0 d) ∗ G0.iPts d fullShare (I0 d) ∗ G0.oPts d (G0.gathered (T0 d) (I0 d))) := G0.dn_eq T0 I0 d

/-! ## The obligations -/

omit [FloatOps F] in
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem defs₀_vector0 (c : Fin τ.nSC) (s : Fin τ.nSub) :
    defs₀ (F := F) (.scVector c s) 0 ()
      = SparseCore.onTile hcore0 hsub0 (fun c s => cc0_gk (G1.coordsV c s)
          (Memref.whole main_v6_scv) (Memref.isWhole_whole _) (Memref.whole main_v7_scv) (Memref.isWhole_whole _) (Memref.whole main_v8_scv) (Memref.isWhole_whole _)
          (Memref.whole cc0_scratch0) (Memref.isWhole_whole _) (Memref.whole cc0_scratch1) (Memref.isWhole_whole _) cc0_scratch2 cc0_scoped0 cc0_scoped1) ⟨⟩ c s := rfl

set_option maxRecDepth 16384 in
theorem tileObl0 (hI : ∀ d, G1.InRows (I1 d)) : (K (F := F)).TileObl (D (F := F)) 𝒱 (P T1 I1 f1 T0 I0 f0) v₀ 0 := by
  intro d c i O W hO _ _
  simp only [show (P T1 I1 f1 T0 I0 f0).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector0]; simp only [SparseCore.onTile, hci, and_self, ↓reduceDIte]
  exact (G1.tile_body d (G1.coordsV ⟨_, hci.1⟩ ⟨_, hci.2⟩) facts (T1 d) (I1 d) (f1 d) (hI d) O W hO).trans (wp_mono frame _ _ fun _ => obl_post)

theorem defs₀_vector1 (c : Fin τ.nSC) (s : Fin τ.nSub) :
    defs₀ (F := F) (.scVector c s) 2 ()
      = SparseCore.onTile hcore2 hsub2 (fun c s => cc2_gk (G0.coordsV c s)
          (Memref.whole main_v21_scv) (Memref.isWhole_whole _) (Memref.whole main_v22_scv) (Memref.isWhole_whole _) (Memref.whole main_v23_scv) (Memref.isWhole_whole _)
          (Memref.whole cc2_scratch0) (Memref.isWhole_whole _) (Memref.whole cc2_scratch1) (Memref.isWhole_whole _) cc2_scratch2 cc2_scoped0 cc2_scoped1) ⟨⟩ c s := rfl

set_option maxRecDepth 16384 in
theorem tileObl1 (hI : ∀ d, G0.InRows (I0 d)) : (K (F := F)).TileObl (D (F := F)) 𝒱 (P T1 I1 f1 T0 I0 f0) v₀ 1 := by
  intro d c i O W hO _ _
  simp only [show (P T1 I1 f1 T0 I0 f0).ox = fun _ _ => 0 from rfl, add_zero]
  have hci : ((K (F := F)).core 1 c).val < grid2.bound 0 ∧ ((K (F := F)).sub 1 i).val < grid2.bound 1 := ⟨c.isLt, i.isLt⟩
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  rw [defs₀_vector1]; simp only [SparseCore.onTile, hci, and_self, ↓reduceDIte]
  exact (G0.tile_body d (G0.coordsV ⟨_, hci.1⟩ ⟨_, hci.2⟩) facts (T0 d) (I0 d) (f0 d) (hI d) O W hO).trans (wp_mono frame _ _ fun _ => obl_post)

/-! ## The launch element of the certificate's ghost state -/

abbrev pcells : Finset (GSem nD τ sig) := Pipeline.cells (Pipeline.pin (pcfgs (F := F)) adm) cellOf_inj
abbrev ptoks : Finset (GSem nD τ sig × ℕ × Unit) := Pipeline.launchToks (Pipeline.pin (pcfgs (F := F)) adm) cellOf_inj

def u₀ : UU := (initOf (K (F := F)).hsCells (K (F := F)).hsToks, (initOf (pcells (F := F)) (ptoks (F := F)), 1))

/-- What the launch deals a device's @main for the two regions' staging cells. -/
def G (d : Dev nD) : sProp 𝕄 :=
  iprop((bigSep Finset.univ fun p : Fin 2 => Pipeline.cellsGhost (Pipeline.pin (pcfgs (F := F)) adm) EP p d)
    ∗ bigSep Finset.univ fun p : Fin 2 => Pipeline.toksInit (Pipeline.pin (pcfgs (F := F)) adm) EP p d)

omit [FloatOps F] in
theorem bigSep_nothing {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ (G (F := F)))
        ∗ bigSep Finset.univ fun thr : Thread nD τ => bigSep Finset.univ fun q : Fin 2 => (P T1 I1 f1 T0 I0 f0).x q thr) := by
  unfold u₀
  iintro Hu
  ihave H := (ownU_pair (initOf (K (F := F)).hsCells (K (F := F)).hsToks) (initOf (pcells (F := F)) (ptoks (F := F)), (1 : Counters))) $$ Hu
  icases H with ⟨HH, HR⟩
  ihave H2 := (own_pair_emb (F := embR) (initOf (pcells (F := F)) (ptoks (F := F))) (1 : Counters)) $$ HR
  icases H2 with ⟨HP0, -⟩
  ihave HP := (show (BI.own (((Emb.inl : Emb UP (UP × Counters)).trans embR) (initOf (pcells (F := F)) (ptoks (F := F)))) : sProp 𝕄)
    ⊢ BI.own (EP (initOf (pcells (F := F)) (ptoks (F := F)))) from BI.Entails.refl _) $$ HP0
  imod (Pipeline.fund_ghost (Pipeline.pin (pcfgs (F := F)) adm) EP cellOf_inj) $$ HP with ⟨Hg, Ht⟩
  imodintro
  isplitl [HH]; · iexact HH
  isplitl [Hg Ht]
  · unfold G
    rw [BI.bigSep_sep']
    isplitl [Hg] <;> iassumption
  rw [show (bigSep Finset.univ fun thr : Thread nD τ => bigSep Finset.univ fun q : Fin 2 => (P T1 I1 f1 T0 I0 f0).x q thr) = bigSep Finset.univ fun _ => iprop(emp) from
    bigSep_congr fun _ _ => bigSep_nothing _, bigSep_nothing]
  iempintro

end Cert.Proof.Tail

end
-- ==== Proof.Fine1Run.lean ====
/-
  The second finest level's kernel: its body run once on any staging buffers.
-/
module

public import proofs.«01_k».proof.Proof.Base
public import Idealize.ShloMosaic.Lib.Pipeline.Kit
public import Idealize.ShloMosaic.Lib.Pipeline.Regions
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Pipeline.Value
public import Idealize.ShloMosaic.Lib.Pointwise

@[expose] public section

set_option maxRecDepth 16384

noncomputable section

namespace Cert.Proof.Tail.F1

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

section Body

variable (i : grid1.Coords) (A2 : Memref sig .tc .vmem S1x64x4x16 .f32) (h2 : A2.IsWhole) (A3 : Memref sig .tc .vmem S1x64x16x128 .f32) (h3 : A3.IsWhole)
  (A4 : Memref sig .tc .vmem S1x64x16 .f32) (h4 : A4.IsWhole) (A5 : Memref sig .tc .vmem S1x64x16 .i32) (h5 : A5.IsWhole)
  (A6 : Memref sig .tc .smem S3 .f32) (h6 : A6.IsWhole)
  (A7 : Memref sig .tc .vmem S1x64x4x16 .f32) (h7 : A7.IsWhole) (A8 : Memref sig .tc .vmem S1x64x4x16 .i32) (h8 : A8.IsWhole)
  (x0 : Vec F S1x64x4x16 .f32) (x1 : Vec F S1x64x16x128 .f32) (x2 : Vec F S1x64x16 .f32) (x3 : Vec F S1x64x16 .i32) (x4 : Vec F S3 .f32)

/-- The five inputs' staging buffers at given contents. -/
abbrev inputs (c : Dev nD) : sProp 𝕄 :=
  iprop(owns (c : Thread nD τ) A2 fullShare x0 ∗ owns (c : Thread nD τ) A3 fullShare x1 ∗ owns (c : Thread nD τ) A4 fullShare x2
    ∗ owns (c : Thread nD τ) A5 fullShare x3 ∗ owns (c : Thread nD τ) A6 fullShare x4)

set_option maxHeartbeats 2000000 in
/-- What the body stores into its two results' staging buffers, found by running it: the inputs' buffers are left as they were. -/
def fineRun (c : Dev nD) : Σ' (Ws : List (View.Piece (Elt F) S1x64x4x16 .f32)), { Ns : List (View.Piece (Elt F) S1x64x4x16 .i32) // ∀ (E : Set ℕ) (Q : PUnit → sProp 𝕄),
    iprop(inputs A2 A3 A4 A5 A6 x0 x1 x2 x3 x4 c ∗ (∃ x, owns (c : Thread nD τ) A7 fullShare x) ∗ (∃ x, owns (c : Thread nD τ) A8 fullShare x)
        ∗ (iprop(inputs A2 A3 A4 A5 A6 x0 x1 x2 x3 x4 c ∗ (∃ f, A7.view.loc (c : Thread nD τ) ↦[A7.view.set]{fullShare} A7.view.writes (Elt F) f Ws)
            ∗ (∃ f, A8.view.loc (c : Thread nD τ) ↦[A8.view.set]{fullShare} A8.view.writes (Elt F) f Ns)) -∗ Q ⟨⟩))
      ⊢ wp frame (wpE (defs₀ (F := F)) 𝒱₀ c none) E (cc1__fine1_body i A2 h2 A3 h3 A4 h4 A5 h5 A6 h6 A7 h7 A8 h8) Q } := by
  refine ⟨?_, ?_, fun E Q => ?go⟩
  case go =>
    simp only [cc1__fine1_body_eq_skeleton]; unfold cc1__fine1_body_skel
    simp only [k1_part56_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton, k1_part47_eq_skeleton, k1_part48_eq_skeleton, k1_part49_eq_skeleton, k1_part50_eq_skeleton, k1_part51_eq_skeleton, k1_part52_eq_skeleton, k1_part53_eq_skeleton, k1_part54_eq_skeleton, k1_part55_eq_skeleton]
    unfold inputs owns
    iintro ⟨⟨⟨%f0, %e0, H0⟩, ⟨%f1, %e1, H1⟩, ⟨%f2, %e2, H2⟩, ⟨%f3, %e3, H3⟩, ⟨%f4, %e4, H4⟩⟩, ⟨%x, %f5, -, H5⟩, ⟨%y, %f6, -, H6⟩, Hk⟩
    obtain rfl := h2.eq_unread e0; obtain rfl := h3.eq_unread e1; obtain rfl := h4.eq_unread e2; obtain rfl := h5.eq_unread e3; obtain rfl := h6.eq_unread e4
    sl_exec
    sl_step
    iapply Hk
    isplitl [H0 H1 H2 H3 H4]
    · isplitl [H0]; · iexists _; isplitr; · ipureintro; exact h2.read_unread _
                      iexact H0
      isplitl [H1]; · iexists _; isplitr; · ipureintro; exact h3.read_unread _
                      iexact H1
      isplitl [H2]; · iexists _; isplitr; · ipureintro; exact h4.read_unread _
                      iexact H2
      isplitl [H3]; · iexists _; isplitr; · ipureintro; exact h5.read_unread _
                      iexact H3
      iexists _; isplitr; · ipureintro; exact h6.read_unread _
      iexact H4
    isplitl [H5]; · iexists _; iexact H5
    iexists _; iexact H6

theorem fineRun_cover5 (c : Dev nD) (y : S1x64x4x16.Idx) :
    ∃ pc ∈ (fineRun i A2 h2 A3 h3 A4 h4 A5 h5 A6 h6 A7 h7 A8 h8 x0 x1 x2 x3 x4 c).1, y ∈ pc.1.set :=
  View.cover_of_tiledL (fineRun i A2 h2 A3 h3 A4 h4 A5 h5 A6 h6 A7 h7 A8 h8 x0 x1 x2 x3 x4 c).1 S1x64x4x16.size (by sl_kernel_rfl) y
theorem fineRun_cover6 (c : Dev nD) (y : S1x64x4x16.Idx) :
    ∃ pc ∈ (fineRun i A2 h2 A3 h3 A4 h4 A5 h5 A6 h6 A7 h7 A8 h8 x0 x1 x2 x3 x4 c).2.1, y ∈ pc.1.set :=
  View.cover_of_tiledL (fineRun i A2 h2 A3 h3 A4 h4 A5 h5 A6 h6 A7 h7 A8 h8 x0 x1 x2 x3 x4 c).2.1 S1x64x4x16.size (by sl_kernel_rfl) y

end Body

end Cert.Proof.Tail.F1

end
-- ==== Proof.Round.lean ====
/-
  One round of the second finest level's choice of candidates, in the vector operations the kernel's body applies: the first
  position of the greatest score left, the cell it names at the level below, and the scores with that position struck out.
  The body's text repeats the round sixteen times.
-/
module

public import proofs.«01_k».proof.Proof.Base

@[expose] public section

noncomputable section

namespace Cert.Proof.Tail.F1

open Cert.KernelIdeal Cert.KernelIdeal.Gen

open Idealize.ShloMosaic

variable {F : FTy → Type} [FloatOps F]

/-- The positions along the candidates, … -/
abbrev places : IVec S64x4x64 32 := iota .tc S64x4x64 32 [2] iota_S64x4x64_d2_w32
/-- … and along the parents. -/
abbrev ranks : IVec S64x4x16 32 := iota .tc S64x4x16 32 [2] iota_S64x4x16_d2_w32

/-- Division rounded down, by a constant. -/
def floorDiv (v : IVec S64x4 32) (c : BitVec 32) : IVec S64x4 32 :=
  select (andi (cmpi .ne (subi (extui 32 (cmpi .sgt v (broadcast S64x4 0#32)) natLt_1_32) (extui 32 (cmpi .slt v (broadcast S64x4 0#32)) natLt_1_32))
        (broadcast S64x4 (Scalar.subi (Scalar.extui (Scalar.cmpi .sgt c 0#32)) (Scalar.extui (Scalar.cmpi .slt c 0#32)))))
      (cmpi .ne (remsi v (broadcast S64x4 c)) (broadcast S64x4 0#32)))
    (subi (divsi v (broadcast S64x4 c)) (broadcast S64x4 1#32)) (divsi v (broadcast S64x4 c))

/-- The remainder of that division. -/
def floorMod (v : IVec S64x4 32) (c : BitVec 32) : IVec S64x4 32 :=
  select (andi (xori (cmpi .slt (remsi v (broadcast S64x4 (Scalar.select (Scalar.cmpi .eq c 0#32) 1#32 c))) (broadcast S64x4 0#32))
        (broadcastTo S64x4 (broadcast S64x4 (Scalar.cmpi .slt (Scalar.select (Scalar.cmpi .eq c 0#32) 1#32 c) 0#32)) broadcasts_S64x4_S64x4))
      (cmpi .ne (remsi v (broadcast S64x4 (Scalar.select (Scalar.cmpi .eq c 0#32) 1#32 c))) (broadcast S64x4 0#32)))
    (addi (remsi v (broadcast S64x4 (Scalar.select (Scalar.cmpi .eq c 0#32) 1#32 c))) (broadcast S64x4 (Scalar.select (Scalar.cmpi .eq c 0#32) 1#32 c)))
    (remsi v (broadcast S64x4 (Scalar.select (Scalar.cmpi .eq c 0#32) 1#32 c)))

/-- The first position of the greatest score left. -/
def pick (w : FVec F S64x4x64 .f32) : IVec S64x4 32 :=
  multiReductionI .minsi [2] S64x4
    (select (cmpf .oeq w (broadcastTo S64x4x64 (shapeCast S64x4x1 (multiReduction .maximumf [2] S64x4 w 0xFF800000#32 reduces_S64x4x64_S64x4 (.inl rfl) rfl)
        shapeCasts_S64x4_S64x4x1) broadcasts_S64x4x1_S64x4x64)) places (broadcast S64x4x64 128#32))
    2147483647#32 reduces_S64x4x64_S64x4 rfl

/-- The scores with a position struck out. -/
def strike (w : FVec F S64x4x64 .f32) (j : IVec S64x4 32) : FVec F S64x4x64 .f32 :=
  select (cmpi .eq places (broadcastTo S64x4x64 (shapeCast S64x4x1 j shapeCasts_S64x4_S64x4x1) broadcasts_S64x4x1_S64x4x64))
    (broadcast S64x4x64 (Scalar.ofBits .f32 0xF149F2CA#32)) w

/-- The parent of a rank, off the parents' list. -/
def parentOf (l : IVec S64x16 32) (r : IVec S64x4 32) : IVec S64x4 32 :=
  multiReductionI .add [2] S64x4
    (select (cmpi .eq (broadcastTo S64x4x16 (shapeCast S64x4x1 r shapeCasts_S64x4_S64x4x1) broadcasts_S64x4x1_S64x4x16) ranks)
      (broadcastTo S64x4x16 (shapeCast S64x1x16 (shapeCast S64x1x16 l shapeCasts_S64x16_S64x1x16) shapeCasts_S64x1x16_S64x1x16) broadcasts_S64x1x16_S64x4x16)
      (broadcast S64x4x16 0#32))
    0#32 reduces_S64x4x16_S64x4 rfl

/-- The row of the table below that a parent's quadrant names. -/
def rowOf (b : BitVec 32) (p s : IVec S64x4 32) : IVec S64x4 32 :=
  addi (addi (addi (muli (addi (muli (broadcast S64x4 2#32) (floorDiv p 16#32)) (floorDiv s 2#32)) (broadcast S64x4 32#32))
      (muli (broadcast S64x4 2#32) (floorMod p 16#32))) (floorMod s 2#32))
    (broadcast S64x4 (Scalar.muli b 1024#32))

/-- The row the round writes, from the position it picks. -/
def choice (b : BitVec 32) (l : IVec S64x16 32) (j : IVec S64x4 32) : IVec S64x4 32 := rowOf b (parentOf l (floorDiv j 4#32)) (floorMod j 4#32)

/-- The scores left after `n` rounds. -/
def left (w : FVec F S64x4x64 .f32) : ℕ → FVec F S64x4x64 .f32
  | 0 => w
  | n + 1 => strike (left w n) (pick (left w n))

/-- The row round `n` writes. -/
def chosen (b : BitVec 32) (l : IVec S64x16 32) (w : FVec F S64x4x64 .f32) (n : ℕ) : IVec S64x4 32 := choice b l (pick (left w n))

end Cert.Proof.Tail.F1

end
-- ==== Proof.Fine1.lean ====
/-
  The second finest level's kernel as a region: what its body stores in closed form, the pipeline's proof data at any
  contents of the arrays and any tallies owed, and the body's obligation at every point of the grid.
-/
module

public import proofs.«01_k».proof.Proof.Layout
public import proofs.«01_k».proof.Proof.Fine1Run
public import proofs.«01_k».proof.Proof.Round
public import Idealize.ShloMosaic.Lib.Pipeline.Kit
public import Idealize.ShloMosaic.Lib.Pipeline.Regions
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Pipeline.Value
public import Idealize.ShloMosaic.Lib.Pointwise

@[expose] public section

set_option maxRecDepth 16384

noncomputable section

namespace Cert.Proof.Tail.F1

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

theorem bigSep_W {M : Type} [URA M] (Φ : Fin 7 → sProp M) : bigSep Finset.univ Φ = iprop(Φ 0 ∗ Φ 1 ∗ Φ 2 ∗ Φ 3 ∗ Φ 4 ∗ Φ 5 ∗ Φ 6) :=
  bigSep_univ_eq_bigSepL [(0 : Fin 7), 1, 2, 3, 4, 5, 6] (by decide) (by decide) Φ

/-! ## What the body stores -/

/-- The messages handed on: what was carried before and this level's own, weighted. -/
def carriedOf (x0 : Vec F S1x64x4x16 .f32) (x1 : Vec F S1x64x16x128 .f32) (x2 : Vec F S1x64x16 .f32) (x4 : Vec F S3 .f32) : Vec F S1x64x4x16 .f32 :=
  k1_pay12 (k1_pay5 x0 x1) (k1_pay10 (x4 (ix1 0)) (x4 (ix1 1)) (x4 (ix1 2))) (k1_pay11 (x4 (ix1 0)) (x4 (ix1 1)) (x4 (ix1 2))) x2

/-- The sixteen columns side by side. -/
def columns (f : ℕ → IVec S64x4 32) : Vec F S1x64x4x16 .i32 :=
  k1_pay2 (f 0) (f 1) (f 2) (f 3) (f 4) (f 5) (f 6) (f 7) (f 8) (f 9) (f 10) (f 11) (f 12) (f 13) (f 14) (f 15)

/-- The rows chosen for the level below. -/
def chosenOf (b : BitVec 32) (x0 : Vec F S1x64x4x16 .f32) (x1 : Vec F S1x64x16x128 .f32) (x3 : Vec F S1x64x16 .i32) : Vec F S1x64x4x16 .i32 :=
  columns (F := F) (chosen b (k1_pay13 b x3) (k1_pay4 x0 x1))

section Body

variable (i : grid1.Coords) (A2 : Memref sig .tc .vmem S1x64x4x16 .f32) (h2 : A2.IsWhole) (A3 : Memref sig .tc .vmem S1x64x16x128 .f32) (h3 : A3.IsWhole)
  (A4 : Memref sig .tc .vmem S1x64x16 .f32) (h4 : A4.IsWhole) (A5 : Memref sig .tc .vmem S1x64x16 .i32) (h5 : A5.IsWhole)
  (A6 : Memref sig .tc .smem S3 .f32) (h6 : A6.IsWhole)
  (A7 : Memref sig .tc .vmem S1x64x4x16 .f32) (h7 : A7.IsWhole) (A8 : Memref sig .tc .vmem S1x64x4x16 .i32) (h8 : A8.IsWhole)
  (x0 : Vec F S1x64x4x16 .f32) (x1 : Vec F S1x64x16x128 .f32) (x2 : Vec F S1x64x16 .f32) (x3 : Vec F S1x64x16 .i32) (x4 : Vec F S3 .f32)

/-- The views the stored pieces are read back through: any whole buffers would do. -/
abbrev VO5 : View sig .tc .vmem S1x64x4x16 .f32 := (Memref.whole cc1_stg5_0 : Memref sig .tc .vmem S1x64x4x16 .f32).view
abbrev VO6 : View sig .tc .vmem S1x64x4x16 .i32 := (Memref.whole cc1_stg6_0 : Memref sig .tc .vmem S1x64x4x16 .i32).view

/-- What the body leaves in its results' staging buffers. -/
def fineOut5 (c : Dev nD) : Vec F S1x64x4x16 .f32 :=
  VO5.read (Elt F) (VO5.writes (Elt F) VO5.junk (fineRun i A2 h2 A3 h3 A4 h4 A5 h5 A6 h6 A7 h7 A8 h8 x0 x1 x2 x3 x4 c).1)
def fineOut6 (c : Dev nD) : Vec F S1x64x4x16 .i32 :=
  VO6.read (Elt F) (VO6.writes (Elt F) VO6.junk (fineRun i A2 h2 A3 h3 A4 h4 A5 h5 A6 h6 A7 h7 A8 h8 x0 x1 x2 x3 x4 c).2.1)

theorem fineOut5_eq (c : Dev nD) : fineOut5 i A2 h2 A3 h3 A4 h4 A5 h5 A6 h6 A7 h7 A8 h8 x0 x1 x2 x3 x4 c = carriedOf x0 x1 x2 x4 := by
  have z3 : (![0, 0, 0] : Fin 3 → Nat) = fun _ => 0 := by decide
  have z4 : (![0, 0, 0, 0] : Fin 4 → Nat) = fun _ => 0 := by decide
  unfold fineOut5
  rw [View.read_writes_eq_canon _ _ _ (fineRun_cover5 i A2 h2 A3 h3 A4 h4 A5 h5 A6 h6 A7 h7 A8 h8 x0 x1 x2 x3 x4 c)]
  unfold fineRun
  dsimp only
  unfold fineRun.sl.r_4 fineRun.sl.r_5 fineRun.sl.r_6
  unfold fineRun.sl.r fineRun.sl.r_1 fineRun.sl.r_2
  simp only [load_unread]
  rw [View.canon_unit_zero z4]
  rw [View.ld_unit_zero (S := S1x64x4x16) z4, View.ld_unit_zero (S := S1x64x16x128) z4, View.ld_unit_zero (S := S1x64x16) z3]
  obtain ⟨w0, w1, w2⟩ := weight_load x4
  unfold carriedOf
  rw [← w0, ← w1, ← w2]

set_option maxRecDepth 65536 in
/-- The sixteen columns the run names are the rounds'. -/
theorem run_columns (c : Dev nD) : (fineRun i A2 h2 A3 h3 A4 h4 A5 h5 A6 h6 A7 h7 A8 h8 x0 x1 x2 x3 x4 c).2.1
    = [⟨Rect.unit (s := S1x64x4x16) ![0, 0, 0, 0] S1x64x4x16.size inb_S1x64x4x16_S1x64x4x16_0_0_0_0,
        columns (F := F) (chosen (BitVec.ofNat 32 (i 0).val) (fineRun.sl.r_7 i A5 h5 x3 c) (fineRun.sl.r_3 A2 h2 A3 h3 x0 x1 c))⟩] := rfl

theorem fineOut6_eq (c : Dev nD) : fineOut6 i A2 h2 A3 h3 A4 h4 A5 h5 A6 h6 A7 h7 A8 h8 x0 x1 x2 x3 x4 c = chosenOf (BitVec.ofNat 32 (i 0).val) x0 x1 x3 := by
  have z3 : (![0, 0, 0] : Fin 3 → Nat) = fun _ => 0 := by decide
  have z4 : (![0, 0, 0, 0] : Fin 4 → Nat) = fun _ => 0 := by decide
  unfold fineOut6
  rw [View.read_writes_eq_canon _ _ _ (fineRun_cover6 i A2 h2 A3 h3 A4 h4 A5 h5 A6 h6 A7 h7 A8 h8 x0 x1 x2 x3 x4 c), run_columns]
  unfold fineRun.sl.r_7 fineRun.sl.r_3
  simp only [load_unread]
  rw [View.canon_unit_zero z4]
  rw [View.ld_unit_zero (S := S1x64x4x16) z4, View.ld_unit_zero (S := S1x64x16x128) z4, View.ld_unit_zero (S := S1x64x16) z3]
  rfl

end Body

/-! ## The pipeline's proof data -/

section Pipe

variable (V : (c : Dev nD) → (b : Ref sig .tc) → Buf (Elt F) ((c : Thread nD τ).loc b)) (n : ℕ)

/-- Window `w`'s block at a point, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the body leaves in the results' staging buffers at a point. -/
def carriedAt (c : Dev nD) (t : Fin cfg1.N) : Vec F S1x64x4x16 .f32 := carriedOf (iblk V c 0 t) (iblk V c 1 t) (iblk V c 2 t) (iblk V c 4 t)
def chosenAt (c : Dev nD) (t : Fin cfg1.N) : Vec F S1x64x4x16 .i32 := chosenOf (BitVec.ofNat 32 (grid1.coords t 0).val) (iblk V c 0 t) (iblk V c 1 t) (iblk V c 3 t)

/-- The invariant of a region whose body touches its windows alone: the buffers no window stages, the generator register. -/
def restInv (c : Dev nD) : sProp 𝕄 :=
  iprop(Pipeline.scopedRest (Ix := HIx 2) (Name := ℕ) (U := UU) (Lvl := ℕ) (Val := Elt F) spec1 c ∗ ∃ r, prngReg c r)

/-- The arrays as the region finds them; each input's buffer left at its block and the results' at the body's; the tallies
    the TensorCore owes the calls still to come, untouched. -/
def dat (c : Dev nD) : Dat τ (Elt F) (HIx 2) ℕ UU ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => carriedAt V c t
    | ⟨6, _⟩ => chosenAt V c t
  Φ _ := restInv c
  q _ := fullShare
  owed _ := (K (F := F)).Otc c n
  recorded _ := recordedAt (F := F) c n

theorem A_eq (c : Dev nD) (w : Fin cfg1.W) : (dat V n c).A w = V c (Pipeline.arrRef spec1 w) := by dsimp only [dat]
theorem after_0 (c : Dev nD) (t : Fin cfg1.N) : (dat V n c).after 0 t = iblk V c 0 t := by dsimp only [dat]
theorem after_1 (c : Dev nD) (t : Fin cfg1.N) : (dat V n c).after 1 t = iblk V c 1 t := by dsimp only [dat]
theorem after_2 (c : Dev nD) (t : Fin cfg1.N) : (dat V n c).after 2 t = iblk V c 2 t := by dsimp only [dat]
theorem after_3 (c : Dev nD) (t : Fin cfg1.N) : (dat V n c).after 3 t = iblk V c 3 t := by dsimp only [dat]
theorem after_4 (c : Dev nD) (t : Fin cfg1.N) : (dat V n c).after 4 t = iblk V c 4 t := by dsimp only [dat]
theorem after_5 (c : Dev nD) (t : Fin cfg1.N) : (dat V n c).after 5 t = carriedAt V c t := by dsimp only [dat]
theorem after_6 (c : Dev nD) (t : Fin cfg1.N) : (dat V n c).after 6 t = chosenAt V c t := by dsimp only [dat]

/-- An input's staging buffer holds its block at every point, fetched there or not. -/
theorem before_0 (c : Dev nD) (t : Fin cfg1.N) (d) : (dat V n c).before 0 t d = iblk V c 0 t :=
  ((dat V n c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V n c).before 1 t d = iblk V c 1 t :=
  ((dat V n c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V n c).before 2 t d = iblk V c 2 t :=
  ((dat V n c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat V n c).before 3 t d = iblk V c 3 t :=
  ((dat V n c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg1.N) (d) : (dat V n c).before 4 t d = iblk V c 4 t :=
  ((dat V n c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

abbrev st0 (t : Fin cfg1.N) : Memref sig .tc .vmem S1x64x4x16 .f32 := win1_0.stage (cfg1.slots t 0)
abbrev st1 (t : Fin cfg1.N) : Memref sig .tc .vmem S1x64x16x128 .f32 := win1_1.stage (cfg1.slots t 1)
abbrev st2 (t : Fin cfg1.N) : Memref sig .tc .vmem S1x64x16 .f32 := win1_2.stage (cfg1.slots t 2)
abbrev st3 (t : Fin cfg1.N) : Memref sig .tc .vmem S1x64x16 .i32 := win1_3.stage (cfg1.slots t 3)
abbrev st4 (t : Fin cfg1.N) : Memref sig .tc .smem S3 .f32 := win1_4.stage (cfg1.slots t 4)
abbrev st5 (t : Fin cfg1.N) : Memref sig .tc .vmem S1x64x4x16 .f32 := win1_5.stage (cfg1.slots t 5)
abbrev st6 (t : Fin cfg1.N) : Memref sig .tc .vmem S1x64x4x16 .i32 := win1_6.stage (cfg1.slots t 6)

/-- The body at a point, on the point's staging buffers. -/
abbrev bodyAt (t : Fin cfg1.N) : Prog (TpuEff nD τ sig (Elt F) Λ₀ .tc) PUnit :=
  cc1__fine1_body (grid1.coords t) (st0 t) (hstage1_0 ((cfg1.slots t 0).cast nbuf1_0)) (st1 t) (hstage1_1 ((cfg1.slots t 1).cast nbuf1_1)) (st2 t) (hstage1_2 ((cfg1.slots t 2).cast nbuf1_2)) (st3 t) (hstage1_3 ((cfg1.slots t 3).cast nbuf1_3)) (st4 t) (hstage1_4 ((cfg1.slots t 4).cast nbuf1_4)) (st5 t) (hstage1_5 ((cfg1.slots t 5).cast nbuf1_5)) (st6 t) (hstage1_6 ((cfg1.slots t 6).cast nbuf1_6))

def bodyPre (c : Dev nD) (t : Fin cfg1.N) : sProp 𝕄 :=
  iprop((dat V n c).Φ t.castSucc ∗ (dat V n c).owesAt none t.castSucc
    ∗ (∃ d, owns (c : Thread nD τ) (st0 t) fullShare ((dat V n c).before 0 t d))
    ∗ (∃ d, owns (c : Thread nD τ) (st1 t) fullShare ((dat V n c).before 1 t d))
    ∗ (∃ d, owns (c : Thread nD τ) (st2 t) fullShare ((dat V n c).before 2 t d))
    ∗ (∃ d, owns (c : Thread nD τ) (st3 t) fullShare ((dat V n c).before 3 t d))
    ∗ (∃ d, owns (c : Thread nD τ) (st4 t) fullShare ((dat V n c).before 4 t d))
    ∗ (∃ d, owns (c : Thread nD τ) (st5 t) fullShare ((dat V n c).before 5 t d))
    ∗ (∃ d, owns (c : Thread nD τ) (st6 t) fullShare ((dat V n c).before 6 t d)))

def bodyPost (c : Dev nD) (t : Fin cfg1.N) : sProp 𝕄 :=
  iprop((dat V n c).Φ t.succ ∗ (dat V n c).owesAt none t.succ
    ∗ owns (c : Thread nD τ) (st0 t) fullShare ((dat V n c).after 0 t)
    ∗ owns (c : Thread nD τ) (st1 t) fullShare ((dat V n c).after 1 t)
    ∗ owns (c : Thread nD τ) (st2 t) fullShare ((dat V n c).after 2 t)
    ∗ owns (c : Thread nD τ) (st3 t) fullShare ((dat V n c).after 3 t)
    ∗ owns (c : Thread nD τ) (st4 t) fullShare ((dat V n c).after 4 t)
    ∗ owns (c : Thread nD τ) (st5 t) fullShare ((dat V n c).after 5 t)
    ∗ owns (c : Thread nD τ) (st6 t) fullShare ((dat V n c).after 6 t))

theorem sound_body (c : Dev nD) (t : Fin cfg1.N) :
    bodyPre V n c t ⊢ wp frame (wpE (defs₀ (F := F)) 𝒱₀ c none) Set.univ (bodyAt t) (fun _ => bodyPost V n c t) := by
  unfold bodyPre bodyPost bodyAt
  simp only [before_0, before_1, before_2, before_3, before_4]
  rw [show (dat V n c).Φ t.succ = (dat V n c).Φ t.castSucc from rfl,
    show (dat V n c).owesAt none t.succ = (dat V n c).owesAt none t.castSucc from rfl, after_0, after_1, after_2, after_3, after_4, after_5, after_6]
  rw [show carriedAt V c t = _ from (fineOut5_eq (grid1.coords t) (st0 t) (hstage1_0 ((cfg1.slots t 0).cast nbuf1_0)) (st1 t) (hstage1_1 ((cfg1.slots t 1).cast nbuf1_1)) (st2 t) (hstage1_2 ((cfg1.slots t 2).cast nbuf1_2)) (st3 t) (hstage1_3 ((cfg1.slots t 3).cast nbuf1_3)) (st4 t) (hstage1_4 ((cfg1.slots t 4).cast nbuf1_4)) (st5 t) (hstage1_5 ((cfg1.slots t 5).cast nbuf1_5)) (st6 t) (hstage1_6 ((cfg1.slots t 6).cast nbuf1_6))
      (iblk V c 0 t) (iblk V c 1 t) (iblk V c 2 t) (iblk V c 3 t) (iblk V c 4 t) c).symm,
    show chosenAt V c t = _ from (fineOut6_eq (grid1.coords t) (st0 t) (hstage1_0 ((cfg1.slots t 0).cast nbuf1_0)) (st1 t) (hstage1_1 ((cfg1.slots t 1).cast nbuf1_1)) (st2 t) (hstage1_2 ((cfg1.slots t 2).cast nbuf1_2)) (st3 t) (hstage1_3 ((cfg1.slots t 3).cast nbuf1_3)) (st4 t) (hstage1_4 ((cfg1.slots t 4).cast nbuf1_4)) (st5 t) (hstage1_5 ((cfg1.slots t 5).cast nbuf1_5)) (st6 t) (hstage1_6 ((cfg1.slots t 6).cast nbuf1_6))
      (iblk V c 0 t) (iblk V c 1 t) (iblk V c 2 t) (iblk V c 3 t) (iblk V c 4 t) c).symm]
  unfold fineOut5 fineOut6
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((fineRun (grid1.coords t) _ _ _ _ _ _ _ _ _ _ _ _ _ _ (iblk V c 0 t) (iblk V c 1 t) (iblk V c 2 t) (iblk V c 3 t) (iblk V c 4 t) c).2.2 Set.univ _)
  unfold inputs
  isplitl [H0 H1 H2 H3 H4]
  · isplitl [H0]; · iexact H0
    isplitl [H1]; · iexact H1
    isplitl [H2]; · iexact H2
    isplitl [H3]; · iexact H3
    iexact H4
  isplitl [H5]; · iexists _; iexact H5
  isplitl [H6]; · iexists _; iexact H6
  iintro ⟨⟨H0, H1, H2, H3, H4⟩, ⟨%e5, H5⟩, ⟨%e6, H6⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns
  isplitl [H5]
  · iexists _; isplitr
    swap; · iexact H5
    ipureintro; exact View.read_writes_of_cover _ _ _ _ _ (fineRun_cover5 _ _ _ _ _ _ _ _ _ _ _ _ _ _ _ _ _ _ _ _ c)
  iexists _; isplitr
  swap; · iexact H6
  ipureintro; exact View.read_writes_of_cover _ _ _ _ _ (fineRun_cover6 _ _ _ _ _ _ _ _ _ _ _ _ _ _ _ _ _ _ _ _ c)

theorem defs₀_row (t : Fin cfg1.N) : defs₀ (F := F) .tc cfg1.body (cfg1.bodyArgs t (cfg1.slots t)) = bodyAt t := rfl

/-- The body's obligation at every point. -/
theorem body_obligation (c : Dev nD) : BodyObligation (dat (F := F) V n c) (defs₀ (F := F)) 𝒱₀ none Set.univ := fun t => by
  rw [bigSep_W, bigSep_W, defs₀_row]
  exact triple_restated (sound_body V n c t) rfl .rfl fun _ => .rfl

end Pipe

end Cert.Proof.Tail.F1

end
-- ==== Proof.Fine0.lean ====
/-
  The finest level's kernel as a region: its body run once on any staging buffers, the pipeline's proof data at any contents
  of the arrays and any tallies owed, and the body's obligation at every point of the grid.
-/
module

public import proofs.«01_k».proof.Proof.Layout
public import Idealize.ShloMosaic.Lib.Pipeline.Kit
public import Idealize.ShloMosaic.Lib.Pipeline.Regions
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Pipeline.Value
public import Idealize.ShloMosaic.Lib.Pointwise

@[expose] public section

set_option maxRecDepth 16384

noncomputable section

namespace Cert.Proof.Tail.F0

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

theorem bigSep_W {M : Type} [URA M] (Φ : Fin 5 → sProp M) : bigSep Finset.univ Φ = iprop(Φ 0 ∗ Φ 1 ∗ Φ 2 ∗ Φ 3 ∗ Φ 4) :=
  bigSep_univ_eq_bigSepL [(0 : Fin 5), 1, 2, 3, 4] (by decide) (by decide) Φ

/-! ## The body, run once -/

section Body

variable (i : grid3.Coords) (A2 : Memref sig .tc .vmem S1x128x4x16 .f32) (h2 : A2.IsWhole) (A3 : Memref sig .tc .vmem S1x128x16x128 .f32) (h3 : A3.IsWhole)
  (A4 : Memref sig .tc .vmem S1x128x16 .f32) (h4 : A4.IsWhole) (A5 : Memref sig .tc .smem S3 .f32) (h5 : A5.IsWhole)
  (A6 : Memref sig .tc .vmem S1x128x4x16 .f32) (h6 : A6.IsWhole)
  (x0 : Vec F S1x128x4x16 .f32) (x1 : Vec F S1x128x16x128 .f32) (x2 : Vec F S1x128x16 .f32) (x3 : Vec F S3 .f32)

set_option maxHeartbeats 1000000 in
/-- What the body stores into its result's staging buffer, found by running it: the inputs' buffers are left as they were. -/
def fineRun (c : Dev nD) : { Ws : List (View.Piece (Elt F) S1x128x4x16 .f32) // ∀ (E : Set ℕ) (Q : PUnit → sProp 𝕄),
    iprop(owns (c : Thread nD τ) A2 fullShare x0 ∗ owns (c : Thread nD τ) A3 fullShare x1 ∗ owns (c : Thread nD τ) A4 fullShare x2
        ∗ owns (c : Thread nD τ) A5 fullShare x3 ∗ (∃ x, owns (c : Thread nD τ) A6 fullShare x)
        ∗ (iprop(owns (c : Thread nD τ) A2 fullShare x0 ∗ owns (c : Thread nD τ) A3 fullShare x1 ∗ owns (c : Thread nD τ) A4 fullShare x2
            ∗ owns (c : Thread nD τ) A5 fullShare x3 ∗ (∃ f, A6.view.loc (c : Thread nD τ) ↦[A6.view.set]{fullShare} A6.view.writes (Elt F) f Ws)) -∗ Q ⟨⟩))
      ⊢ wp frame (wpE (defs₀ (F := F)) 𝒱₀ c none) E (cc3__fine0_body i A2 h2 A3 h3 A4 h4 A5 h5 A6 h6) Q } := by
  refine ⟨?_, fun E Q => ?go⟩
  case go =>
    simp only [cc3__fine0_body_eq_skeleton]; unfold cc3__fine0_body_skel
    simp only [k3_part1_eq_skeleton]
    unfold owns
    iintro ⟨⟨%f0, %e0, H0⟩, ⟨%f1, %e1, H1⟩, ⟨%f2, %e2, H2⟩, ⟨%f3, %e3, H3⟩, ⟨%x, %f4, -, H4⟩, Hk⟩
    obtain rfl := h2.eq_unread e0; obtain rfl := h3.eq_unread e1; obtain rfl := h4.eq_unread e2; obtain rfl := h5.eq_unread e3
    sl_exec
    sl_step
    iapply Hk
    isplitl [H0]; · iexists _; isplitr; · ipureintro; exact h2.read_unread _
                    iexact H0
    isplitl [H1]; · iexists _; isplitr; · ipureintro; exact h3.read_unread _
                    iexact H1
    isplitl [H2]; · iexists _; isplitr; · ipureintro; exact h4.read_unread _
                    iexact H2
    isplitl [H3]; · iexists _; isplitr; · ipureintro; exact h5.read_unread _
                    iexact H3
    iexists _; iexact H4

theorem fineRun_cover (c : Dev nD) (y : S1x128x4x16.Idx) :
    ∃ pc ∈ (fineRun i A2 h2 A3 h3 A4 h4 A5 h5 A6 h6 x0 x1 x2 x3 c).1, y ∈ pc.1.set :=
  View.cover_of_tiledL (fineRun i A2 h2 A3 h3 A4 h4 A5 h5 A6 h6 x0 x1 x2 x3 c).1 S1x128x4x16.size (by sl_kernel_rfl) y

/-- The view the stored pieces are read back through: any whole buffer would do. -/
abbrev VO : View sig .tc .vmem S1x128x4x16 .f32 := (Memref.whole cc3_stg4_0 : Memref sig .tc .vmem S1x128x4x16 .f32).view

/-- What the body leaves in its result's staging buffer. -/
def fineOut (c : Dev nD) : Vec F S1x128x4x16 .f32 :=
  VO.read (Elt F) (VO.writes (Elt F) VO.junk (fineRun i A2 h2 A3 h3 A4 h4 A5 h5 A6 h6 x0 x1 x2 x3 c).1)

theorem fineOut_eq (c : Dev nD) : fineOut i A2 h2 A3 h3 A4 h4 A5 h5 A6 h6 x0 x1 x2 x3 c
    = k3_pay1 (k3_pay2 x0 x1) (k3_pay3 (x3 (ix1 0)) (x3 (ix1 1)) (x3 (ix1 2))) x2 := by
  have z3 : (![0, 0, 0] : Fin 3 → Nat) = fun _ => 0 := by decide
  have z4 : (![0, 0, 0, 0] : Fin 4 → Nat) = fun _ => 0 := by decide
  unfold fineOut
  rw [View.read_writes_eq_canon _ _ _ (fineRun_cover i A2 h2 A3 h3 A4 h4 A5 h5 A6 h6 x0 x1 x2 x3 c)]
  unfold fineRun
  dsimp only
  unfold fineRun.sl.r_3 fineRun.sl.r_4
  unfold fineRun.sl.r fineRun.sl.r_1 fineRun.sl.r_2
  simp only [load_unread]
  rw [View.canon_unit_zero z4]
  rw [View.ld_unit_zero (S := S1x128x4x16) z4, View.ld_unit_zero (S := S1x128x16x128) z4, View.ld_unit_zero (S := S1x128x16) z3]
  obtain ⟨w0, w1, w2⟩ := weight_load x3
  exact congrArg (k3_pay1 _ · _) (by rw [← w0, ← w1, ← w2])

end Body

/-! ## The pipeline's proof data -/

section Pipe

variable (V : (c : Dev nD) → (b : Ref sig .tc) → Buf (Elt F) ((c : Thread nD τ).loc b)) (n : ℕ)

/-- Window `w`'s block at a point, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- What the body leaves in the result's staging buffer at a point. -/
def outAt (c : Dev nD) (t : Fin cfg3.N) : Vec F S1x128x4x16 .f32 :=
  k3_pay1 (k3_pay2 (iblk V c 0 t) (iblk V c 1 t)) (k3_pay3 (iblk V c 3 t (ix1 0)) (iblk V c 3 t (ix1 1)) (iblk V c 3 t (ix1 2))) (iblk V c 2 t)

/-- The invariant of a region whose body touches its windows alone: the buffers no window stages, the generator register. -/
def restInv (c : Dev nD) : sProp 𝕄 :=
  iprop(Pipeline.scopedRest (Ix := HIx 2) (Name := ℕ) (U := UU) (Lvl := ℕ) (Val := Elt F) spec3 c ∗ ∃ r, prngReg c r)

/-- The arrays as the region finds them; each input's buffer left at its block and the result's at the body's; the tallies
    the TensorCore owes the calls still to come, untouched. -/
def dat (c : Dev nD) : Dat τ (Elt F) (HIx 2) ℕ UU ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => outAt V c t
  Φ _ := restInv c
  q _ := fullShare
  owed _ := (K (F := F)).Otc c n
  recorded _ := recordedAt (F := F) c n

theorem A_eq (c : Dev nD) (w : Fin cfg3.W) : (dat V n c).A w = V c (Pipeline.arrRef spec3 w) := by dsimp only [dat]
theorem after_0 (c : Dev nD) (t : Fin cfg3.N) : (dat V n c).after 0 t = iblk V c 0 t := by dsimp only [dat]
theorem after_1 (c : Dev nD) (t : Fin cfg3.N) : (dat V n c).after 1 t = iblk V c 1 t := by dsimp only [dat]
theorem after_2 (c : Dev nD) (t : Fin cfg3.N) : (dat V n c).after 2 t = iblk V c 2 t := by dsimp only [dat]
theorem after_3 (c : Dev nD) (t : Fin cfg3.N) : (dat V n c).after 3 t = iblk V c 3 t := by dsimp only [dat]
theorem after_4 (c : Dev nD) (t : Fin cfg3.N) : (dat V n c).after 4 t = outAt V c t := by dsimp only [dat]

/-- An input's staging buffer holds its block at every point, fetched there or not. -/
theorem before_0 (c : Dev nD) (t : Fin cfg3.N) (d) : (dat V n c).before 0 t d = iblk V c 0 t :=
  ((dat V n c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg3.N) (d) : (dat V n c).before 1 t d = iblk V c 1 t :=
  ((dat V n c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg3.N) (d) : (dat V n c).before 2 t d = iblk V c 2 t :=
  ((dat V n c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg3.N) (d) : (dat V n c).before 3 t d = iblk V c 3 t :=
  ((dat V n c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

abbrev st0 (t : Fin cfg3.N) : Memref sig .tc .vmem S1x128x4x16 .f32 := win3_0.stage (cfg3.slots t 0)
abbrev st1 (t : Fin cfg3.N) : Memref sig .tc .vmem S1x128x16x128 .f32 := win3_1.stage (cfg3.slots t 1)
abbrev st2 (t : Fin cfg3.N) : Memref sig .tc .vmem S1x128x16 .f32 := win3_2.stage (cfg3.slots t 2)
abbrev st3 (t : Fin cfg3.N) : Memref sig .tc .smem S3 .f32 := win3_3.stage (cfg3.slots t 3)
abbrev st4 (t : Fin cfg3.N) : Memref sig .tc .vmem S1x128x4x16 .f32 := win3_4.stage (cfg3.slots t 4)

/-- The body at a point, on the point's staging buffers. -/
abbrev bodyAt (t : Fin cfg3.N) : Prog (TpuEff nD τ sig (Elt F) Λ₀ .tc) PUnit :=
  cc3__fine0_body (grid3.coords t) (st0 t) (hstage3_0 ((cfg3.slots t 0).cast nbuf3_0)) (st1 t) (hstage3_1 ((cfg3.slots t 1).cast nbuf3_1))
    (st2 t) (hstage3_2 ((cfg3.slots t 2).cast nbuf3_2)) (st3 t) (hstage3_3 ((cfg3.slots t 3).cast nbuf3_3)) (st4 t) (hstage3_4 ((cfg3.slots t 4).cast nbuf3_4))

def bodyPre (c : Dev nD) (t : Fin cfg3.N) : sProp 𝕄 :=
  iprop((dat V n c).Φ t.castSucc ∗ (dat V n c).owesAt none t.castSucc
    ∗ (∃ d, owns (c : Thread nD τ) (st0 t) fullShare ((dat V n c).before 0 t d))
    ∗ (∃ d, owns (c : Thread nD τ) (st1 t) fullShare ((dat V n c).before 1 t d))
    ∗ (∃ d, owns (c : Thread nD τ) (st2 t) fullShare ((dat V n c).before 2 t d))
    ∗ (∃ d, owns (c : Thread nD τ) (st3 t) fullShare ((dat V n c).before 3 t d))
    ∗ (∃ d, owns (c : Thread nD τ) (st4 t) fullShare ((dat V n c).before 4 t d)))

def bodyPost (c : Dev nD) (t : Fin cfg3.N) : sProp 𝕄 :=
  iprop((dat V n c).Φ t.succ ∗ (dat V n c).owesAt none t.succ
    ∗ owns (c : Thread nD τ) (st0 t) fullShare ((dat V n c).after 0 t)
    ∗ owns (c : Thread nD τ) (st1 t) fullShare ((dat V n c).after 1 t)
    ∗ owns (c : Thread nD τ) (st2 t) fullShare ((dat V n c).after 2 t)
    ∗ owns (c : Thread nD τ) (st3 t) fullShare ((dat V n c).after 3 t)
    ∗ owns (c : Thread nD τ) (st4 t) fullShare ((dat V n c).after 4 t))

theorem sound_body (c : Dev nD) (t : Fin cfg3.N) :
    bodyPre V n c t ⊢ wp frame (wpE (defs₀ (F := F)) 𝒱₀ c none) Set.univ (bodyAt t) (fun _ => bodyPost V n c t) := by
  unfold bodyPre bodyPost bodyAt
  simp only [before_0, before_1, before_2, before_3]
  rw [show (dat V n c).Φ t.succ = (dat V n c).Φ t.castSucc from rfl,
    show (dat V n c).owesAt none t.succ = (dat V n c).owesAt none t.castSucc from rfl, after_0, after_1, after_2, after_3, after_4]
  rw [show outAt V c t = _ from (fineOut_eq (grid3.coords t) (st0 t) (hstage3_0 ((cfg3.slots t 0).cast nbuf3_0)) (st1 t) (hstage3_1 ((cfg3.slots t 1).cast nbuf3_1))
    (st2 t) (hstage3_2 ((cfg3.slots t 2).cast nbuf3_2)) (st3 t) (hstage3_3 ((cfg3.slots t 3).cast nbuf3_3)) (st4 t) (hstage3_4 ((cfg3.slots t 4).cast nbuf3_4))
    (iblk V c 0 t) (iblk V c 1 t) (iblk V c 2 t) (iblk V c 3 t) c).symm]
  unfold fineOut
  iintro ⟨HΦ, Ho, ⟨%d0, H0⟩, ⟨%d1, H1⟩, ⟨%d2, H2⟩, ⟨%d3, H3⟩, ⟨%d4, H4⟩⟩
  iapply ((fineRun (grid3.coords t) _ _ _ _ _ _ _ _ _ _ (iblk V c 0 t) (iblk V c 1 t) (iblk V c 2 t) (iblk V c 3 t) c).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (fineRun_cover _ _ _ _ _ _ _ _ _ _ _ _ _ _ _ c)

theorem defs₀_row (t : Fin cfg3.N) : defs₀ (F := F) .tc cfg3.body (cfg3.bodyArgs t (cfg3.slots t)) = bodyAt t := rfl

/-- The body's obligation at every point. -/
theorem body_obligation (c : Dev nD) : BodyObligation (dat (F := F) V n c) (defs₀ (F := F)) 𝒱₀ none Set.univ := fun t => by
  rw [bigSep_W, bigSep_W, defs₀_row]
  exact triple_restated (sound_body V n c t) rfl .rfl fun _ => .rfl

end Pipe

end Cert.Proof.Tail.F0

end
-- ==== Proof.Main.lean ====
/-
  The run of the whole program: the host's layout operations, the two calls of the gathers, the two regions, and what the
  arrays hold at the end.
-/
module

public import proofs.«01_k».proof.Proof.Call
public import proofs.«01_k».proof.Proof.Fine1
public import proofs.«01_k».proof.Proof.Fine0
public import Idealize.ShloMosaic.Lib.Pipeline.Frame
public import Idealize.ShloMosaic.Lib.ReduceAll

@[expose] public section

noncomputable section

namespace Cert.Proof.Tail

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held seq after)
open Idealize.ShloMosaic.Pipeline (ucRefs)

variable {F : FTy → Type} [FloatOps F]

local notation "𝕄" => MT nD τ sig (HIx 2) (Elt F) ℕ UU ℕ

/-! ## The host operations -/

/-- Before the first gather: the level's two token-major tables side by side, the list as a vector. -/
def hostA : List (HloOp τ sig (Elt F)) :=
  [StableHlo.reshape main_arg3 main_v0 (rfl : (.f32 : EltTy) = .f32) shapeCasts_S2x128x32x32_S2x8x16x16x2x16x2,
    StableHlo.unary main_v0 main_v1 ((transpose S2x8x16x16x2x2x16 [0, 1, 3, 5, 4, 6, 2] · transposes_S2x8x16x16x2x16x2_S2x8x16x16x2x2x16_0_1_3_5_4_6_2) : (⟨S2x8x16x16x2x16x2, .f32⟩ : BufTy).Contents (Elt F) → (⟨S2x8x16x16x2x2x16, .f32⟩ : BufTy).Contents (Elt F)),
    StableHlo.reshape main_v1 main_v2 (rfl : (.f32 : EltTy) = .f32) shapeCasts_S2x8x16x16x2x2x16_S4096x64,
    StableHlo.reshape main_arg5 main_v3 (rfl : (.f32 : EltTy) = .f32) shapeCasts_S2x128x32x32_S2x8x16x16x2x16x2,
    StableHlo.unary main_v3 main_v4 ((transpose S2x8x16x16x2x2x16 [0, 1, 3, 5, 4, 6, 2] · transposes_S2x8x16x16x2x16x2_S2x8x16x16x2x2x16_0_1_3_5_4_6_2) : (⟨S2x8x16x16x2x16x2, .f32⟩ : BufTy).Contents (Elt F) → (⟨S2x8x16x16x2x2x16, .f32⟩ : BufTy).Contents (Elt F)),
    StableHlo.reshape main_v4 main_v5 (rfl : (.f32 : EltTy) = .f32) shapeCasts_S2x8x16x16x2x2x16_S4096x64,
    StableHlo.binary main_v2 main_v5 main_v6 ((fun a b => concatenate S4096x128 1 [⟨S4096x64, a⟩, ⟨S4096x64, b⟩] concatenates_S4096x64_S4096x64_S4096x128_d1) : (⟨S4096x64, .f32⟩ : BufTy).Contents (Elt F) → (⟨S4096x64, .f32⟩ : BufTy).Contents (Elt F) → (⟨S4096x128, .f32⟩ : BufTy).Contents (Elt F)),
    StableHlo.reshape main_arg8 main_v7 (rfl : (.i32 : EltTy) = .i32) shapeCasts_S16x256x16_S65536]

/-- Before the first attention: the level's queries by cell, the gathered rows by cell. -/
def hostB : List (HloOp τ sig (Elt F)) :=
  [StableHlo.reshape main_arg1 main_v9 (rfl : (.f32 : EltTy) = .f32) shapeCasts_S2x128x32x32_S2x8x16x16x2x16x2,
    StableHlo.unary main_v9 main_v10 ((transpose S2x8x16x16x2x2x16 [0, 1, 3, 5, 4, 6, 2] · transposes_S2x8x16x16x2x16x2_S2x8x16x16x2x2x16_0_1_3_5_4_6_2) : (⟨S2x8x16x16x2x16x2, .f32⟩ : BufTy).Contents (Elt F) → (⟨S2x8x16x16x2x2x16, .f32⟩ : BufTy).Contents (Elt F)),
    StableHlo.reshape main_v10 main_v11 (rfl : (.f32 : EltTy) = .f32) shapeCasts_S2x8x16x16x2x2x16_S16x256x4x16,
    StableHlo.reshape main_v8 main_v12 (rfl : (.f32 : EltTy) = .f32) shapeCasts_S65536x128_S16x256x16x128]

/-- Before the second gather: the level's result as rows, the finest tables side by side, the chosen rows as a vector. -/
def hostC : List (HloOp τ sig (Elt F)) :=
  [StableHlo.reshape main_v13_0 main_v14 (rfl : (.f32 : EltTy) = .f32) shapeCasts_S16x256x4x16_S16x1024x16,
    StableHlo.reshape main_arg2 main_v15 (rfl : (.f32 : EltTy) = .f32) shapeCasts_S2x128x64x64_S2x8x16x32x2x32x2,
    StableHlo.unary main_v15 main_v16 ((transpose S2x8x32x32x2x2x16 [0, 1, 3, 5, 4, 6, 2] · transposes_S2x8x16x32x2x32x2_S2x8x32x32x2x2x16_0_1_3_5_4_6_2) : (⟨S2x8x16x32x2x32x2, .f32⟩ : BufTy).Contents (Elt F) → (⟨S2x8x32x32x2x2x16, .f32⟩ : BufTy).Contents (Elt F)),
    StableHlo.reshape main_v16 main_v17 (rfl : (.f32 : EltTy) = .f32) shapeCasts_S2x8x32x32x2x2x16_S16384x64,
    StableHlo.reshape main_arg4 main_v18 (rfl : (.f32 : EltTy) = .f32) shapeCasts_S2x128x64x64_S2x8x16x32x2x32x2,
    StableHlo.unary main_v18 main_v19 ((transpose S2x8x32x32x2x2x16 [0, 1, 3, 5, 4, 6, 2] · transposes_S2x8x16x32x2x32x2_S2x8x32x32x2x2x16_0_1_3_5_4_6_2) : (⟨S2x8x16x32x2x32x2, .f32⟩ : BufTy).Contents (Elt F) → (⟨S2x8x32x32x2x2x16, .f32⟩ : BufTy).Contents (Elt F)),
    StableHlo.reshape main_v19 main_v20 (rfl : (.f32 : EltTy) = .f32) shapeCasts_S2x8x32x32x2x2x16_S16384x64,
    StableHlo.binary main_v17 main_v20 main_v21 ((fun a b => concatenate S16384x128 1 [⟨S16384x64, a⟩, ⟨S16384x64, b⟩] concatenates_S16384x64_S16384x64_S16384x128_d1) : (⟨S16384x64, .f32⟩ : BufTy).Contents (Elt F) → (⟨S16384x64, .f32⟩ : BufTy).Contents (Elt F) → (⟨S16384x128, .f32⟩ : BufTy).Contents (Elt F)),
    StableHlo.reshape main_v13_1 main_v22 (rfl : (.i32 : EltTy) = .i32) shapeCasts_S16x256x4x16_S262144]

/-- Before the second attention: the finest queries by coarse cell, the gathered rows by query cell. -/
def hostD : List (HloOp τ sig (Elt F)) :=
  [StableHlo.reshape main_arg0 main_v24 (rfl : (.f32 : EltTy) = .f32) shapeCasts_S2x128x64x64_S2x8x16x32x2x32x2,
    StableHlo.unary main_v24 main_v25 ((transpose S2x8x32x32x2x2x16 [0, 1, 3, 5, 4, 6, 2] · transposes_S2x8x16x32x2x32x2_S2x8x32x32x2x2x16_0_1_3_5_4_6_2) : (⟨S2x8x16x32x2x32x2, .f32⟩ : BufTy).Contents (Elt F) → (⟨S2x8x32x32x2x2x16, .f32⟩ : BufTy).Contents (Elt F)),
    StableHlo.reshape main_v25 main_v26 (rfl : (.f32 : EltTy) = .f32) shapeCasts_S2x8x32x32x2x2x16_S16x1024x4x16,
    StableHlo.reshape main_v26 main_v27 (rfl : (.f32 : EltTy) = .f32) shapeCasts_S16x1024x4x16_S16x16x2x16x2x4x16,
    StableHlo.unary main_v27 main_v28 ((transpose S16x16x16x2x2x4x16 [0, 1, 3, 2, 4, 5, 6] · transposes_S16x16x2x16x2x4x16_S16x16x16x2x2x4x16_0_1_3_2_4_5_6) : (⟨S16x16x2x16x2x4x16, .f32⟩ : BufTy).Contents (Elt F) → (⟨S16x16x16x2x2x4x16, .f32⟩ : BufTy).Contents (Elt F)),
    StableHlo.reshape main_v28 main_v29 (rfl : (.f32 : EltTy) = .f32) shapeCasts_S16x16x16x2x2x4x16_S16x1024x4x16,
    StableHlo.reshape main_v23 main_v30 (rfl : (.f32 : EltTy) = .f32) shapeCasts_S262144x128_S16x1024x16x128]

/-- After it: the result in the order of tokens. -/
def hostE : List (HloOp τ sig (Elt F)) :=
  [StableHlo.reshape main_v31 main_v32 (rfl : (.f32 : EltTy) = .f32) shapeCasts_S16x1024x4x16_S2x8x16x16x2x2x2x2x16,
    StableHlo.unary main_v32 main_v33 ((transpose S2x16x2x2x16x2x2x8x16 [0, 2, 4, 6, 3, 5, 7, 1, 8] · transposes_S2x8x16x16x2x2x2x2x16_S2x16x2x2x16x2x2x8x16_0_2_4_6_3_5_7_1_8) : (⟨S2x8x16x16x2x2x2x2x16, .f32⟩ : BufTy).Contents (Elt F) → (⟨S2x16x2x2x16x2x2x8x16, .f32⟩ : BufTy).Contents (Elt F)),
    StableHlo.reshape main_v33 main_v34 (rfl : (.f32 : EltTy) = .f32) shapeCasts_S2x16x2x2x16x2x2x8x16_S2x4096x8x16]

theorem main_eq (d : Dev nD) : main (F := F) d = (seq hostA >>= fun _ => (sc.run d 0 >>= fun _ => (seq hostB >>= fun _ =>
    (Prog.lift (.customCall (SparseCore.inner (Pipeline.entry 0)) ()) >>= fun _ => (seq hostC >>= fun _ => (sc.run d 1 >>= fun _ => (seq hostD >>= fun _ =>
      (Prog.lift (.customCall (SparseCore.inner (Pipeline.entry 1)) ()) >>= fun _ => (seq hostE >>= fun _ => pure ⟨⟩))))))))) := rfl

/-- Head-major tokens by two-by-two cells: one input's half of the coarser table. -/
def cells1 (x : S2x128x32x32.Idx → Elt F .f32) : S4096x64.Idx → Elt F .f32 :=
  shapeCast S4096x64 (transpose S2x8x16x16x2x2x16 [0, 1, 3, 5, 4, 6, 2] (shapeCast S2x8x16x16x2x16x2 x shapeCasts_S2x128x32x32_S2x8x16x16x2x16x2)
    transposes_S2x8x16x16x2x16x2_S2x8x16x16x2x2x16_0_1_3_5_4_6_2) shapeCasts_S2x8x16x16x2x2x16_S4096x64

/-- The table of the first gather. -/
def table1 (x y : S2x128x32x32.Idx → Elt F .f32) : S4096x128.Idx → Elt F .f32 :=
  concatenate S4096x128 1 [⟨S4096x64, cells1 x⟩, ⟨S4096x64, cells1 y⟩] concatenates_S4096x64_S4096x64_S4096x128_d1

/-- The list of the first gather. -/
def list1 (g : S16x256x16.Idx → BitVec 32) : S65536.Idx → BitVec 32 := shapeCast S65536 g shapeCasts_S16x256x16_S65536

/-- The coarser queries: a head's cells, four tokens to a cell. -/
def quads1 (x : S2x128x32x32.Idx → Elt F .f32) : S16x256x4x16.Idx → Elt F .f32 :=
  shapeCast S16x256x4x16 (transpose S2x8x16x16x2x2x16 [0, 1, 3, 5, 4, 6, 2] (shapeCast S2x8x16x16x2x16x2 x shapeCasts_S2x128x32x32_S2x8x16x16x2x16x2)
    transposes_S2x8x16x16x2x16x2_S2x8x16x16x2x2x16_0_1_3_5_4_6_2) shapeCasts_S2x8x16x16x2x2x16_S16x256x4x16

/-- The first gather's rows by query cell. -/
def byCell1 (x : S65536x128.Idx → Elt F .f32) : S16x256x16x128.Idx → Elt F .f32 := shapeCast S16x256x16x128 x shapeCasts_S65536x128_S16x256x16x128

/-- Head-major tokens by two-by-two cells: one input's half of the finest table. -/
def cells (x : S2x128x64x64.Idx → Elt F .f32) : S16384x64.Idx → Elt F .f32 :=
  shapeCast S16384x64 (transpose S2x8x32x32x2x2x16 [0, 1, 3, 5, 4, 6, 2] (shapeCast S2x8x16x32x2x32x2 x shapeCasts_S2x128x64x64_S2x8x16x32x2x32x2)
    transposes_S2x8x16x32x2x32x2_S2x8x32x32x2x2x16_0_1_3_5_4_6_2) shapeCasts_S2x8x32x32x2x2x16_S16384x64

/-- The table of the second gather. -/
def table (x y : S2x128x64x64.Idx → Elt F .f32) : S16384x128.Idx → Elt F .f32 :=
  concatenate S16384x128 1 [⟨S16384x64, cells x⟩, ⟨S16384x64, cells y⟩] concatenates_S16384x64_S16384x64_S16384x128_d1

/-- The list of the second gather. -/
def list (g : S16x256x4x16.Idx → BitVec 32) : S262144.Idx → BitVec 32 := shapeCast S262144 g shapeCasts_S16x256x4x16_S262144

/-- The coarser levels' result, a row to each query cell. -/
def carried (x : S16x256x4x16.Idx → Elt F .f32) : S16x1024x16.Idx → Elt F .f32 := shapeCast S16x1024x16 x shapeCasts_S16x256x4x16_S16x1024x16

/-- The queries: a head's cells by the coarse cell they lie in, four tokens to a cell. -/
def quads (x : S2x128x64x64.Idx → Elt F .f32) : S16x1024x4x16.Idx → Elt F .f32 :=
  shapeCast S16x1024x4x16 (transpose S16x16x16x2x2x4x16 [0, 1, 3, 2, 4, 5, 6] (shapeCast S16x16x2x16x2x4x16
    (shapeCast S16x1024x4x16 (transpose S2x8x32x32x2x2x16 [0, 1, 3, 5, 4, 6, 2] (shapeCast S2x8x16x32x2x32x2 x shapeCasts_S2x128x64x64_S2x8x16x32x2x32x2)
      transposes_S2x8x16x32x2x32x2_S2x8x32x32x2x2x16_0_1_3_5_4_6_2) shapeCasts_S2x8x32x32x2x2x16_S16x1024x4x16)
    shapeCasts_S16x1024x4x16_S16x16x2x16x2x4x16) transposes_S16x16x2x16x2x4x16_S16x16x16x2x2x4x16_0_1_3_2_4_5_6) shapeCasts_S16x16x16x2x2x4x16_S16x1024x4x16

/-- The gathered rows by query cell. -/
def byCell (x : S262144x128.Idx → Elt F .f32) : S16x1024x16x128.Idx → Elt F .f32 := shapeCast S16x1024x16x128 x shapeCasts_S262144x128_S16x1024x16x128

/-- The result in the order of tokens. -/
def byToken (x : S16x1024x4x16.Idx → Elt F .f32) : S2x4096x8x16.Idx → Elt F .f32 :=
  shapeCast S2x4096x8x16 (transpose S2x16x2x2x16x2x2x8x16 [0, 2, 4, 6, 3, 5, 7, 1, 8] (shapeCast S2x8x16x16x2x2x2x2x16 x shapeCasts_S16x1024x4x16_S2x8x16x16x2x2x2x2x16)
    transposes_S2x8x16x16x2x2x2x2x16_S2x16x2x2x16x2x2x8x16_0_2_4_6_3_5_7_1_8) shapeCasts_S2x16x2x2x16x2x2x8x16_S2x4096x8x16

abbrev rr (b : Ref sig .tc) : DevRef τ sig := Proc.devRef .tc b
abbrev t₁ : DevRef τ sig := rr main_v6
abbrev i₁ : DevRef τ sig := rr main_v7
abbrev o₁ : DevRef τ sig := rr main_v8
abbrev t₀ : DevRef τ sig := rr main_v21
abbrev i₀ : DevRef τ sig := rr main_v22
abbrev o₀ : DevRef τ sig := rr main_v23

variable (m : (ℓ : Loc nD τ sig) → Buf (Elt F) ℓ) (ρ : Dev nD → PrngReg)

/-- The arrays at launch, and before the first call. -/
def V0 (d : Dev nD) : Valuation τ sig (Elt F) := fun b => m (d, b)
def V1 (d : Dev nD) : Valuation τ sig (Elt F) := after hostA (V0 m d)

/-- After the call: its result at the gathered rows. -/
def V2 (d : Dev nD) : Valuation τ sig (Elt F) := Function.update (V1 m d) o₁ (G1.gathered (V1 m d t₁) (V1 m d i₁))
theorem V2_of_ne (d : Dev nD) {b : DevRef τ sig} (h : b ≠ o₁) : V2 m d b = V1 m d b := Function.update_of_ne h _ _

/-- Before the first region, after it, and before the second call. -/
def V3 (d : Dev nD) : Valuation τ sig (Elt F) := after hostB (V2 m d)
abbrev E3 (d : Dev nD) (b : Ref sig .tc) : Buf (Elt F) ((d.tc : Thread nD τ).loc b) := V3 m d (rr b)
def V4 (d : Dev nD) : Valuation τ sig (Elt F) := Pipeline.withArrays spec1 d (V3 m d) fun w => (F1.dat (E3 m) 1 d).arrAt w cfg1.N
def V5 (d : Dev nD) : Valuation τ sig (Elt F) := after hostC (V4 m d)

/-- After that call. -/
def V6 (d : Dev nD) : Valuation τ sig (Elt F) := Function.update (V5 m d) o₀ (G0.gathered (V5 m d t₀) (V5 m d i₀))
theorem V6_of_ne (d : Dev nD) {b : DevRef τ sig} (h : b ≠ o₀) : V6 m d b = V5 m d b := Function.update_of_ne h _ _

/-- Before the second region, after it, and at the end. -/
def V7 (d : Dev nD) : Valuation τ sig (Elt F) := after hostD (V6 m d)
abbrev E7 (d : Dev nD) (b : Ref sig .tc) : Buf (Elt F) ((d.tc : Thread nD τ).loc b) := V7 m d (rr b)
def V8 (d : Dev nD) : Valuation τ sig (Elt F) := Pipeline.withArrays spec3 d (V7 m d) fun w => (F0.dat (E7 m) 2 d).arrAt w cfg3.N
def V9 (d : Dev nD) : Valuation τ sig (Elt F) := after hostE (V8 m d)

/-- The three arrays of call 0. -/
abbrev C0 : Finset (DevRef τ sig) := {t₁, i₁, o₁}

theorem C0_sub : C0 ⊆ ucRefs τ sig := by decide

omit [FloatOps F] in
theorem held_C0 (d : Dev nD) (W : Valuation τ sig (Elt F)) :
    (held (T d) C0 W : sProp 𝕄) = iprop(G1.tPts d fullShare (W t₁) ∗ G1.iPts d fullShare (W i₁) ∗ G1.oPts d (W o₁)) := by
  unfold held C0
  rw [SparseCore.bigSep_insert' (by decide), SparseCore.bigSep_insert' (by decide), bigSep_singleton]

/-- The whole of what @main holds, with the call's arrays apart. -/
theorem held_V1 (d : Dev nD) : (held (T d) (ucRefs τ sig) (V1 m d) : sProp 𝕄)
    = iprop((G1.tPts d fullShare (V1 m d t₁) ∗ G1.iPts d fullShare (V1 m d i₁) ∗ G1.oPts d (V1 m d o₁)) ∗ held (T d) (ucRefs τ sig \ C0) (V1 m d)) := by
  rw [StableHlo.held_sub_split (T d) C0_sub, held_C0]

theorem held_V2 (d : Dev nD) : (held (T d) (ucRefs τ sig) (V2 m d) : sProp 𝕄)
    = iprop((G1.tPts d fullShare (V1 m d t₁) ∗ G1.iPts d fullShare (V1 m d i₁) ∗ G1.oPts d (G1.gathered (V1 m d t₁) (V1 m d i₁))) ∗ held (T d) (ucRefs τ sig \ C0) (V1 m d)) := by
  rw [StableHlo.held_sub_split (T d) C0_sub, held_C0, V2_of_ne m d (show t₁ ≠ o₁ by decide), V2_of_ne m d (show i₁ ≠ o₁ by decide),
    StableHlo.held_congr (T d) (S := ucRefs τ sig \ C0) (V := V2 m d) (V' := V1 m d) fun b hb => V2_of_ne m d fun e =>
      (Finset.mem_sdiff.mp hb).2 (by rw [e]; decide)]
  unfold V2; rw [Function.update_self]

/-- The three arrays of call 1. -/
abbrev C1 : Finset (DevRef τ sig) := {t₀, i₀, o₀}

theorem C1_sub : C1 ⊆ ucRefs τ sig := by decide

omit [FloatOps F] in
theorem held_C1 (d : Dev nD) (W : Valuation τ sig (Elt F)) :
    (held (T d) C1 W : sProp 𝕄) = iprop(G0.tPts d fullShare (W t₀) ∗ G0.iPts d fullShare (W i₀) ∗ G0.oPts d (W o₀)) := by
  unfold held C1
  rw [SparseCore.bigSep_insert' (by decide), SparseCore.bigSep_insert' (by decide), bigSep_singleton]

/-- The whole of what @main holds, with the call's arrays apart. -/
theorem held_V5 (d : Dev nD) : (held (T d) (ucRefs τ sig) (V5 m d) : sProp 𝕄)
    = iprop((G0.tPts d fullShare (V5 m d t₀) ∗ G0.iPts d fullShare (V5 m d i₀) ∗ G0.oPts d (V5 m d o₀)) ∗ held (T d) (ucRefs τ sig \ C1) (V5 m d)) := by
  rw [StableHlo.held_sub_split (T d) C1_sub, held_C1]

theorem held_V6 (d : Dev nD) : (held (T d) (ucRefs τ sig) (V6 m d) : sProp 𝕄)
    = iprop((G0.tPts d fullShare (V5 m d t₀) ∗ G0.iPts d fullShare (V5 m d i₀) ∗ G0.oPts d (G0.gathered (V5 m d t₀) (V5 m d i₀))) ∗ held (T d) (ucRefs τ sig \ C1) (V5 m d)) := by
  rw [StableHlo.held_sub_split (T d) C1_sub, held_C1, V6_of_ne m d (show t₀ ≠ o₀ by decide), V6_of_ne m d (show i₀ ≠ o₀ by decide),
    StableHlo.held_congr (T d) (S := ucRefs τ sig \ C1) (V := V6 m d) (V' := V5 m d) fun b hb => V6_of_ne m d fun e =>
      (Finset.mem_sdiff.mp hb).2 (by rw [e]; decide)]
  unfold V6; rw [Function.update_self]

theorem hostA_sub : ∀ op ∈ hostA (F := F), op.bufs ⊆ ucRefs τ sig := by
  intro op h
  simp only [hostA, List.mem_cons, List.not_mem_nil, or_false] at h
  rcases h with rfl | rfl | rfl | rfl | rfl | rfl | rfl | rfl <;> exact Pipeline.sub_ucRefs _ (by simp)
theorem hostB_sub : ∀ op ∈ hostB (F := F), op.bufs ⊆ ucRefs τ sig := by
  intro op h
  simp only [hostB, List.mem_cons, List.not_mem_nil, or_false] at h
  rcases h with rfl | rfl | rfl | rfl <;> exact Pipeline.sub_ucRefs _ (by simp)
theorem hostC_sub : ∀ op ∈ hostC (F := F), op.bufs ⊆ ucRefs τ sig := by
  intro op h
  simp only [hostC, List.mem_cons, List.not_mem_nil, or_false] at h
  rcases h with rfl | rfl | rfl | rfl | rfl | rfl | rfl | rfl | rfl <;> exact Pipeline.sub_ucRefs _ (by simp)
theorem hostD_sub : ∀ op ∈ hostD (F := F), op.bufs ⊆ ucRefs τ sig := by
  intro op h
  simp only [hostD, List.mem_cons, List.not_mem_nil, or_false] at h
  rcases h with rfl | rfl | rfl | rfl | rfl | rfl | rfl <;> exact Pipeline.sub_ucRefs _ (by simp)
theorem hostE_sub : ∀ op ∈ hostE (F := F), op.bufs ⊆ ucRefs τ sig := by
  intro op h
  simp only [hostE, List.mem_cons, List.not_mem_nil, or_false] at h
  rcases h with rfl | rfl | rfl <;> exact Pipeline.sub_ucRefs _ (by simp)

theorem hostA_fresh : ∀ op ∈ hostA (F := F), op.fresh = ∅ := by
  intro _ h; (repeat (cases h with | head => rfl | tail _ h => ?_)); exact nomatch h
theorem hostB_fresh : ∀ op ∈ hostB (F := F), op.fresh = ∅ := by
  intro _ h; (repeat (cases h with | head => rfl | tail _ h => ?_)); exact nomatch h
theorem hostC_fresh : ∀ op ∈ hostC (F := F), op.fresh = ∅ := by
  intro _ h; (repeat (cases h with | head => rfl | tail _ h => ?_)); exact nomatch h
theorem hostD_fresh : ∀ op ∈ hostD (F := F), op.fresh = ∅ := by
  intro _ h; (repeat (cases h with | head => rfl | tail _ h => ?_)); exact nomatch h
theorem hostE_fresh : ∀ op ∈ hostE (F := F), op.fresh = ∅ := by
  intro _ h; (repeat (cases h with | head => rfl | tail _ h => ?_)); exact nomatch h

/-! ## The regions -/

def pdats : Dats (F := F) := fun p c => match p with
  | 0 => F1.dat (E3 m) 1 c
  | 1 => F0.dat (E7 m) 2 c

theorem V4_arr (d : Dev nD) (w : Fin cfg1.W) : V4 m d (rr (Pipeline.arrRef spec1 w)) = (F1.dat (E3 m) 1 d).arrAt w cfg1.N :=
  Pipeline.withArrays_arr spec1 launch1.win.arr_inj d _ _ w
theorem V4_of_ne (d : Dev nD) (b : Ref sig .tc) (hb : b ∉ Finset.univ.image (Pipeline.arrRef spec1)) : V4 m d (rr b) = V3 m d (rr b) :=
  Pipeline.withArrays_of_ne spec1 d _ _ b fun w e => hb (Finset.mem_image.mpr ⟨w, Finset.mem_univ _, e⟩)

set_option backward.isDefEq.respectTransparency.types false in
def region0 : Pipeline.RegionSeg (pcfgs (F := F)) adm (pdats m) (none : HIx 2) defs₀ 𝒱₀ (K (F := F)).L (K (F := F)).lev 0 :=
  seg (pdats m) 0 launch1 1 (V3 m) (V4 m) (fun c w => F1.A_eq (E3 m) 1 c w) (fun _ _ => rfl) (fun _ _ => rfl) (fun _ _ => rfl) (fun _ _ => rfl)
    (fun c => F1.body_obligation (E3 m) 1 c) (fun c w => (V4_arr m c w).symm) (fun c b hb => V4_of_ne m c b hb)

theorem region0_pre (d : Dev nD) : (region0 m).pre d = around 1 (V3 m) d := rfl
theorem region0_post (d : Dev nD) : (region0 m).post d = around 1 (V4 m) d := rfl

theorem V8_arr (d : Dev nD) (w : Fin cfg3.W) : V8 m d (rr (Pipeline.arrRef spec3 w)) = (F0.dat (E7 m) 2 d).arrAt w cfg3.N :=
  Pipeline.withArrays_arr spec3 launch3.win.arr_inj d _ _ w
theorem V8_of_ne (d : Dev nD) (b : Ref sig .tc) (hb : b ∉ Finset.univ.image (Pipeline.arrRef spec3)) : V8 m d (rr b) = V7 m d (rr b) :=
  Pipeline.withArrays_of_ne spec3 d _ _ b fun w e => hb (Finset.mem_image.mpr ⟨w, Finset.mem_univ _, e⟩)

set_option backward.isDefEq.respectTransparency.types false in
def region1 : Pipeline.RegionSeg (pcfgs (F := F)) adm (pdats m) (none : HIx 2) defs₀ 𝒱₀ (K (F := F)).L (K (F := F)).lev 1 :=
  seg (pdats m) 1 launch3 2 (V7 m) (V8 m) (fun c w => F0.A_eq (E7 m) 2 c w) (fun _ _ => rfl) (fun _ _ => rfl) (fun _ _ => rfl) (fun _ _ => rfl)
    (fun c => F0.body_obligation (E7 m) 2 c) (fun c w => (V8_arr m c w).symm) (fun c b hb => V8_of_ne m c b hb)

theorem region1_pre (d : Dev nD) : (region1 m).pre d = around 2 (V7 m) d := rfl
theorem region1_post (d : Dev nD) : (region1 m).post d = around 2 (V8 m) d := rfl

/-- What @main leaves the claim: every array, at the last valuation. -/
abbrev FIN (d : Dev nD) : sProp 𝕄 := held (T d) (ucRefs τ sig) (V9 m d)

abbrev PM : (K (F := F)).Pay (nD := nD) (Val := Elt F) (Name := ℕ) (U := UU) :=
  P (fun d => V1 m d t₁) (fun d => V1 m d i₁) (fun d => V1 m d o₁) (fun d => V5 m d t₀) (fun d => V5 m d i₀) (fun d => V5 m d o₀)

theorem unscoped_held (d : Dev nD) : (unscopedBufs d (fun b => m ((SparseCore.T d).loc b)) : sProp 𝕄) = held (T d) (ucRefs τ sig) (V0 m d) :=
  Pipeline.unscopedBufs_held (Ix := HIx 2) (Name := ℕ) (U := UU) (Lvl := ℕ) d (fun b => m (d, b))

/-- What the TensorCore holds between calls beside the tallies it owes. -/
def between (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_open (d : Dev nD) (n : ℕ) : ((K (F := F)).tcSt EH d n : sProp 𝕄) ⊢ iprop(owing n d ∗ between d n) := Entails.refl _
theorem tcSt_close (d : Dev nD) (n : ℕ) : (iprop(owing n d ∗ between d n) : sProp 𝕄) ⊢ (K (F := F)).tcSt EH d n := Entails.refl _

omit [FloatOps F] in
theorem bigSep_two (A : Fin 2 → sProp 𝕄) : bigSep Finset.univ A = iprop(A 0 ∗ A 1) := by
  rw [show (Finset.univ : Finset (Fin 2)) = insert 0 {1} from rfl, SparseCore.bigSep_insert' (by decide), bigSep_singleton]

/-- @main on a device's TensorCore. -/
theorem hmain (κ : GSem nD τ sig → ℕ) (d : Dev nD) :
    iprop((K (F := F)).ctx EH (PM m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd G
  rw [main_eq, unscoped_held, bigSep_two, bigSep_two]
  iintro ⟨#Hctx, Hst, ⟨Hb, Hheld, Hts, Hprng₀⟩, ⟨Hg, Hg₀⟩, ⟨Htok, Htok₀⟩⟩
  ihave Hprng := (show prngReg d (ρ d) ⊢ (iprop(∃ r, prngReg d r) : sProp 𝕄) from by iintro H; iexists _; iexact H) $$ Hprng₀
  iapply (StableHlo.wp_seq 𝒱 none Set.univ d (ucRefs τ sig) _ hostA hostA_sub hostA_fresh (V0 m d)) $$ [Hb Hheld]
  · isplitl [Hb]; · iexact Hb
    iexact Hheld
  iintro ⟨Hb, Hheld⟩
  ihave Hh := (show (held (d.tc : Thread nD τ) (ucRefs τ sig) (after hostA (V0 m d)) : sProp 𝕄) ⊢ _ from Entails.of_eq (held_V1 m d)) $$ Hheld
  icases Hh with ⟨Hcall, Hrest⟩
  rw [wp_bind]
  iapply ((K (F := F)).wp_run (D (F := F)) 𝒱 (EH := EH) (P := PM m) κ d 0) $$ [Hst Hcall Hrest Hb Hts Hprng Hg Htok Hg₀ Htok₀]
  isplitr; · iexact Hctx
  isplitl [Hst]; · iexact Hst
  isplitl [Hcall]
  · rw [st0_eq]; iexact Hcall
  iintro ⟨Hst₀, Hdn⟩
  ihave Hst := (show ((K (F := F)).tcSt EH d ((0 : Fin 2).val + 1) : sProp 𝕄) ⊢ (K (F := F)).tcSt EH d 1 from Entails.refl _) $$ Hst₀
  ihave Hdn' := (Entails.of_eq (dn0_eq _ _ _ _ _ _ d)) $$ Hdn
  ihave Hheld := (show iprop((G1.tPts d fullShare (V1 m d t₁) ∗ G1.iPts d fullShare (V1 m d i₁) ∗ G1.oPts d (G1.gathered (V1 m d t₁) (V1 m d i₁))) ∗ held (T d) (ucRefs τ sig \ C0) (V1 m d))
    ⊢ (held (d.tc : Thread nD τ) (ucRefs τ sig) (V2 m d) : sProp 𝕄) from Entails.of_eq (held_V2 m d).symm) $$ [Hdn' Hrest]
  · isplitl [Hdn']; · iexact Hdn'
    iexact Hrest
  iapply (StableHlo.wp_seq 𝒱 none Set.univ d (ucRefs τ sig) _ hostB hostB_sub hostB_fresh (V2 m d)) $$ [Hb Hheld]
  · isplitl [Hb]; · iexact Hb
    iexact Hheld
  iintro ⟨Hb, Hheld⟩
  rw [wp_bind]
  ihave Hst' := (tcSt_open d 1) $$ Hst
  icases Hst' with ⟨HO, Hst⟩
  iapply (seg_run (pdats m) 0 (region0 m) d _)
  rw [region0_pre, region0_post]
  isplitr [Hb Hheld HO Hprng Hg Htok]
  swap
  · isplitl [Hb]; · iexact Hb
    isplitl [Hheld HO Hprng]
    · isplitl [Hheld]; · iexact Hheld
      isplitl [Hprng]; · iexact Hprng
      iexact HO
    isplitr; · iapply (SparseCore.Cfg.ctx_levAts κ); iexact Hctx
    isplitl [Hg] <;> iassumption
  iintro ⟨Hb, Hheld, Hprng, HO⟩
  ihave Hst := (tcSt_close d 1) $$ [HO Hst]
  · isplitl [HO]; · iexact HO
    iexact Hst
  iapply (StableHlo.wp_seq 𝒱 none Set.univ d (ucRefs τ sig) _ hostC hostC_sub hostC_fresh (V4 m d)) $$ [Hb Hheld]
  · isplitl [Hb]; · iexact Hb
    iexact Hheld
  iintro ⟨Hb, Hheld⟩
  ihave Hh := (show (held (d.tc : Thread nD τ) (ucRefs τ sig) (after hostC (V4 m d)) : sProp 𝕄) ⊢ _ from Entails.of_eq (held_V5 m d)) $$ Hheld
  icases Hh with ⟨Hcall, Hrest⟩
  rw [wp_bind]
  iapply ((K (F := F)).wp_run (D (F := F)) 𝒱 (EH := EH) (P := PM m) κ d 1) $$ [Hst Hcall Hrest Hb Hts Hprng Hg₀ Htok₀]
  isplitr; · iexact Hctx
  isplitl [Hst]; · iexact Hst
  isplitl [Hcall]
  · rw [st1_eq]; iexact Hcall
  iintro ⟨Hst₀, Hdn⟩
  ihave Hst := (show ((K (F := F)).tcSt EH d ((1 : Fin 2).val + 1) : sProp 𝕄) ⊢ (K (F := F)).tcSt EH d 2 from Entails.refl _) $$ Hst₀
  ihave Hdn' := (Entails.of_eq (dn1_eq _ _ _ _ _ _ d)) $$ Hdn
  ihave Hheld := (show iprop((G0.tPts d fullShare (V5 m d t₀) ∗ G0.iPts d fullShare (V5 m d i₀) ∗ G0.oPts d (G0.gathered (V5 m d t₀) (V5 m d i₀))) ∗ held (T d) (ucRefs τ sig \ C1) (V5 m d))
    ⊢ (held (d.tc : Thread nD τ) (ucRefs τ sig) (V6 m d) : sProp 𝕄) from Entails.of_eq (held_V6 m d).symm) $$ [Hdn' Hrest]
  · isplitl [Hdn']; · iexact Hdn'
    iexact Hrest
  iapply (StableHlo.wp_seq 𝒱 none Set.univ d (ucRefs τ sig) _ hostD hostD_sub hostD_fresh (V6 m d)) $$ [Hb Hheld]
  · isplitl [Hb]; · iexact Hb
    iexact Hheld
  iintro ⟨Hb, Hheld⟩
  rw [wp_bind]
  ihave Hst' := (tcSt_open d 2) $$ Hst
  icases Hst' with ⟨HO, Hst⟩
  iapply (seg_run (pdats m) 1 (region1 m) d _)
  rw [region1_pre, region1_post]
  isplitr [Hb Hheld HO Hprng Hg₀ Htok₀]
  swap
  · isplitl [Hb]; · iexact Hb
    isplitl [Hheld HO Hprng]
    · isplitl [Hheld]; · iexact Hheld
      isplitl [Hprng]; · iexact Hprng
      iexact HO
    isplitr; · iapply (SparseCore.Cfg.ctx_levAts κ); iexact Hctx
    isplitl [Hg₀] <;> iassumption
  iintro ⟨Hb, Hheld, Hprng, HO⟩
  ihave Hst := (tcSt_close d 2) $$ [HO Hst]
  · isplitl [HO]; · iexact HO
    iexact Hst
  iapply (StableHlo.wp_seq 𝒱 none Set.univ d (ucRefs τ sig) _ hostE hostE_sub hostE_fresh (V8 m d)) $$ [Hb Hheld]
  · isplitl [Hb]; · iexact Hb
    iexact Hheld
  iintro ⟨Hb, Hheld⟩
  rw [wp_pure]; imodintro
  isplitl [Hst]; · iexact Hst
  isplitl [Hheld]; · iexact Hheld
  isplitl [Hb] <;> iassumption

def fq (d : Dev nD) (s' : Phys nD τ sig (Elt F)) : Prop := ∀ b ∈ ucRefs τ sig, s'.mem.mem (d, b) = V9 m d b

theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) (ucRefs τ sig)) $$ [HSI H]
  · isplitl [HSI]; · iexact HSI
    iexact H
  ipureintro
  exact h

/-! ## The program's run -/

def QC : PUnit × MemSt nD τ sig (Elt F) → Prop := fun r => (∀ d : Dev nD, ∀ b ∈ ucRefs τ sig, r.2.mem (d, b) = V9 m d b) ∧ r.2.sem = fun _ => 0

/-- Every run ends, with every array at the last valuation and every semaphore at zero. -/
theorem run_main [∀ e, Nonempty (Elt F e)] (hI : ∀ d, G1.InRows (V1 m d i₁)) (hJ : ∀ d, G0.InRows (V5 m d i₀)) :
    θ_run (defs (F := F)) (threads (F := F)) ⟨m, fun _ => 0, ρ⟩ (QC m) :=
  SparseCore.Cfg.θ_run_sc_quiescent (K := K (F := F)) (D := D (F := F)) (𝒱 := 𝒱) (EH := EH) (P := PM m) (A := ∅) facts v₀
    (fun q hq => match q with | 0 => nomatch hq | 1 => nomatch hq)
    (fun q _ => match q with | 0 => tileObl0 _ _ _ _ _ _ hI | 1 => tileObl1 _ _ _ _ _ _ hJ)
    (fun q _ => match q with
      | 0 => SparseCore.Cfg.VecSplit.of_plain (vecSplit0 _ _ _ _ _ _)
      | 1 => SparseCore.Cfg.VecSplit.of_plain (vecSplit1 _ _ _ _ _ _))
    m ρ main G (FIN m) (u₀ (F := F)) (sep_elim_left.trans (hu₀ _ _ _ _ _ _)) (hmain m ρ) (fq m) (hfin m) (QC m) (fun _ h hz => ⟨h, hz⟩)

end Cert.Proof.Tail

end
-- ==== Proof.Reads.lean ====
/-
  What the valuations of the run hold: the regions' windows as functions of the arguments, the result, and the arguments
  unchanged.
-/
module

public import proofs.«01_k».proof.Proof.Main

@[expose] public section

noncomputable section

namespace Cert.Proof.Tail

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held seq after)
open Idealize.ShloMosaic.Pipeline (ucRefs)

variable {F : FTy → Type} [FloatOps F] (m : (ℓ : Loc nD τ sig) → Buf (Elt F) ℓ) (ρ : Dev nD → PrngReg)

/-! ## What each stretch of host operations leaves, of any arrays -/

variable (W : Valuation τ sig (Elt F))

theorem hostC_i : after hostC W i₀ = list (W (rr main_v13_1)) := rfl
theorem hostC_t : after hostC W t₀ = table (W (rr main_arg2)) (W (rr main_arg4)) := rfl
theorem hostC_car : after hostC W (rr main_v14) = carried (W (rr main_v13_0)) := rfl
theorem hostD_q : after hostD W (rr main_v29) = quads (W (rr main_arg0)) := rfl
theorem hostD_kv : after hostD W (rr main_v30) = byCell (W o₀) := rfl
theorem hostE_out : after hostE W (rr main_v34) = byToken (W (rr main_v31)) := rfl

/-! ## Up to the first region -/

theorem V1_i (d : Dev nD) : V1 m d i₁ = list1 (m (d, rr main_arg8)) := rfl

theorem V3_keep (d : Dev nD) (b : Ref sig .tc) (h3 : V3 m d (rr b) = V2 m d (rr b)) (h2 : rr b ≠ o₁) (h1 : V1 m d (rr b) = m (d, rr b)) :
    V3 m d (rr b) = m (d, rr b) := by rw [h3, V2_of_ne m d h2, h1]

theorem V3_q (d : Dev nD) : E3 m d main_v11 = quads1 (m (d, rr main_arg1)) := by
  rw [show E3 m d main_v11 = quads1 (V2 m d (rr main_arg1)) from rfl, V2_of_ne m d (by decide)]; rfl
theorem V3_kv (d : Dev nD) : E3 m d main_v12
    = byCell1 (G1.gathered (table1 (m (d, rr main_arg3)) (m (d, rr main_arg5))) (list1 (m (d, rr main_arg8)))) := by
  rw [show E3 m d main_v12 = byCell1 (V2 m d o₁) from rfl]
  unfold V2; rw [Function.update_self]; rfl
theorem V3_arg6 (d : Dev nD) : E3 m d main_arg6 = m (d, rr main_arg6) := V3_keep m d main_arg6 rfl (by decide) rfl
theorem V3_arg7 (d : Dev nD) : E3 m d main_arg7 = m (d, rr main_arg7) := V3_keep m d main_arg7 rfl (by decide) rfl
theorem V3_arg8 (d : Dev nD) : E3 m d main_arg8 = m (d, rr main_arg8) := V3_keep m d main_arg8 rfl (by decide) rfl

/-! ## Up to the second -/

/-- The first region's two results. -/
abbrev midOut (d : Dev nD) : S16x256x4x16.Idx → Elt F .f32 := (F1.dat (E3 m) 1 d).arrAt 5 cfg1.N
abbrev midRows (d : Dev nD) : S16x256x4x16.Idx → BitVec 32 := (F1.dat (E3 m) 1 d).arrAt 6 cfg1.N

theorem V4_keep (d : Dev nD) (b : Ref sig .tc) (hb : b ∉ Finset.univ.image (Pipeline.arrRef spec1))
    (h3 : V3 m d (rr b) = V2 m d (rr b)) (h2 : rr b ≠ o₁) (h1 : V1 m d (rr b) = m (d, rr b)) : V4 m d (rr b) = m (d, rr b) := by
  rw [V4_of_ne m d b hb, V3_keep m d b h3 h2 h1]

/-- A window the region only reads is left as it was. -/
theorem V4_in (d : Dev nD) (w : Fin cfg1.W) (hw : (cfg1.win w).isOut = false) : V4 m d (rr (Pipeline.arrRef spec1 w)) = V3 m d (rr (Pipeline.arrRef spec1 w)) :=
  (V4_arr m d w).trans (((F1.dat (E3 m) 1 d).arrAt_in w hw _).trans (F1.A_eq (E3 m) 1 d w))

theorem V5_i (d : Dev nD) : V5 m d i₀ = list (midRows m d) := by
  unfold V5; rw [hostC_i]
  exact congrArg list (V4_arr m d 6)
theorem V5_t (d : Dev nD) : V5 m d t₀ = table (m (d, rr main_arg2)) (m (d, rr main_arg4)) := by
  unfold V5; rw [hostC_t, V4_keep m d main_arg2 (by decide) rfl (by decide) rfl,
    V4_keep m d main_arg4 (by decide) rfl (by decide) rfl]

theorem V7_q (d : Dev nD) : E7 m d main_v29 = quads (m (d, rr main_arg0)) := by
  unfold E7 V7; rw [hostD_q, V6_of_ne m d (by decide), show V5 m d (rr main_arg0) = V4 m d (rr main_arg0) from rfl,
    V4_keep m d main_arg0 (by decide) rfl (by decide) rfl]
theorem V7_kv (d : Dev nD) : E7 m d main_v30
    = byCell (G0.gathered (table (m (d, rr main_arg2)) (m (d, rr main_arg4))) (list (midRows m d))) := by
  unfold E7 V7; rw [hostD_kv]
  unfold V6; rw [Function.update_self, V5_i, V5_t]
theorem V7_car (d : Dev nD) : E7 m d main_v14 = carried (midOut m d) := by
  rw [show E7 m d main_v14 = V6 m d (rr main_v14) from rfl, V6_of_ne m d (by decide), show V5 m d (rr main_v14) = carried (V4 m d (rr main_v13_0)) from hostC_car _]
  exact congrArg carried (V4_arr m d 5)
theorem V7_arg6 (d : Dev nD) : E7 m d main_arg6 = m (d, rr main_arg6) := by
  rw [show E7 m d main_arg6 = V6 m d (rr main_arg6) from rfl, V6_of_ne m d (by decide), show V5 m d (rr main_arg6) = V4 m d (rr main_arg6) from rfl]
  exact (V4_in m d 4 rfl).trans (V3_arg6 m d)

/-! ## The end -/

theorem V9_out (d : Dev nD) : V9 m d (rr main_v34) = byToken ((F0.dat (E7 m) 2 d).arrAt 4 cfg3.N) := by
  unfold V9; rw [hostE_out]
  exact congrArg byToken (V8_arr m d 4)

theorem V9_keep (d : Dev nD) (b : Ref sig .tc) (hb : b ∉ Finset.univ.image (Pipeline.arrRef spec3)) (h9 : V9 m d (rr b) = V8 m d (rr b))
    (h7 : V7 m d (rr b) = V6 m d (rr b)) (h6 : rr b ≠ o₀) (h5 : V5 m d (rr b) = V4 m d (rr b)) (h4 : V4 m d (rr b) = m (d, rr b)) :
    V9 m d (rr b) = m (d, rr b) := by
  rw [h9, V8_of_ne m d b hb, h7, V6_of_ne m d h6, h5, h4]

theorem V9_arg6 (d : Dev nD) : V9 m d (rr main_arg6) = m (d, rr main_arg6) := by
  rw [show V9 m d (rr main_arg6) = V8 m d (rr main_arg6) from rfl]
  exact ((V8_arr m d 3).trans (((F0.dat (E7 m) 2 d).arrAt_in 3 rfl _).trans (F0.A_eq (E7 m) 2 d 3))).trans (V7_arg6 m d)

/-- An argument neither region has a window on is as it was. -/
theorem V9_arg (d : Dev nD) (b : Ref sig .tc) (hb : b ∉ Finset.univ.image (Pipeline.arrRef spec3)) (hb' : b ∉ Finset.univ.image (Pipeline.arrRef spec1))
    (hE : ∀ W : Valuation τ sig (Elt F), after hostE W (rr b) = W (rr b)) (hD : ∀ W : Valuation τ sig (Elt F), after hostD W (rr b) = W (rr b))
    (hC : ∀ W : Valuation τ sig (Elt F), after hostC W (rr b) = W (rr b)) (hB : ∀ W : Valuation τ sig (Elt F), after hostB W (rr b) = W (rr b))
    (hA : ∀ W : Valuation τ sig (Elt F), after hostA W (rr b) = W (rr b)) (h0 : rr b ≠ o₀) (h1 : rr b ≠ o₁) : V9 m d (rr b) = m (d, rr b) :=
  V9_keep m d b hb (hE _) (hD _) h0 (hC _) (V4_keep m d b hb' (hB _) h1 (hA _))

theorem V9_arg0 (d : Dev nD) : V9 m d (rr main_arg0) = m (d, rr main_arg0) :=
  V9_arg m d main_arg0 (by decide) (by decide) (fun _ => rfl) (fun _ => rfl) (fun _ => rfl) (fun _ => rfl) (fun _ => rfl) (by decide) (by decide)
theorem V9_arg1 (d : Dev nD) : V9 m d (rr main_arg1) = m (d, rr main_arg1) :=
  V9_arg m d main_arg1 (by decide) (by decide) (fun _ => rfl) (fun _ => rfl) (fun _ => rfl) (fun _ => rfl) (fun _ => rfl) (by decide) (by decide)
theorem V9_arg2 (d : Dev nD) : V9 m d (rr main_arg2) = m (d, rr main_arg2) :=
  V9_arg m d main_arg2 (by decide) (by decide) (fun _ => rfl) (fun _ => rfl) (fun _ => rfl) (fun _ => rfl) (fun _ => rfl) (by decide) (by decide)
theorem V9_arg3 (d : Dev nD) : V9 m d (rr main_arg3) = m (d, rr main_arg3) :=
  V9_arg m d main_arg3 (by decide) (by decide) (fun _ => rfl) (fun _ => rfl) (fun _ => rfl) (fun _ => rfl) (fun _ => rfl) (by decide) (by decide)
theorem V9_arg4 (d : Dev nD) : V9 m d (rr main_arg4) = m (d, rr main_arg4) :=
  V9_arg m d main_arg4 (by decide) (by decide) (fun _ => rfl) (fun _ => rfl) (fun _ => rfl) (fun _ => rfl) (fun _ => rfl) (by decide) (by decide)
theorem V9_arg5 (d : Dev nD) : V9 m d (rr main_arg5) = m (d, rr main_arg5) :=
  V9_arg m d main_arg5 (by decide) (by decide) (fun _ => rfl) (fun _ => rfl) (fun _ => rfl) (fun _ => rfl) (fun _ => rfl) (by decide) (by decide)
theorem hostE_arg7 : after hostE W (rr main_arg7) = W (rr main_arg7) := rfl
theorem hostD_arg7 : after hostD W (rr main_arg7) = W (rr main_arg7) := rfl
theorem hostC_arg7 : after hostC W (rr main_arg7) = W (rr main_arg7) := rfl
theorem V9_arg7 (d : Dev nD) : V9 m d (rr main_arg7) = m (d, rr main_arg7) :=
  V9_keep m d main_arg7 (by decide) (hostE_arg7 _) (hostD_arg7 _) (by decide) (hostC_arg7 _) ((V4_in m d 2 rfl).trans (V3_arg7 m d))
theorem hostE_arg8 : after hostE W (rr main_arg8) = W (rr main_arg8) := rfl
theorem hostD_arg8 : after hostD W (rr main_arg8) = W (rr main_arg8) := rfl
theorem hostC_arg8 : after hostC W (rr main_arg8) = W (rr main_arg8) := rfl
theorem V9_arg8 (d : Dev nD) : V9 m d (rr main_arg8) = m (d, rr main_arg8) :=
  V9_keep m d main_arg8 (by decide) (hostE_arg8 _) (hostD_arg8 _) (by decide) (hostC_arg8 _) ((V4_in m d 3 rfl).trans (V3_arg8 m d))

/-- The run, of what a claim reads: the result and the arguments. -/
theorem run_read [∀ e, Nonempty (Elt F e)] (hI : ∀ d, G1.InRows (list1 (m (d, rr main_arg8)))) (hJ : ∀ d, G0.InRows (list (midRows m d))) :
    θ_run (defs (F := F)) (threads (F := F)) ⟨m, fun _ => 0, ρ⟩ fun r => (∀ d : Dev nD,
      r.2.mem (d, rr main_v34) = byToken ((F0.dat (E7 m) 2 d).arrAt 4 cfg3.N)
      ∧ r.2.mem (d, rr main_arg0) = m (d, rr main_arg0) ∧ r.2.mem (d, rr main_arg1) = m (d, rr main_arg1) ∧ r.2.mem (d, rr main_arg2) = m (d, rr main_arg2)
      ∧ r.2.mem (d, rr main_arg3) = m (d, rr main_arg3) ∧ r.2.mem (d, rr main_arg4) = m (d, rr main_arg4) ∧ r.2.mem (d, rr main_arg5) = m (d, rr main_arg5)
      ∧ r.2.mem (d, rr main_arg6) = m (d, rr main_arg6) ∧ r.2.mem (d, rr main_arg7) = m (d, rr main_arg7) ∧ r.2.mem (d, rr main_arg8) = m (d, rr main_arg8)) ∧ r.2.sem = fun _ => 0 :=
  (θ_run _ _ _).mono (fun _ h => ⟨fun d => ⟨(h.1 d _ (by decide)).trans (V9_out m d), (h.1 d _ (by decide)).trans (V9_arg0 m d),
      (h.1 d _ (by decide)).trans (V9_arg1 m d), (h.1 d _ (by decide)).trans (V9_arg2 m d), (h.1 d _ (by decide)).trans (V9_arg3 m d),
      (h.1 d _ (by decide)).trans (V9_arg4 m d), (h.1 d _ (by decide)).trans (V9_arg5 m d), (h.1 d _ (by decide)).trans (V9_arg6 m d),
      (h.1 d _ (by decide)).trans (V9_arg7 m d), (h.1 d _ (by decide)).trans (V9_arg8 m d)⟩, h.2⟩)
    (run_main m ρ (fun d => by rw [V1_i]; exact hI d) (fun d => by rw [V5_i]; exact hJ d))

end Cert.Proof.Tail

end
-- ==== Proof.Mid.lean ====
/-
  What the first region leaves of the whole arrays it reads, at any float values: each of its two results is the body's, a
  block of sixty-four cells at a time, and the blocks tile the array.
-/
module

public import proofs.«01_k».proof.Proof.Fine1
public import Idealize.ShloMosaic.Lib.Pipeline.Covers

@[expose] public section

noncomputable section

namespace Cert.Proof.Tail.F1

open Cert.KernelIdeal Cert.KernelIdeal.Gen

open Idealize.ShloMosaic

variable {F : FTy → Type} [FloatOps F]

/-- A head's block of cells, of an array of rows by cell … -/
def cut4 {e : EltTy} {A B : ℕ} (x : (⟨4, ![16, 256, A, B]⟩ : Shape).Idx → Elt F e) (h : Fin 16) (k : Fin 4) : (⟨4, ![1, 64, A, B]⟩ : Shape).Idx → Elt F e :=
  fun y => x (ix4 h ⟨k.val * 64 + (y 1).val, by have h := (y 1).isLt; change _ < 64 at h; omega⟩ (y 2) (y 3))
/-- … and of an array of values by cell. -/
def cut3 {e : EltTy} {A : ℕ} (x : (⟨3, ![16, 256, A]⟩ : Shape).Idx → Elt F e) (h : Fin 16) (k : Fin 4) : (⟨3, ![1, 64, A]⟩ : Shape).Idx → Elt F e :=
  fun y => x (ix3 h ⟨k.val * 64 + (y 1).val, by have h := (y 1).isLt; change _ < 64 at h; omega⟩ (y 2))

/-- What the level leaves to the finest, of the whole arrays. -/
def midCar (q : Vec F S16x256x4x16 .f32) (kv : Vec F S16x256x16x128 .f32) (c : Vec F S16x256x16 .f32) (w : Vec F S3 .f32) : Vec F S16x256x4x16 .f32 := fun i =>
  carriedOf (cut4 q (i 0) ⟨(i 1).val / 64, by have h := (i 1).isLt; change _ < 256 at h; omega⟩) (cut4 kv (i 0) ⟨(i 1).val / 64, by have h := (i 1).isLt; change _ < 256 at h; omega⟩)
    (cut3 c (i 0) ⟨(i 1).val / 64, by have h := (i 1).isLt; change _ < 256 at h; omega⟩) w (ix4 0 ⟨(i 1).val % 64, by omega⟩ (i 2) (i 3))

/-- The rows chosen for the finest, of the whole arrays. -/
def midRow (q : Vec F S16x256x4x16 .f32) (kv : Vec F S16x256x16x128 .f32) (g : Vec F S16x256x16 .i32) : Vec F S16x256x4x16 .i32 := fun i =>
  chosenOf (BitVec.ofNat 32 (i 0).val) (cut4 q (i 0) ⟨(i 1).val / 64, by have h := (i 1).isLt; change _ < 256 at h; omega⟩) (cut4 kv (i 0) ⟨(i 1).val / 64, by have h := (i 1).isLt; change _ < 256 at h; omega⟩)
    (cut3 g (i 0) ⟨(i 1).val / 64, by have h := (i 1).isLt; change _ < 256 at h; omega⟩) (ix4 0 ⟨(i 1).val % 64, by omega⟩ (i 2) (i 3))

theorem div_of_block {k p : ℕ} (h : p < 64) : (k * 64 + p) / 64 = k := by omega
theorem mod_of_block {k p : ℕ} (h : p < 64) : (k * 64 + p) % 64 = p := by omega

theorem midCar_block (q : Vec F S16x256x4x16 .f32) (kv : Vec F S16x256x16x128 .f32) (c : Vec F S16x256x16 .f32) (w : Vec F S3 .f32) (h : Fin 16) (k : Fin 4) (p : Fin 64) (f : Fin 4) (s : Fin 16) :
    midCar q kv c w (ix4 h ⟨k.val * 64 + p.val, by omega⟩ f s) = carriedOf (cut4 q h k) (cut4 kv h k) (cut3 c h k) w (ix4 0 p f s) := by
  have e1 : (⟨(k.val * 64 + p.val) / 64, by omega⟩ : Fin 4) = k := Fin.ext (div_of_block p.isLt)
  have e2 : (⟨(k.val * 64 + p.val) % 64, by omega⟩ : Fin 64) = p := Fin.ext (mod_of_block p.isLt)
  show carriedOf (cut4 q h ⟨(k.val * 64 + p.val) / 64, _⟩) (cut4 kv h ⟨(k.val * 64 + p.val) / 64, _⟩) (cut3 c h ⟨(k.val * 64 + p.val) / 64, _⟩) w (ix4 0 ⟨(k.val * 64 + p.val) % 64, _⟩ f s) = _
  rw [e1, e2]

theorem midRow_block (q : Vec F S16x256x4x16 .f32) (kv : Vec F S16x256x16x128 .f32) (g : Vec F S16x256x16 .i32) (h : Fin 16) (k : Fin 4) (p : Fin 64) (f : Fin 4) (s : Fin 16) :
    midRow q kv g (ix4 h ⟨k.val * 64 + p.val, by omega⟩ f s) = chosenOf (BitVec.ofNat 32 h.val) (cut4 q h k) (cut4 kv h k) (cut3 (F := F) g h k) (ix4 0 p f s) := by
  have e1 : (⟨(k.val * 64 + p.val) / 64, by omega⟩ : Fin 4) = k := Fin.ext (div_of_block p.isLt)
  have e2 : (⟨(k.val * 64 + p.val) % 64, by omega⟩ : Fin 64) = p := Fin.ext (mod_of_block p.isLt)
  show chosenOf (BitVec.ofNat 32 h.val) (cut4 q h ⟨(k.val * 64 + p.val) / 64, _⟩) (cut4 kv h ⟨(k.val * 64 + p.val) / 64, _⟩) (cut3 g h ⟨(k.val * 64 + p.val) / 64, _⟩) (ix4 0 ⟨(k.val * 64 + p.val) % 64, _⟩ f s) = _
  rw [e1, e2]

variable (V : (c : Dev nD) → (b : Ref sig .tc) → Buf (Elt F) ((c.tc : Thread nD τ).loc b)) (n : ℕ)

/-- A point's head, and its block of cells. -/
def ptHead (t : Fin cfg1.N) : Fin 16 := grid1.coords t 0
def ptBlk (t : Fin cfg1.N) : Fin 4 := grid1.coords t 1
def ptRow (t : Fin cfg1.N) (p : Fin 64) : Fin 256 := ⟨(ptBlk t).val * 64 + p.val, by omega⟩

theorem coord_toNat0 (t : Fin cfg1.N) : (BitVec.ofNat 32 (grid1.coords t 0).val).toNat = (grid1.coords t 0).val := by
  have := (grid1.coords t 0).isLt; change _ < 16 at this; rw [BitVec.toNat_ofNat]; omega
theorem coord_toNat1 (t : Fin cfg1.N) : (BitVec.ofNat 32 (grid1.coords t 1).val).toNat = (grid1.coords t 1).val := by
  have := (grid1.coords t 1).isLt; change _ < 4 at this; rw [BitVec.toNat_ofNat]; omega

theorem emb_0 (t : Fin cfg1.N) (p : Fin 64) (f : Fin 4) (d : Fin 16) :
    (win1_0.rect t).emb (ix4 (0 : Fin 1) p f d : S1x64x4x16.Idx) = (ix4 (ptHead t) (ptRow t p) f d : S16x256x4x16.Idx) := by
  funext a
  refine Fin.ext ?_
  rw [Pipeline.Window.rect_emb_val win1_0 t _ a rfl]
  match a with
  | ⟨0, _⟩ => show (BitVec.ofNat 32 (grid1.coords t 0).val).toNat * 1 + 0 = (grid1.coords t 0).val; rw [coord_toNat0]; omega
  | ⟨1, _⟩ => show (BitVec.ofNat 32 (grid1.coords t 1).val).toNat * 64 + p.val = (grid1.coords t 1).val * 64 + p.val; rw [coord_toNat1]
  | ⟨2, _⟩ => show 0 * 4 + f.val = f.val; omega
  | ⟨3, _⟩ => show 0 * 16 + d.val = d.val; omega
theorem emb_1 (t : Fin cfg1.N) (p : Fin 64) (x : Fin 16) (q : Fin 128) :
    (win1_1.rect t).emb (ix4 (0 : Fin 1) p x q : S1x64x16x128.Idx) = (ix4 (ptHead t) (ptRow t p) x q : S16x256x16x128.Idx) := by
  funext a
  refine Fin.ext ?_
  rw [Pipeline.Window.rect_emb_val win1_1 t _ a rfl]
  match a with
  | ⟨0, _⟩ => show (BitVec.ofNat 32 (grid1.coords t 0).val).toNat * 1 + 0 = (grid1.coords t 0).val; rw [coord_toNat0]; omega
  | ⟨1, _⟩ => show (BitVec.ofNat 32 (grid1.coords t 1).val).toNat * 64 + p.val = (grid1.coords t 1).val * 64 + p.val; rw [coord_toNat1]
  | ⟨2, _⟩ => show 0 * 16 + x.val = x.val; omega
  | ⟨3, _⟩ => show 0 * 128 + q.val = q.val; omega
theorem emb_2 (t : Fin cfg1.N) (p : Fin 64) (d : Fin 16) :
    (win1_2.rect t).emb (ix3 (0 : Fin 1) p d : S1x64x16.Idx) = (ix3 (ptHead t) (ptRow t p) d : S16x256x16.Idx) := by
  funext a
  refine Fin.ext ?_
  rw [Pipeline.Window.rect_emb_val win1_2 t _ a rfl]
  match a with
  | ⟨0, _⟩ => show (BitVec.ofNat 32 (grid1.coords t 0).val).toNat * 1 + 0 = (grid1.coords t 0).val; rw [coord_toNat0]; omega
  | ⟨1, _⟩ => show (BitVec.ofNat 32 (grid1.coords t 1).val).toNat * 64 + p.val = (grid1.coords t 1).val * 64 + p.val; rw [coord_toNat1]
  | ⟨2, _⟩ => show 0 * 16 + d.val = d.val; omega
theorem emb_3 (t : Fin cfg1.N) (p : Fin 64) (d : Fin 16) :
    (win1_3.rect t).emb (ix3 (0 : Fin 1) p d : S1x64x16.Idx) = (ix3 (ptHead t) (ptRow t p) d : S16x256x16.Idx) := emb_2 t p d
theorem emb_4 (t : Fin cfg1.N) (i : Fin 3) : (win1_4.rect t).emb (ix1 i : KernelIdeal.S3.Idx) = (ix1 i : KernelIdeal.S3.Idx) := by
  funext a
  refine Fin.ext ?_
  rw [Pipeline.Window.rect_emb_val win1_4 t _ a rfl]
  match a with
  | ⟨0, _⟩ => show 0 * 3 + i.val = i.val; omega
theorem emb_5 (t : Fin cfg1.N) (p : Fin 64) (f : Fin 4) (d : Fin 16) :
    (win1_5.rect t).emb (ix4 (0 : Fin 1) p f d : S1x64x4x16.Idx) = (ix4 (ptHead t) (ptRow t p) f d : S16x256x4x16.Idx) := emb_0 t p f d
theorem emb_6 (t : Fin cfg1.N) (p : Fin 64) (f : Fin 4) (d : Fin 16) :
    (win1_6.rect t).emb (ix4 (0 : Fin 1) p f d : S1x64x4x16.Idx) = (ix4 (ptHead t) (ptRow t p) f d : S16x256x4x16.Idx) := emb_0 t p f d

/-! ## The inputs' blocks -/

theorem iblk_0 (c : Dev nD) (t : Fin cfg1.N) : iblk V c 0 t = cut4 (V c main_v11) (ptHead t) (ptBlk t) := by
  funext y
  obtain ⟨z, p, f, d, rfl⟩ : ∃ (z : Fin 1) (p : Fin 64) (f : Fin 4) (d : Fin 16), y = (ix4 z p f d : S1x64x4x16.Idx) := ⟨y 0, y 1, y 2, y 3, eq_ix4 _⟩
  obtain rfl : z = 0 := Subsingleton.elim _ _
  exact congrArg (V c main_v11) (emb_0 t p f d)
theorem iblk_1 (c : Dev nD) (t : Fin cfg1.N) : iblk V c 1 t = cut4 (V c main_v12) (ptHead t) (ptBlk t) := by
  funext y
  obtain ⟨z, p, f, d, rfl⟩ : ∃ (z : Fin 1) (p : Fin 64) (f : Fin 16) (d : Fin 128), y = (ix4 z p f d : S1x64x16x128.Idx) := ⟨y 0, y 1, y 2, y 3, eq_ix4 _⟩
  obtain rfl : z = 0 := Subsingleton.elim _ _
  exact congrArg (V c main_v12) (emb_1 t p f d)
theorem iblk_2 (c : Dev nD) (t : Fin cfg1.N) : iblk V c 2 t = cut3 (V c main_arg7) (ptHead t) (ptBlk t) := by
  funext y
  obtain ⟨z, p, d, rfl⟩ : ∃ (z : Fin 1) (p : Fin 64) (d : Fin 16), y = (ix3 z p d : S1x64x16.Idx) := ⟨y 0, y 1, y 2, eq_ix3 _⟩
  obtain rfl : z = 0 := Subsingleton.elim _ _
  exact congrArg (V c main_arg7) (emb_2 t p d)
theorem iblk_3 (c : Dev nD) (t : Fin cfg1.N) : iblk V c 3 t = cut3 (F := F) (V c main_arg8) (ptHead t) (ptBlk t) := by
  funext y
  obtain ⟨z, p, d, rfl⟩ : ∃ (z : Fin 1) (p : Fin 64) (d : Fin 16), y = (ix3 z p d : S1x64x16.Idx) := ⟨y 0, y 1, y 2, eq_ix3 _⟩
  obtain rfl : z = 0 := Subsingleton.elim _ _
  exact congrArg (V c main_arg8) (emb_3 t p d)
theorem iblk_4 (c : Dev nD) (t : Fin cfg1.N) : iblk V c 4 t = V c main_arg6 := by
  funext y
  obtain ⟨i, rfl⟩ : ∃ (i : Fin 3), y = (ix1 i : KernelIdeal.S3.Idx) := ⟨y 0, eq_ix1 _⟩
  exact congrArg (V c main_arg6) (emb_4 t i)

/-! ## The results -/

theorem flushed_5 (c : Dev nD) (t : Fin cfg1.N) :
    (dat V n c).flushed 5 t = (win1_5.blk t).view.read (Elt F) (midCar (V c main_v11) (V c main_v12) (V c main_arg7) (V c main_arg6)) := by
  show (cfg1.win 5).cut (grid1.coords t) ((dat V n c).after 5 t) = _
  rw [after_5]
  unfold carriedAt
  rw [iblk_0, iblk_1, iblk_2, iblk_4]
  funext y
  obtain ⟨z, p, f, d, rfl⟩ : ∃ (z : Fin 1) (p : Fin 64) (f : Fin 4) (d : Fin 16), y = (ix4 z p f d : S1x64x4x16.Idx) := ⟨y 0, y 1, y 2, y 3, eq_ix4 _⟩
  obtain rfl : z = 0 := Subsingleton.elim _ _
  exact (midCar_block (V c main_v11) (V c main_v12) (V c main_arg7) (V c main_arg6) (ptHead t) (ptBlk t) p f d).symm.trans
    (congrArg (midCar (V c main_v11) (V c main_v12) (V c main_arg7) (V c main_arg6)) (emb_5 t p f d).symm)

theorem flushed_6 (c : Dev nD) (t : Fin cfg1.N) :
    (dat V n c).flushed 6 t = (win1_6.blk t).view.read (Elt F) (midRow (V c main_v11) (V c main_v12) (V c main_arg8)) := by
  show (cfg1.win 6).cut (grid1.coords t) ((dat V n c).after 6 t) = _
  rw [after_6]
  unfold chosenAt
  rw [iblk_0, iblk_1, iblk_3]
  funext y
  obtain ⟨z, p, f, d, rfl⟩ : ∃ (z : Fin 1) (p : Fin 64) (f : Fin 4) (d : Fin 16), y = (ix4 z p f d : S1x64x4x16.Idx) := ⟨y 0, y 1, y 2, y 3, eq_ix4 _⟩
  obtain rfl : z = 0 := Subsingleton.elim _ _
  exact (midRow_block (V c main_v11) (V c main_v12) (V c main_arg8) (ptHead t) (ptBlk t) p f d).symm.trans
    (congrArg (midRow (V c main_v11) (V c main_v12) (V c main_arg8)) (emb_6 t p f d).symm)

theorem flush_5 : ∀ t : Fin grid1.N, win1_5.flush t = true := fun t =>
  (Pipeline.Window.flush_reads win1_5 rfl 1 (by decide) (by decide) (Pipeline.Window.sep_of_coord cc1_transform_5 1 1 (fun _ => rfl) (by decide)) (P := 1) (m := 0) (by decide) rfl t).mpr (Nat.mod_one _)
theorem flush_6 : ∀ t : Fin grid1.N, win1_6.flush t = true := fun t =>
  (Pipeline.Window.flush_reads win1_6 rfl 1 (by decide) (by decide) (Pipeline.Window.sep_of_coord cc1_transform_6 1 1 (fun _ => rfl) (by decide)) (P := 1) (m := 0) (by decide) rfl t).mpr (Nat.mod_one _)

/-- Every cell lies in a point's block. -/
theorem point_of (h : Fin 16) (r : Fin 256) : ∃ t : Fin cfg1.N, ptHead t = h ∧ ptRow t ⟨r.val % 64, by omega⟩ = r := by
  obtain ⟨t, ht⟩ := grid1.coords_surjective (fun a => match a with | ⟨0, _⟩ => h | ⟨1, _⟩ => (⟨r.val / 64, by omega⟩ : Fin 4))
  refine ⟨t, by unfold ptHead; rw [ht], Fin.ext ?_⟩
  show (grid1.coords t 1).val * 64 + r.val % 64 = r.val
  rw [ht]; show r.val / 64 * 64 + r.val % 64 = r.val; omega

theorem cover_5 (i : S16x256x4x16.Idx) : ∃ t : Fin cfg1.N, (cfg1.win 5).flush t = true ∧ i ∈ ((cfg1.win 5).blk t).view.set := by
  obtain ⟨h, r, f, d, rfl⟩ : ∃ (h : Fin 16) (r : Fin 256) (f : Fin 4) (d : Fin 16), i = ix4 h r f d := ⟨i 0, i 1, i 2, i 3, eq_ix4 _⟩
  obtain ⟨t, e0, e1⟩ := point_of h r
  refine ⟨t, flush_5 t, ?_⟩
  have := ((cfg1.win 5).blk t).view.emb_mem_set (ix4 (0 : Fin 1) (⟨r.val % 64, by omega⟩ : Fin 64) f d : S1x64x4x16.Idx)
  rwa [show ((cfg1.win 5).blk t).view.emb (ix4 (0 : Fin 1) (⟨r.val % 64, by omega⟩ : Fin 64) f d : S1x64x4x16.Idx) = ix4 h r f d from
    (emb_5 t _ f d).trans (by rw [e0, e1])] at this

theorem cover_6 (i : S16x256x4x16.Idx) : ∃ t : Fin cfg1.N, (cfg1.win 6).flush t = true ∧ i ∈ ((cfg1.win 6).blk t).view.set := by
  obtain ⟨h, r, f, d, rfl⟩ : ∃ (h : Fin 16) (r : Fin 256) (f : Fin 4) (d : Fin 16), i = ix4 h r f d := ⟨i 0, i 1, i 2, i 3, eq_ix4 _⟩
  obtain ⟨t, e0, e1⟩ := point_of h r
  refine ⟨t, flush_6 t, ?_⟩
  have := ((cfg1.win 6).blk t).view.emb_mem_set (ix4 (0 : Fin 1) (⟨r.val % 64, by omega⟩ : Fin 64) f d : S1x64x4x16.Idx)
  rwa [show ((cfg1.win 6).blk t).view.emb (ix4 (0 : Fin 1) (⟨r.val % 64, by omega⟩ : Fin 64) f d : S1x64x4x16.Idx) = ix4 h r f d from
    (emb_6 t _ f d).trans (by rw [e0, e1])] at this

theorem arr_5 (c : Dev nD) : (dat V n c).arrAt 5 cfg1.N = midCar (V c main_v11) (V c main_v12) (V c main_arg7) (V c main_arg6) :=
  (dat V n c).arrAt_eq_of_cover 5 _ (fun t _ => flushed_5 V n c t) cover_5
theorem arr_6 (c : Dev nD) : (dat V n c).arrAt 6 cfg1.N = midRow (V c main_v11) (V c main_v12) (V c main_arg8) :=
  (dat V n c).arrAt_eq_of_cover 6 _ (fun t _ => flushed_6 V n c t) cover_6

end Cert.Proof.Tail.F1

end
-- ==== Proof.Choice.lean ====
/-
  The row a round of the choice writes, as arithmetic on numbers: the position picked is at most 128, its rank among the
  parents and its quadrant are its quotient and remainder by four, and the row is the quadrant's cell of the parent, in the
  head's part of the table below. So every row written lies in that table, whatever the scores.
-/
module

public import proofs.«01_k».proof.Proof.Mid
public import Idealize.ShloMosaic.Lib.Pointwise

@[expose] public section

noncomputable section

namespace Cert.Proof.Tail.F1

open Cert.KernelIdeal Cert.KernelIdeal.Gen

open Idealize.ShloMosaic

/-! ## The least of the words -/

section Least

variable {N : ℕ}

def leastOf (x : Fin N → BitVec 32) : BitVec 32 := Finset.fold IntOp.minsi 2147483647#32 x Finset.univ

theorem minsi_toNat {a b : BitVec 32} (ha : a.toNat < 2 ^ 31) (hb : b.toNat < 2 ^ 31) : (IntOp.minsi a b).toNat = min a.toNat b.toNat := by
  have h1 := BitVec.toInt_eq_toNat_of_lt (x := a) (by omega)
  have h2 := BitVec.toInt_eq_toNat_of_lt (x := b) (by omega)
  unfold IntOp.minsi
  simp only [BitVec.slt_eq_decide, BitVec.sle_eq_decide, h1, h2]
  split <;> rename_i h <;> simp at h <;> omega

/-- Of words below 2³¹, the fold from the greatest is their least. -/
theorem fold_minsi (x : Fin N → BitVec 32) (hx : ∀ k, (x k).toNat < 2 ^ 31) (S : Finset (Fin N)) :
    (Finset.fold IntOp.minsi 2147483647#32 x S).toNat = S.fold min 2147483647 fun k => (x k).toNat := by
  have hlt : ∀ S : Finset (Fin N), (S.fold min 2147483647 fun k => (x k).toNat) < 2 ^ 31 := fun S => by
    have := (Finset.fold_min_lt (b := 2147483647) (f := fun k => (x k).toNat) (s := S) (c := 2 ^ 31)).mpr (.inl (by norm_num))
    exact this
  induction S using Finset.cons_induction with
  | empty => rfl
  | cons a S ha ih =>
    rw [Finset.fold_cons, Finset.fold_cons, minsi_toNat (hx a) (by rw [ih]; exact hlt S), ih]

theorem leastOf_le (x : Fin N → BitVec 32) (hx : ∀ k, (x k).toNat < 2 ^ 31) (k : Fin N) : (leastOf x).toNat ≤ (x k).toNat := by
  unfold leastOf
  rw [fold_minsi x hx]
  exact (Finset.le_fold_min _).mp le_rfl |>.2 k (Finset.mem_univ k)

/-- The least of the positions marked, where one is. -/
theorem leastOf_mark (z : ℕ) (hN : N ≤ z) (hz : z < 2 ^ 31) (c : Fin N → Prop) [DecidablePred c] (j : Fin N) (hj : c j) (hlt : ∀ k, k < j → ¬ c k) :
    leastOf (fun k => if c k then BitVec.ofNat 32 k.val else BitVec.ofNat 32 z) = BitVec.ofNat 32 j.val := by
  have hb : ∀ k : Fin N, (if c k then BitVec.ofNat 32 k.val else BitVec.ofNat 32 z).toNat = if c k then k.val else z := fun k => by
    split
    · rw [BitVec.toNat_ofNat]; omega
    · rw [BitVec.toNat_ofNat]; omega
  apply BitVec.eq_of_toNat_eq
  have h1 := leastOf_le (fun k => if c k then BitVec.ofNat 32 k.val else BitVec.ofNat 32 z) (fun k => by rw [hb]; split <;> omega) j
  simp only [if_pos hj] at h1
  have h2 : j.val ≤ (leastOf fun k => if c k then BitVec.ofNat 32 k.val else BitVec.ofNat 32 z).toNat := by
    unfold leastOf
    rw [fold_minsi _ (fun k => by rw [hb]; split <;> omega)]
    refine (Finset.le_fold_min _).mpr ⟨by omega, fun k _ => ?_⟩
    rw [hb]
    split
    · rename_i hk
      exact not_lt.mp fun h => hlt k h hk
    · omega
  rw [show (BitVec.ofNat 32 j.val).toNat = j.val by rw [BitVec.toNat_ofNat]; omega] at h1 ⊢
  omega

end Least

theorem min_read (x : IVec S64x4x64 32) (p : Fin 64) (f : Fin 4) :
    multiReductionI .minsi [2] S64x4 x 2147483647#32 reduces_S64x4x64_S64x4 rfl (ix2 p f) = leastOf fun k => x (ix3 p f k) := by
  unfold leastOf
  pointwise

theorem pick_le {F : FTy → Type} [FloatOps F] (w : FVec F S64x4x64 .f32) (p : Fin 64) (f : Fin 4) : (pick w (ix2 p f)).toNat ≤ 128 := by
  unfold pick
  rw [min_read]
  have hb : ∀ (c : BitVec 1) (k : Fin 64), (Scalar.select c (BitVec.ofNat 32 k.val) 128#32).toNat ≤ 128 := fun c k => by
    unfold Scalar.select
    split
    · rw [BitVec.toNat_ofNat]; omega
    · exact le_rfl
  have hp : ∀ k : Fin 64, places (ix3 p f k) = BitVec.ofNat 32 k.val := fun k => by pointwise
  refine (leastOf_le _ (fun k => ?_) 0).trans ?_ <;> simp only [Idealize.ShloMosaic.select, hp]
  · exact lt_of_le_of_lt (hb _ k) (by norm_num)
  · exact hb _ 0

/-! ## Quotients and remainders -/

/-- Division rounded down, of one word. -/
def divW (v c : BitVec 32) : BitVec 32 :=
  Scalar.select (IntOp.andi (IntOp.cmpi .ne (IntOp.subi ((IntOp.cmpi .sgt v 0#32).setWidth 32) ((IntOp.cmpi .slt v 0#32).setWidth 32))
        (Scalar.subi (Scalar.extui (Scalar.cmpi .sgt c 0#32)) (Scalar.extui (Scalar.cmpi .slt c 0#32))))
      (IntOp.cmpi .ne (IntOp.remsi .vector v c) 0#32))
    (IntOp.subi (IntOp.divsi .vector v c) 1#32) (IntOp.divsi .vector v c)

/-- Its remainder. -/
def modW (v c : BitVec 32) : BitVec 32 :=
  have m := Scalar.select (Scalar.cmpi .eq c 0#32) 1#32 c
  Scalar.select (IntOp.andi (IntOp.xori (IntOp.cmpi .slt (IntOp.remsi .vector v m) 0#32) (Scalar.cmpi .slt m 0#32)) (IntOp.cmpi .ne (IntOp.remsi .vector v m) 0#32))
    (IntOp.addi (IntOp.remsi .vector v m) m) (IntOp.remsi .vector v m)

theorem floorDiv_apply (v : IVec S64x4 32) (c : BitVec 32) (p : Fin 64) (f : Fin 4) : floorDiv v c (ix2 p f) = divW (v (ix2 p f)) c := rfl
theorem floorMod_apply (v : IVec S64x4 32) (c : BitVec 32) (p : Fin 64) (f : Fin 4) : floorMod v c (ix2 p f) = modW (v (ix2 p f)) c := rfl

theorem divW_table : ∀ c ∈ [2, 4, 16], ∀ v : Fin 257, (divW (BitVec.ofNat 32 v.val) (BitVec.ofNat 32 c)).toNat = v.val / c := by decide +kernel
theorem modW_table : ∀ c ∈ [2, 4, 16], ∀ v : Fin 257, (modW (BitVec.ofNat 32 v.val) (BitVec.ofNat 32 c)).toNat = v.val % c := by decide +kernel

theorem divW_toNat (c : ℕ) (hc : c ∈ [2, 4, 16]) {v : BitVec 32} (hv : v.toNat ≤ 256) : (divW v (BitVec.ofNat 32 c)).toNat = v.toNat / c := by
  have := divW_table c hc ⟨v.toNat, by omega⟩
  rwa [BitVec.ofNat_toNat, BitVec.setWidth_eq] at this
theorem modW_toNat (c : ℕ) (hc : c ∈ [2, 4, 16]) {v : BitVec 32} (hv : v.toNat ≤ 256) : (modW v (BitVec.ofNat 32 c)).toNat = v.toNat % c := by
  have := modW_table c hc ⟨v.toNat, by omega⟩
  rwa [BitVec.ofNat_toNat, BitVec.setWidth_eq] at this

/-! ## The parent, and the row -/

/-- The parent a rank names: none past the sixteenth. -/
def parentW (l : Fin 16 → BitVec 32) (r : ℕ) : BitVec 32 := if h : r < 16 then l ⟨r, h⟩ else 0#32

theorem parent_fold (l : Fin 16 → BitVec 32) (r : BitVec 32) (S : Finset (Fin 16)) :
    Finset.fold IntOp.addi (0#32) (fun x : Fin 16 => Scalar.select (IntOp.cmpi .eq r (BitVec.ofNat 32 x.val)) (l x) 0#32) S
      = if h : r.toNat < 16 then if (⟨r.toNat, h⟩ : Fin 16) ∈ S then l ⟨r.toNat, h⟩ else 0#32 else 0#32 := by
  induction S using Finset.cons_induction with
  | empty => simp
  | cons a S ha ih =>
    rw [Finset.fold_cons, ih]
    have e : (r = BitVec.ofNat 32 a.val) ↔ r.toNat = a.val := by
      rw [← BitVec.toNat_inj, BitVec.toNat_ofNat, Nat.mod_eq_of_lt (by omega)]
    by_cases hx : r.toNat = a.val
    · have ha' : (⟨r.toNat, by omega⟩ : Fin 16) = a := Fin.ext hx
      rw [dif_pos (by omega), dif_pos (by omega), ha', if_neg ha, if_pos (Finset.mem_cons_self a S), ← e.mpr hx]
      simp [Scalar.select, IntOp.cmpi, IntOp.addi]
    · rw [show Scalar.select (IntOp.cmpi .eq r (BitVec.ofNat 32 a.val)) (l a) 0#32 = 0#32 by
        have hne : (r == BitVec.ofNat 32 a.val) = false := by rw [beq_eq_false_iff_ne]; exact mt e.mp hx
        simp [Scalar.select, IntOp.cmpi, hne]]
      unfold IntOp.addi
      rw [BitVec.zero_add]
      split
      · rename_i hr
        have : (⟨r.toNat, hr⟩ : Fin 16) ∈ Finset.cons a S ha ↔ (⟨r.toNat, hr⟩ : Fin 16) ∈ S := by
          rw [Finset.mem_cons]
          exact ⟨fun h => h.resolve_left fun e => hx (congrArg Fin.val e), Or.inr⟩
        simp only [this]
      · rfl

theorem parentOf_apply (l : IVec S64x16 32) (r : IVec S64x4 32) (p : Fin 64) (f : Fin 4) :
    parentOf l r (ix2 p f) = parentW (fun k => l (ix2 p k)) (r (ix2 p f)).toNat := by
  refine Eq.trans (b := Finset.fold IntOp.addi (0#32) (fun x : Fin 16 => Scalar.select (IntOp.cmpi .eq (r (ix2 p f)) (BitVec.ofNat 32 x.val)) (l (ix2 p x)) 0#32) Finset.univ) ?_ ?_
  · pointwise [parentOf]
  · rw [parent_fold (fun k => l (ix2 p k))]
    unfold parentW
    simp only [Finset.mem_univ, if_true]

/-- The row of a parent's quadrant, of numbers. -/
def rowN (h p s : ℕ) : ℕ := (2 * (p / 16) + s / 2) * 32 + 2 * (p % 16) + s % 2 + h * 1024

theorem rowOf_toNat (h : ℕ) (hh : h < 16) (P S : IVec S64x4 32) (p : Fin 64) (f : Fin 4) (hP : (P (ix2 p f)).toNat < 256) (hS : (S (ix2 p f)).toNat < 4) :
    (rowOf (BitVec.ofNat 32 h) P S (ix2 p f)).toNat = rowN h (P (ix2 p f)).toNat (S (ix2 p f)).toNat := by
  have d1 := divW_toNat 16 (by decide) (v := P (ix2 p f)) (by omega)
  have d2 := modW_toNat 16 (by decide) (v := P (ix2 p f)) (by omega)
  have d3 := divW_toNat 2 (by decide) (v := S (ix2 p f)) (by omega)
  have d4 := modW_toNat 2 (by decide) (v := S (ix2 p f)) (by omega)
  show (IntOp.addi (IntOp.addi (IntOp.addi (IntOp.muli (IntOp.addi (IntOp.muli 2#32 (divW (P (ix2 p f)) 16#32)) (divW (S (ix2 p f)) 2#32)) 32#32)
      (IntOp.muli 2#32 (modW (P (ix2 p f)) 16#32))) (modW (S (ix2 p f)) 2#32)) (IntOp.muli (BitVec.ofNat 32 h) 1024#32)).toNat = _
  unfold rowN
  simp only [IntOp.addi, IntOp.muli, BitVec.toNat_add, BitVec.toNat_mul, d1, d2, d3, d4]
  simp only [BitVec.toNat_ofNat]
  omega

theorem parentW_lt (l : Fin 16 → BitVec 32) (hl : ∀ k, (l k).toNat < 256) (r : ℕ) : (parentW l r).toNat < 256 := by
  unfold parentW
  split
  · exact hl _
  · decide

/-- The row a round writes, from the position it picks. -/
theorem choice_toNat (h : ℕ) (hh : h < 16) (l : IVec S64x16 32) (j : IVec S64x4 32) (p : Fin 64) (f : Fin 4) (hl : ∀ k, (l (ix2 p k)).toNat < 256)
    (hj : (j (ix2 p f)).toNat ≤ 128) :
    (choice (BitVec.ofNat 32 h) l j (ix2 p f)).toNat = rowN h (parentW (fun k => l (ix2 p k)) ((j (ix2 p f)).toNat / 4)).toNat ((j (ix2 p f)).toNat % 4) := by
  have d1 := divW_toNat 4 (by decide) (v := j (ix2 p f)) (by omega)
  have d2 := modW_toNat 4 (by decide) (v := j (ix2 p f)) (by omega)
  have e : parentOf l (floorDiv j 4#32) (ix2 p f) = parentW (fun k => l (ix2 p k)) ((j (ix2 p f)).toNat / 4) := by
    rw [parentOf_apply, floorDiv_apply, d1]
  unfold choice
  rw [rowOf_toNat h hh, e, floorMod_apply, d2]
  · rw [e]; exact parentW_lt _ hl _
  · rw [floorMod_apply, d2]; omega

theorem rowN_lt {h p s : ℕ} (hh : h < 16) (hp : p < 256) (hs : s < 4) : rowN h p s < 16384 := by unfold rowN; omega

/-- The sixteen columns, read by round. -/
theorem columns_apply {F : FTy → Type} [FloatOps F] (c : ℕ → IVec S64x4 32) (p : Fin 64) (q : Fin 4) (s : Fin 16) :
    columns (F := F) c (ix4 0 p q s) = c s.val (ix2 p q) := by
  pointwise [columns, k1_pay2]
  fin_cases s <;> rfl

theorem locals_apply {F : FTy → Type} [FloatOps F] (b : BitVec 32) (g : Vec F S1x64x16 .i32) (p : Fin 64) (k : Fin 16) :
    k1_pay13 b g (ix2 p k) = IntOp.subi (g (ix3 0 p k)) (IntOp.muli b 256#32) := by
  pointwise [k1_pay13]
  rfl

/-- Every row written lies in the table. -/
theorem chosenOf_lt {F : FTy → Type} [FloatOps F] (h : ℕ) (hh : h < 16) (x0 : Vec F S1x64x4x16 .f32) (x1 : Vec F S1x64x16x128 .f32) (x3 : Vec F S1x64x16 .i32)
    (p : Fin 64) (hl : ∀ k, (IntOp.subi (x3 (ix3 0 p k)) (IntOp.muli (BitVec.ofNat 32 h) 256#32)).toNat < 256) (q : Fin 4) (s : Fin 16) :
    (chosenOf (BitVec.ofNat 32 h) x0 x1 x3 (ix4 0 p q s)).toNat < 16384 := by
  unfold chosenOf chosen
  rw [columns_apply]
  have hl' : ∀ k, (k1_pay13 (BitVec.ofNat 32 h) x3 (ix2 p k)).toNat < 256 := fun k => by rw [locals_apply]; exact hl k
  rw [choice_toNat h hh _ _ p q hl' (pick_le _ p q)]
  exact rowN_lt hh (parentW_lt _ hl' _) (by omega)

end Cert.Proof.Tail.F1

end
-- ==== Proof.Range.lean ====
/-
  The lists of the two gathers name rows of their tables: the first because the coarse choice lies in its head's part, the
  second because the rows chosen from it do, whatever the scores.
-/
module

public import proofs.«01_k».proof.Proof.Reads
public import proofs.«01_k».proof.Proof.Choice
public import Idealize.ShloMosaic.Lib.Pointwise

@[expose] public section

noncomputable section

namespace Cert.Proof.Tail

open Cert.KernelIdeal Cert.KernelIdeal.Gen
open Idealize.ShloMosaic

variable {F : FTy → Type} [FloatOps F]

/-- The coarse choice lies in its head's part of the table: a number below 256 after the head's start. -/
def InLocal (g : S16x256x16.Idx → BitVec 32) : Prop :=
  ∀ (h : Fin 16) (n : Fin 256) (c : Fin 16), (IntOp.subi (g (ix3 h n c)) (IntOp.muli (BitVec.ofNat 32 h.val) 256#32)).toNat < 256

theorem toNat_of_local {g : BitVec 32} {h : ℕ} (hh : h < 16) (hg : (IntOp.subi g (IntOp.muli (BitVec.ofNat 32 h) 256#32)).toNat < 256) :
    g.toNat = h * 256 + (IntOp.subi g (IntOp.muli (BitVec.ofNat 32 h) 256#32)).toNat := by
  have hb : (IntOp.muli (BitVec.ofNat 32 h) 256#32).toNat = h * 256 := by
    simp only [IntOp.muli, BitVec.toNat_mul, BitVec.toNat_ofNat]; omega
  have hs : (IntOp.subi g (IntOp.muli (BitVec.ofNat 32 h) 256#32)).toNat = (2 ^ 32 - h * 256 + g.toNat) % 2 ^ 32 := by
    simp only [IntOp.subi, BitVec.toNat_sub, hb]
  have := g.isLt
  rw [hs] at hg ⊢
  omega

theorem list1_apply (g : S16x256x16.Idx → BitVec 32) (k : Fin 65536) :
    list1 g (ix1 k) = g (ix3 ⟨k.val / 4096, by omega⟩ ⟨k.val / 16 % 256, by omega⟩ ⟨k.val % 16, by omega⟩) := by
  pointwise [list1]

theorem inRows1 {g : S16x256x16.Idx → BitVec 32} (hg : InLocal g) : G1.InRows (list1 g) := fun j => by
  obtain ⟨k, rfl⟩ : ∃ k : Fin 65536, j = ix1 k := ⟨j 0, eq_ix1 j⟩
  rw [list1_apply]
  have h := hg ⟨k.val / 4096, by omega⟩ ⟨k.val / 16 % 256, by omega⟩ ⟨k.val % 16, by omega⟩
  rw [toNat_of_local (h := k.val / 4096) (by omega) h]
  have h' : (IntOp.subi (g (ix3 (⟨k.val / 4096, by omega⟩ : Fin 16) (⟨k.val / 16 % 256, by omega⟩ : Fin 256) (⟨k.val % 16, by omega⟩ : Fin 16)))
    (IntOp.muli (BitVec.ofNat 32 (k.val / 4096)) 256#32)).toNat < 256 := h
  omega

/-- A row chosen lies in the table below. -/
theorem midRow_lt (q : Vec F S16x256x4x16 .f32) (kv : Vec F S16x256x16x128 .f32) (g : Vec F S16x256x16 .i32) (hg : InLocal g) (i : S16x256x4x16.Idx) :
    (F1.midRow q kv g i).toNat < 16384 := by
  obtain ⟨h, n, f, s, rfl⟩ : ∃ (h : Fin 16) (n : Fin 256) (f : Fin 4) (s : Fin 16), i = ix4 h n f s := ⟨i 0, i 1, i 2, i 3, eq_ix4 _⟩
  exact F1.chosenOf_lt h.val h.isLt _ _ _ _ (fun k => hg h _ k) f s

theorem list_apply (g : S16x256x4x16.Idx → BitVec 32) (k : Fin 262144) :
    list g (ix1 k) = g (ix4 ⟨k.val / 16384, by omega⟩ ⟨k.val / 64 % 256, by omega⟩ ⟨k.val / 16 % 4, by omega⟩ ⟨k.val % 16, by omega⟩) := by
  pointwise [list]

theorem inRows0 {g : S16x256x4x16.Idx → BitVec 32} (hg : ∀ i, (g i).toNat < 16384) : G0.InRows (list g) := fun j => by
  obtain ⟨k, rfl⟩ : ∃ k : Fin 262144, j = ix1 k := ⟨j 0, eq_ix1 j⟩
  rw [list_apply]
  exact hg _

variable (m : (ℓ : Loc nD τ sig) → Buf (Elt F) ℓ)

/-- The keys and values of the coarser level, by query cell. -/
def kv1 (d : Dev nD) : Vec F S16x256x16x128 .f32 :=
  byCell1 (G1.gathered (table1 (m (d, rr main_arg3)) (m (d, rr main_arg5))) (list1 (m (d, rr main_arg8))))

theorem midRows_eq (d : Dev nD) : midRows m d = F1.midRow (quads1 (m (d, rr main_arg1))) (kv1 m d) (m (d, rr main_arg8)) := by
  unfold midRows kv1
  rw [F1.arr_6]
  rw [V3_q, V3_kv, V3_arg8]

theorem midOut_eq (d : Dev nD) : midOut m d = F1.midCar (quads1 (m (d, rr main_arg1))) (kv1 m d) (m (d, rr main_arg7)) (m (d, rr main_arg6)) := by
  unfold midOut kv1
  rw [F1.arr_5]
  rw [V3_q, V3_kv, V3_arg7, V3_arg6]

theorem midRows_lt (d : Dev nD) (hg : InLocal (m (d, rr main_arg8))) (i : S16x256x4x16.Idx) : (midRows m d i).toNat < 16384 := by
  rw [midRows_eq]; exact midRow_lt _ _ _ hg i

end Cert.Proof.Tail

end
-- ==== Proof.Rows0.lean ====
/-
  The gathered rows of the second gather, by coordinates: the kernel's table and list on one side, the reference's tokens taken one by one on
  the other. Row `k` of the kernel's is the cell the list's `k`th entry names: its four tokens, sixteen channels each.
-/
module

public import proofs.«01_k».proof.Proof.Range
public import proofs.«01_k».proof.Proof.Gen.ReferenceIdeal.Run
public import Idealize.ShloMosaic.Lib.Routing.Ops
public import Idealize.ShloMosaic.Lib.Pointwise

@[expose] public section

noncomputable section

namespace Cert.Proof.Tail

open Cert.KernelIdeal Cert.KernelIdeal.Gen
open Idealize.ShloMosaic

variable {F : FTy → Type} [FloatOps F]

/-! ## Where a value lies in the image -/

/-- Where channel `q % 16` of token `q / 16` of cell `n` lies in an image of heads by channels. -/
def src (n : Fin 16384) (q : Fin 64) : S2x128x64x64.Idx :=
  ix4 ⟨n.val / 8192, by omega⟩ ⟨n.val / 1024 % 8 * 16 + q.val % 16, by omega⟩ ⟨n.val / 32 % 32 * 2 + q.val / 32, by omega⟩
    ⟨n.val % 32 * 2 + q.val / 16 % 2, by omega⟩

/-- The table's cell `n`. -/
theorem cells_apply (x : S2x128x64x64.Idx → Elt F .f32) (n : Fin 16384) (q : Fin 64) : cells x (ix2 n q) = x (src n q) := by
  unfold src
  pointwise [cells]

/-! ## The reference -/

/-- The token the reference starts a cell at. -/
def firstWord (v : BitVec 32) : BitVec 32 :=
  IntOp.addi (IntOp.addi (IntOp.muli (IntOp.divsi .host v 1024#32) 4096#32)
    (IntOp.muli (IntOp.divsi .host (IntOp.remsi .host v 1024#32) 32#32) 128#32))
    (IntOp.muli (IntOp.remsi .host (IntOp.remsi .host v 1024#32) 32#32) 2#32)

theorem toNat_divsi {v : BitVec 32} {k : Nat} (hv : 2 * v.toNat < 2 ^ 32) (hk : 0 < k) (hk' : 2 * k < 2 ^ 32) :
    (IntOp.divsi .host v (BitVec.ofNat 32 k)).toNat = v.toNat / k := by
  have hkN : (BitVec.ofNat 32 k).toNat = k := by rw [BitVec.toNat_ofNat]; omega
  have hm : v.msb = false := by rw [BitVec.msb_eq_false_iff_two_mul_lt]; exact hv
  have hkm : (BitVec.ofNat 32 k).msb = false := by rw [BitVec.msb_eq_false_iff_two_mul_lt]; omega
  unfold IntOp.divsi
  rw [if_neg (IntOp.not_corner_of_pos (by rw [BitVec.toInt_eq_toNat_of_lt (by omega)]; omega)), BitVec.sdiv_eq, hm, hkm]
  show (v / BitVec.ofNat 32 k).toNat = _
  rw [BitVec.toNat_udiv, hkN]

theorem firstWord_toNat {v : BitVec 32} (hv : v.toNat < 16384) :
    (firstWord v).toNat = v.toNat / 1024 * 4096 + v.toNat % 1024 / 32 * 128 + v.toNat % 32 * 2 := by
  have h1 := toNat_divsi (v := v) (k := 1024) (by omega) (by omega) (by omega)
  have h2 := IntOp.toNat_remsi .host (x := v) (by omega) 1024 (by omega) (by omega)
  have h3 := toNat_divsi (v := IntOp.remsi .host v 1024#32) (k := 32) (by omega) (by omega) (by omega)
  have h4 := IntOp.toNat_remsi .host (x := IntOp.remsi .host v 1024#32) (by omega) 32 (by omega) (by omega)
  unfold firstWord
  simp only [IntOp.addi, IntOp.muli, BitVec.toNat_add, BitVec.toNat_mul, h1, h2, h3, h4]
  simp only [BitVec.toNat_ofNat]
  omega

end Cert.Proof.Tail

namespace Cert.ReferenceIdeal

open Idealize.ShloMosaic Idealize.SL.Sem Cert.ReferenceIdeal.Gen

variable {F : FTy → Type} [FloatOps F]

/-- The first token of each named cell. -/
def refFirst (g : IVec S16x1024x16 32) : IVec S16x1024x16 32 :=
  addi (addi (muli (Host.divsi g (broadcastInDim S16x1024x16 ![] bcast_S_S16x1024x16 (constantI S_ 32 1024#32))) (broadcastInDim S16x1024x16 ![] bcast_S_S16x1024x16 (constantI S_ 32 4096#32)))
      (muli (Host.divsi (Host.remsi g (broadcastInDim S16x1024x16 ![] bcast_S_S16x1024x16 (constantI S_ 32 1024#32))) (broadcastInDim S16x1024x16 ![] bcast_S_S16x1024x16 (constantI S_ 32 32#32))) (broadcastInDim S16x1024x16 ![] bcast_S_S16x1024x16 (constantI S_ 32 128#32))))
      (muli (Host.remsi (Host.remsi g (broadcastInDim S16x1024x16 ![] bcast_S_S16x1024x16 (constantI S_ 32 1024#32))) (broadcastInDim S16x1024x16 ![] bcast_S_S16x1024x16 (constantI S_ 32 32#32))) (broadcastInDim S16x1024x16 ![] bcast_S_S16x1024x16 (constantI S_ 32 2#32)))

/-- The tokens the reference takes, in order. -/
def refIdx (g : IVec S16x1024x16 32) : IVec S1048576 32 :=
  shapeCast S1048576 (shapeCast S16x1024x64 (addi (broadcastInDim S16x1024x16x4 ![0, 1, 2, 3] bcast_S16x1024x16x1_S16x1024x16x4_0_1_2_3 (broadcastInDim S16x1024x16x1 ![0, 1, 2] bcast_S16x1024x16_S16x1024x16x1_0_1_2 (refFirst g)))
    (broadcastInDim S16x1024x16x4 ![0, 1, 2, 3] bcast_S1x1x1x4_S16x1024x16x4_0_1_2_3 (broadcastInDim S1x1x1x4 ![3] bcast_S4_S1x1x1x4_3 fun i => lit1 (S4.rowMajor i)))) shapeCasts_S16x1024x16x4_S16x1024x64)
    shapeCasts_S16x1024x64_S1048576

/-- An input's tokens, head after head. -/
def refTok (x : FVec F S2x128x64x64 .f32) : FVec F S65536x16 .f32 :=
  shapeCast S65536x16 (transpose S16x4096x16 [0, 2, 1] (shapeCast S16x16x4096 x shapeCasts_S2x128x64x64_S16x16x4096) transposes_S16x16x4096_S16x4096x16_0_2_1) shapeCasts_S16x4096x16_S65536x16

/-- The taken tokens of one input, by query cell. -/
def refSel (x : FVec F S2x128x64x64 .f32) (g : IVec S16x1024x16 32) : FVec F S16x1024x64x16 .f32 :=
  shapeCast S16x1024x64x16 (Host.gather gather_S65536x16_S1048576x1_S1048576x16_1_0_n_n_0_1_116 (refTok x)
    (broadcastInDim S1048576x1 ![0] bcast_S1048576_S1048576x1_0 (refIdx g))) shapeCasts_S1048576x16_S16x1024x64x16

end Cert.ReferenceIdeal

namespace Cert.Proof.Tail

open Cert.KernelIdeal Cert.KernelIdeal.Gen
open Idealize.ShloMosaic

variable {F : FTy → Type} [FloatOps F]

open Cert.ReferenceIdeal (refFirst refIdx refTok refSel)

theorem refFirst_apply (g : IVec S16x1024x16 32) (h : Fin 16) (n : Fin 1024) (c : Fin 16) : refFirst g (ix3 h n c) = firstWord (g (ix3 h n c)) := by
  unfold firstWord
  pointwise [refFirst]

theorem lit1_toNat (s : Fin 4) : (Cert.ReferenceIdeal.lit1 s).toNat = s.val / 2 * 64 + s.val % 2 := by
  revert s; decide

theorem refIdx_apply (g : IVec S16x1024x16 32) (k : Fin 1048576) :
    refIdx g (ix1 k) = IntOp.addi (firstWord (g (ix3 ⟨k.val / 65536, by omega⟩ ⟨k.val / 64 % 1024, by omega⟩ ⟨k.val / 4 % 16, by omega⟩)))
      (Cert.ReferenceIdeal.lit1 ⟨k.val % 4, by show _ < 4; omega⟩) := by
  rw [← refFirst_apply]
  pointwise [refIdx]
  exact congrArg (fun s => IntOp.addi _ (Cert.ReferenceIdeal.lit1 s)) (Fin.ext (Shape.rowMajor_val_one _))

/-- The number of token `s` of cell `n`. -/
def token (n : Fin 16384) (s : Fin 4) : Fin 65536 :=
  ⟨n.val / 1024 * 4096 + n.val % 1024 / 32 * 128 + n.val % 32 * 2 + s.val / 2 * 64 + s.val % 2, by omega⟩

theorem refIdx_toNat (g : IVec S16x1024x16 32) (h : Fin 16) (n : Fin 1024) (c : Fin 16) (s : Fin 4) (w : Fin 16384) (hw : (g (ix3 h n c)).toNat = w.val)
    (k : Fin 1048576) (hk : k.val = ((h.val * 1024 + n.val) * 16 + c.val) * 4 + s.val) : refIdx g (ix1 k) = BitVec.ofNat 32 (token w s).val := by
  apply BitVec.eq_of_toNat_eq
  have e1 : (ix3 (⟨k.val / 65536, by omega⟩ : Fin 16) (⟨k.val / 64 % 1024, by omega⟩ : Fin 1024) (⟨k.val / 4 % 16, by omega⟩ : Fin 16) : S16x1024x16.Idx) = ix3 h n c := by
    congr 1 <;> exact Fin.ext (by simp only []; omega)
  have e2 : (⟨k.val % 4, by omega⟩ : Fin 4) = s := Fin.ext (by show k.val % 4 = _; omega)
  have hf := firstWord_toNat (v := g (ix3 h n c)) (by omega)
  have hs := lit1_toNat s
  rw [refIdx_apply, e1]
  refine (congrArg (fun s' => (IntOp.addi (firstWord (g (ix3 h n c))) (Cert.ReferenceIdeal.lit1 s')).toNat) e2).trans ?_
  simp only [IntOp.addi, BitVec.toNat_add, hf, hs, hw, token, BitVec.toNat_ofNat]
  omega

theorem refTok_apply (x : FVec F S2x128x64x64 .f32) (r : Fin 65536) (c : Fin 16) :
    refTok x (ix2 r c) = x (ix4 ⟨r.val / 4096 / 8, by omega⟩ ⟨r.val / 4096 % 8 * 16 + c.val, by omega⟩ ⟨r.val % 4096 / 64, by omega⟩ ⟨r.val % 4096 % 64, by omega⟩) := by
  pointwise [refTok]

theorem refTok_token (x : FVec F S2x128x64x64 .f32) (n : Fin 16384) (q : Fin 64) :
    refTok x (ix2 (token n ⟨q.val / 16, by omega⟩) ⟨q.val % 16, by omega⟩) = x (src n q) := by
  have e1 : (token n ⟨q.val / 16, by omega⟩).val / 4096 = n.val / 1024 := by
    show (n.val / 1024 * 4096 + n.val % 1024 / 32 * 128 + n.val % 32 * 2 + q.val / 16 / 2 * 64 + q.val / 16 % 2) / 4096 = _
    omega
  have e2 : (token n ⟨q.val / 16, by omega⟩).val % 4096 = n.val % 1024 / 32 * 128 + n.val % 32 * 2 + q.val / 16 / 2 * 64 + q.val / 16 % 2 := by
    show (n.val / 1024 * 4096 + n.val % 1024 / 32 * 128 + n.val % 32 * 2 + q.val / 16 / 2 * 64 + q.val / 16 % 2) % 4096 = _
    omega
  rw [refTok_apply]
  unfold src
  refine congrArg x ?_
  congr 1 <;> refine Fin.ext ?_
  · show (token n ⟨q.val / 16, _⟩).val / 4096 / 8 = n.val / 8192
    rw [e1]; omega
  · show (token n ⟨q.val / 16, _⟩).val / 4096 % 8 * 16 + q.val % 16 = n.val / 1024 % 8 * 16 + q.val % 16
    rw [e1]
  · show (token n ⟨q.val / 16, _⟩).val % 4096 / 64 = n.val / 32 % 32 * 2 + q.val / 32
    rw [e2]; omega
  · show (token n ⟨q.val / 16, _⟩).val % 4096 % 64 = n.val % 32 * 2 + q.val / 16 % 2
    rw [e2]; omega

/-- A taken token of the reference is one of the cell's that the list names. -/
theorem refSel_apply (x : FVec F S2x128x64x64 .f32) (g : IVec S16x1024x16 32) (h : Fin 16) (n : Fin 1024) (k : Fin 64) (d : Fin 16) (w : Fin 16384)
    (hw : (g (ix3 h n ⟨k.val / 4, by omega⟩)).toNat = w.val) : refSel x g (ix4 h n k d) = x (src w ⟨k.val % 4 * 16 + d.val, by omega⟩) := by
  rw [← refTok_token x w]
  have e1 : (⟨(k.val % 4 * 16 + d.val) / 16, by omega⟩ : Fin 4) = ⟨k.val % 4, by omega⟩ := Fin.ext (by simp only []; omega)
  have e2 : (⟨(k.val % 4 * 16 + d.val) % 16, by omega⟩ : Fin 16) = d := Fin.ext (by simp only []; omega)
  simp only [e1, e2]
  refine Eq.trans (b := Host.gather Cert.ReferenceIdeal.gather_S65536x16_S1048576x1_S1048576x16_1_0_n_n_0_1_116 (refTok x)
    (broadcastInDim Cert.ReferenceIdeal.S1048576x1 ![0] Cert.ReferenceIdeal.Gen.bcast_S1048576_S1048576x1_0 (refIdx g))
    (ix2 (⟨(h.val * 1024 + n.val) * 64 + k.val, by omega⟩ : Fin 1048576) d)) ?_ ?_
  · pointwise [refSel]
    exact congrArg (fun r : Fin 1048576 => Host.gather _ _ _ (ix2 r d)) (Fin.ext (by simp only []; omega))
  · simp only [ix2_eq_valueIdx]
    refine Routing.gather_row _ rfl rfl rfl rfl rfl _ _ _ _ _ ?_ (by decide)
    simp only [← ix2_eq_valueIdx]
    refine Eq.trans (b := refIdx g (ix1 (⟨(h.val * 1024 + n.val) * 64 + k.val, by omega⟩ : Fin 1048576))) ?_
      (refIdx_toNat g h n ⟨k.val / 4, by omega⟩ ⟨k.val % 4, by omega⟩ w hw _ (by simp only []; omega))
    pointwise

theorem G0.gathered_apply (T : S16384x128.Idx → Elt F .f32) (I : S262144.Idx → BitVec 32) (k : Fin 262144) (q : Fin 128) (n : Fin 16384)
    (hn : (I (ix1 k)).toNat = n.val) : G0.gathered T I (ix2 k q) = T (ix2 n q) := by
  rw [ix1_eq_valueIdx] at hn
  rw [ix2_eq_valueIdx, ix2_eq_valueIdx]
  unfold G0.gathered
  refine congrArg T (congrArg (fun a => ValueIdx.ix2 a q) (Fin.ext ?_))
  show (I (ValueIdx.ix1 k)).toNat % 16384 = n.val
  rw [hn]; exact Nat.mod_eq_of_lt n.isLt

/-- A value of the kernel's gathered rows, by the cell its entry of the list names. -/
theorem rows_apply (x y : FVec F S2x128x64x64 .f32) (g : IVec S16x256x4x16 32) (k : Fin 262144) (q : Fin 128) (w : Fin 16384)
    (hw : (list g (ix1 k)).toNat = w.val) : G0.gathered (table x y) (list g) (ix2 k q)
      = if h : q.val < 64 then x (src w ⟨q.val, h⟩) else y (src w ⟨q.val - 64, by omega⟩) := by
  rw [G0.gathered_apply _ _ k q w hw]
  pointwise [table]
  split
  · rw [cells_apply]
  · rw [cells_apply]

end Cert.Proof.Tail

end
-- ==== Proof.Rows1.lean ====
/-
  The gathered rows of the first gather, by coordinates: the kernel's table1 and list1 on one side, the reference's tokens taken one by one on
  the other. Row `k` of the kernel's is the cell the list1's `k`th entry names: its four tokens, sixteen channels each.
-/
module

public import proofs.«01_k».proof.Proof.Rows0
public import proofs.«01_k».proof.Proof.Gen.ReferenceIdeal.Run
public import Idealize.ShloMosaic.Lib.Routing.Ops
public import Idealize.ShloMosaic.Lib.Pointwise

@[expose] public section

noncomputable section

namespace Cert.Proof.Tail

open Cert.KernelIdeal Cert.KernelIdeal.Gen
open Idealize.ShloMosaic

variable {F : FTy → Type} [FloatOps F]

/-! ## Where a value lies in the image -/

/-- Where channel `q % 16` of token1 `q / 16` of cell `n` lies in an image of heads by channels. -/
def src1 (n : Fin 4096) (q : Fin 64) : S2x128x32x32.Idx :=
  ix4 ⟨n.val / 2048, by omega⟩ ⟨n.val / 256 % 8 * 16 + q.val % 16, by omega⟩ ⟨n.val / 16 % 16 * 2 + q.val / 32, by omega⟩
    ⟨n.val % 16 * 2 + q.val / 16 % 2, by omega⟩

/-- The table1's cell `n`. -/
theorem cells1_apply (x : S2x128x32x32.Idx → Elt F .f32) (n : Fin 4096) (q : Fin 64) : cells1 x (ix2 n q) = x (src1 n q) := by
  unfold src1
  pointwise [cells1]

/-! ## The reference -/

/-- The token1 the reference starts a cell at. -/
def firstWord1 (v : BitVec 32) : BitVec 32 :=
  IntOp.addi (IntOp.addi (IntOp.muli (IntOp.divsi .host v 256#32) 1024#32)
    (IntOp.muli (IntOp.divsi .host (IntOp.remsi .host v 256#32) 16#32) 64#32))
    (IntOp.muli (IntOp.remsi .host (IntOp.remsi .host v 256#32) 16#32) 2#32)

theorem firstWord1_toNat {v : BitVec 32} (hv : v.toNat < 4096) :
    (firstWord1 v).toNat = v.toNat / 256 * 1024 + v.toNat % 256 / 16 * 64 + v.toNat % 16 * 2 := by
  have h1 := toNat_divsi (v := v) (k := 256) (by omega) (by omega) (by omega)
  have h2 := IntOp.toNat_remsi .host (x := v) (by omega) 256 (by omega) (by omega)
  have h3 := toNat_divsi (v := IntOp.remsi .host v 256#32) (k := 16) (by omega) (by omega) (by omega)
  have h4 := IntOp.toNat_remsi .host (x := IntOp.remsi .host v 256#32) (by omega) 16 (by omega) (by omega)
  unfold firstWord1
  simp only [IntOp.addi, IntOp.muli, BitVec.toNat_add, BitVec.toNat_mul, h1, h2, h3, h4]
  simp only [BitVec.toNat_ofNat]
  omega

end Cert.Proof.Tail

namespace Cert.ReferenceIdeal

open Idealize.ShloMosaic Idealize.SL.Sem Cert.ReferenceIdeal.Gen

variable {F : FTy → Type} [FloatOps F]

/-- The first token1 of each named cell. -/
def refFirst1 (g : IVec S16x256x16 32) : IVec S16x256x16 32 :=
  addi (addi (muli (Host.divsi g (broadcastInDim S16x256x16 ![] bcast_S_S16x256x16 (constantI S_ 32 256#32))) (broadcastInDim S16x256x16 ![] bcast_S_S16x256x16 (constantI S_ 32 1024#32)))
      (muli (Host.divsi (Host.remsi g (broadcastInDim S16x256x16 ![] bcast_S_S16x256x16 (constantI S_ 32 256#32))) (broadcastInDim S16x256x16 ![] bcast_S_S16x256x16 (constantI S_ 32 16#32))) (broadcastInDim S16x256x16 ![] bcast_S_S16x256x16 (constantI S_ 32 64#32))))
      (muli (Host.remsi (Host.remsi g (broadcastInDim S16x256x16 ![] bcast_S_S16x256x16 (constantI S_ 32 256#32))) (broadcastInDim S16x256x16 ![] bcast_S_S16x256x16 (constantI S_ 32 16#32))) (broadcastInDim S16x256x16 ![] bcast_S_S16x256x16 (constantI S_ 32 2#32)))

/-- The tokens each coarse cell attends to, four of a named cell together. -/
def refNear (g : IVec S16x256x16 32) : IVec S16x256x64 32 :=
  shapeCast S16x256x64 (addi (broadcastInDim S16x256x16x4 ![0, 1, 2, 3] bcast_S16x256x16x1_S16x256x16x4_0_1_2_3 (broadcastInDim S16x256x16x1 ![0, 1, 2] bcast_S16x256x16_S16x256x16x1_0_1_2 (refFirst1 g)))
    (broadcastInDim S16x256x16x4 ![0, 1, 2, 3] bcast_S1x1x1x4_S16x256x16x4_0_1_2_3 (broadcastInDim S1x1x1x4 ![3] bcast_S4_S1x1x1x4_3 fun i => lit0 (S4.rowMajor i)))) shapeCasts_S16x256x16x4_S16x256x64

/-- The tokens the reference takes, in order. -/
def refIdx1 (g : IVec S16x256x16 32) : IVec S262144 32 := shapeCast S262144 (refNear g) shapeCasts_S16x256x64_S262144

/-- An input's tokens, head after head. -/
def refTok1 (x : FVec F S2x128x32x32 .f32) : FVec F S16384x16 .f32 :=
  shapeCast S16384x16 (transpose S16x1024x16 [0, 2, 1] (shapeCast S16x16x1024 x shapeCasts_S2x128x32x32_S16x16x1024) transposes_S16x16x1024_S16x1024x16_0_2_1) shapeCasts_S16x1024x16_S16384x16

/-- The taken tokens of one input, by query cell. -/
def refSel1 (x : FVec F S2x128x32x32 .f32) (g : IVec S16x256x16 32) : FVec F S16x256x64x16 .f32 :=
  shapeCast S16x256x64x16 (Host.gather gather_S16384x16_S262144x1_S262144x16_1_0_n_n_0_1_116 (refTok1 x)
    (broadcastInDim S262144x1 ![0] bcast_S262144_S262144x1_0 (refIdx1 g))) shapeCasts_S262144x16_S16x256x64x16

end Cert.ReferenceIdeal

namespace Cert.Proof.Tail

open Cert.KernelIdeal Cert.KernelIdeal.Gen
open Idealize.ShloMosaic

variable {F : FTy → Type} [FloatOps F]

open Cert.ReferenceIdeal (refNear refFirst1 refIdx1 refTok1 refSel1)

theorem refFirst1_apply (g : IVec S16x256x16 32) (h : Fin 16) (n : Fin 256) (c : Fin 16) : refFirst1 g (ix3 h n c) = firstWord1 (g (ix3 h n c)) := by
  unfold firstWord1
  pointwise [refFirst1]

theorem lit0_toNat (s : Fin 4) : (Cert.ReferenceIdeal.lit0 s).toNat = s.val / 2 * 32 + s.val % 2 := by
  revert s; decide

theorem refNear_apply (g : IVec S16x256x16 32) (h : Fin 16) (n : Fin 256) (k : Fin 64) :
    refNear g (ix3 h n k) = IntOp.addi (firstWord1 (g (ix3 h n ⟨k.val / 4, by omega⟩))) (Cert.ReferenceIdeal.lit0 ⟨k.val % 4, by show _ < 4; omega⟩) := by
  rw [← refFirst1_apply]
  pointwise [refNear]
  exact congrArg (fun s => IntOp.addi _ (Cert.ReferenceIdeal.lit0 s)) (Fin.ext (Shape.rowMajor_val_one _))

theorem refIdx1_near (g : IVec S16x256x16 32) (k : Fin 262144) :
    refIdx1 g (ix1 k) = refNear g (ix3 ⟨k.val / 16384, by omega⟩ ⟨k.val / 64 % 256, by omega⟩ ⟨k.val % 64, by omega⟩) := by
  pointwise [refIdx1]

theorem refIdx1_apply (g : IVec S16x256x16 32) (k : Fin 262144) :
    refIdx1 g (ix1 k) = IntOp.addi (firstWord1 (g (ix3 ⟨k.val / 16384, by omega⟩ ⟨k.val / 64 % 256, by omega⟩ ⟨k.val / 4 % 16, by omega⟩)))
      (Cert.ReferenceIdeal.lit0 ⟨k.val % 4, by show _ < 4; omega⟩) := by
  rw [refIdx1_near, refNear_apply]
  have e1 : (⟨k.val % 64 / 4, by omega⟩ : Fin 16) = ⟨k.val / 4 % 16, by omega⟩ := Fin.ext (by simp only []; omega)
  have e2 : (⟨k.val % 64 % 4, by omega⟩ : Fin 4) = ⟨k.val % 4, by omega⟩ := Fin.ext (by simp only []; omega)
  rw [e1]
  exact congrArg (fun s => IntOp.addi _ (Cert.ReferenceIdeal.lit0 s)) e2

/-- The number of token1 `s` of cell `n`. -/
def token1 (n : Fin 4096) (s : Fin 4) : Fin 16384 :=
  ⟨n.val / 256 * 1024 + n.val % 256 / 16 * 64 + n.val % 16 * 2 + s.val / 2 * 32 + s.val % 2, by omega⟩

theorem refIdx1_toNat (g : IVec S16x256x16 32) (h : Fin 16) (n : Fin 256) (c : Fin 16) (s : Fin 4) (w : Fin 4096) (hw : (g (ix3 h n c)).toNat = w.val)
    (k : Fin 262144) (hk : k.val = ((h.val * 256 + n.val) * 16 + c.val) * 4 + s.val) : refIdx1 g (ix1 k) = BitVec.ofNat 32 (token1 w s).val := by
  apply BitVec.eq_of_toNat_eq
  have e1 : (ix3 (⟨k.val / 16384, by omega⟩ : Fin 16) (⟨k.val / 64 % 256, by omega⟩ : Fin 256) (⟨k.val / 4 % 16, by omega⟩ : Fin 16) : S16x256x16.Idx) = ix3 h n c := by
    congr 1 <;> exact Fin.ext (by simp only []; omega)
  have e2 : (⟨k.val % 4, by omega⟩ : Fin 4) = s := Fin.ext (by show k.val % 4 = _; omega)
  have hf := firstWord1_toNat (v := g (ix3 h n c)) (by omega)
  have hs := lit0_toNat s
  rw [refIdx1_apply, e1]
  refine (congrArg (fun s' => (IntOp.addi (firstWord1 (g (ix3 h n c))) (Cert.ReferenceIdeal.lit0 s')).toNat) e2).trans ?_
  simp only [IntOp.addi, BitVec.toNat_add, hf, hs, hw, token1, BitVec.toNat_ofNat]
  omega

theorem refTok1_apply (x : FVec F S2x128x32x32 .f32) (r : Fin 16384) (c : Fin 16) :
    refTok1 x (ix2 r c) = x (ix4 ⟨r.val / 1024 / 8, by omega⟩ ⟨r.val / 1024 % 8 * 16 + c.val, by omega⟩ ⟨r.val % 1024 / 32, by omega⟩ ⟨r.val % 1024 % 32, by omega⟩) := by
  pointwise [refTok1]

theorem refTok1_token (x : FVec F S2x128x32x32 .f32) (n : Fin 4096) (q : Fin 64) :
    refTok1 x (ix2 (token1 n ⟨q.val / 16, by omega⟩) ⟨q.val % 16, by omega⟩) = x (src1 n q) := by
  have e1 : (token1 n ⟨q.val / 16, by omega⟩).val / 1024 = n.val / 256 := by
    show (n.val / 256 * 1024 + n.val % 256 / 16 * 64 + n.val % 16 * 2 + q.val / 16 / 2 * 32 + q.val / 16 % 2) / 1024 = _
    omega
  have e2 : (token1 n ⟨q.val / 16, by omega⟩).val % 1024 = n.val % 256 / 16 * 64 + n.val % 16 * 2 + q.val / 16 / 2 * 32 + q.val / 16 % 2 := by
    show (n.val / 256 * 1024 + n.val % 256 / 16 * 64 + n.val % 16 * 2 + q.val / 16 / 2 * 32 + q.val / 16 % 2) % 1024 = _
    omega
  rw [refTok1_apply]
  unfold src1
  refine congrArg x ?_
  congr 1 <;> refine Fin.ext ?_
  · show (token1 n ⟨q.val / 16, _⟩).val / 1024 / 8 = n.val / 2048
    rw [e1]; omega
  · show (token1 n ⟨q.val / 16, _⟩).val / 1024 % 8 * 16 + q.val % 16 = n.val / 256 % 8 * 16 + q.val % 16
    rw [e1]
  · show (token1 n ⟨q.val / 16, _⟩).val % 1024 / 32 = n.val / 16 % 16 * 2 + q.val / 32
    rw [e2]; omega
  · show (token1 n ⟨q.val / 16, _⟩).val % 1024 % 32 = n.val % 16 * 2 + q.val / 16 % 2
    rw [e2]; omega

/-- A taken token1 of the reference is one of the cell's that the list1 names. -/
theorem refSel1_apply (x : FVec F S2x128x32x32 .f32) (g : IVec S16x256x16 32) (h : Fin 16) (n : Fin 256) (k : Fin 64) (d : Fin 16) (w : Fin 4096)
    (hw : (g (ix3 h n ⟨k.val / 4, by omega⟩)).toNat = w.val) : refSel1 x g (ix4 h n k d) = x (src1 w ⟨k.val % 4 * 16 + d.val, by omega⟩) := by
  rw [← refTok1_token x w]
  have e1 : (⟨(k.val % 4 * 16 + d.val) / 16, by omega⟩ : Fin 4) = ⟨k.val % 4, by omega⟩ := Fin.ext (by simp only []; omega)
  have e2 : (⟨(k.val % 4 * 16 + d.val) % 16, by omega⟩ : Fin 16) = d := Fin.ext (by simp only []; omega)
  simp only [e1, e2]
  refine Eq.trans (b := Host.gather Cert.ReferenceIdeal.gather_S16384x16_S262144x1_S262144x16_1_0_n_n_0_1_116 (refTok1 x)
    (broadcastInDim Cert.ReferenceIdeal.S262144x1 ![0] Cert.ReferenceIdeal.Gen.bcast_S262144_S262144x1_0 (refIdx1 g))
    (ix2 (⟨(h.val * 256 + n.val) * 64 + k.val, by omega⟩ : Fin 262144) d)) ?_ ?_
  · pointwise [refSel1]
    exact congrArg (fun r : Fin 262144 => Host.gather _ _ _ (ix2 r d)) (Fin.ext (by simp only []; omega))
  · simp only [ix2_eq_valueIdx]
    refine Routing.gather_row _ rfl rfl rfl rfl rfl _ _ _ _ _ ?_ (by decide)
    simp only [← ix2_eq_valueIdx]
    refine Eq.trans (b := refIdx1 g (ix1 (⟨(h.val * 256 + n.val) * 64 + k.val, by omega⟩ : Fin 262144))) ?_
      (refIdx1_toNat g h n ⟨k.val / 4, by omega⟩ ⟨k.val % 4, by omega⟩ w hw _ (by simp only []; omega))
    pointwise

theorem G1.gathered_apply (T : S4096x128.Idx → Elt F .f32) (I : S65536.Idx → BitVec 32) (k : Fin 65536) (q : Fin 128) (n : Fin 4096)
    (hn : (I (ix1 k)).toNat = n.val) : G1.gathered T I (ix2 k q) = T (ix2 n q) := by
  rw [ix1_eq_valueIdx] at hn
  rw [ix2_eq_valueIdx, ix2_eq_valueIdx]
  unfold G1.gathered
  refine congrArg T (congrArg (fun a => ValueIdx.ix2 a q) (Fin.ext ?_))
  show (I (ValueIdx.ix1 k)).toNat % 4096 = n.val
  rw [hn]; exact Nat.mod_eq_of_lt n.isLt

/-- A value of the kernel's gathered rows, by the cell its entry of the list1 names. -/
theorem rows1_apply (x y : FVec F S2x128x32x32 .f32) (g : IVec S16x256x16 32) (k : Fin 65536) (q : Fin 128) (w : Fin 4096)
    (hw : (list1 g (ix1 k)).toNat = w.val) : G1.gathered (table1 x y) (list1 g) (ix2 k q)
      = if h : q.val < 64 then x (src1 w ⟨q.val, h⟩) else y (src1 w ⟨q.val - 64, by omega⟩) := by
  rw [G1.gathered_apply _ _ k q w hw]
  pointwise [table1]
  split
  · rw [cells1_apply]
  · rw [cells1_apply]

end Cert.Proof.Tail

end
-- ==== Proof.Value0.lean ====
/-
  The finest level's value at the ideal instance: each query's attention over the sixty-four tokens its list names, added to
  what the coarser levels carry, as one function of coordinates that the kernel's arrays and the reference's both read.
-/
module

public import proofs.«01_k».proof.Proof.Rows0
public import proofs.«01_k».proof.Proof.Attend
public import Idealize.ShloMosaic.Lib.Pipeline.Covers

@[expose] public section

noncomputable section

namespace Cert.Proof.Tail.F0

open Idealize.ShloMosaic
open Cert.KernelIdeal Cert.KernelIdeal.Gen

theorem k3_pay2_apply (v0 : Vec Ideal S1x128x4x16 .f32) (v2 : Vec Ideal S1x128x16x128 .f32) (p : Fin 128) (f : Fin 4) (d : Fin 16) :
    k3_pay2 v0 v2 (ix3 p f d) = msg (fun c => v0 (ix4 0 p f c))
      (fun (x : Fin 64) c => v2 (ix4 0 p ⟨x.val / 4, by omega⟩ ⟨x.val % 4 * 16 + c.val, by omega⟩))
      (fun (x : Fin 64) c => v2 (ix4 0 p ⟨x.val / 4, by omega⟩ ⟨64 + (x.val % 4 * 16 + c.val), by omega⟩)) d := by
  unfold msg att score
  pointwise [k3_pay2]

theorem k3_pay3_eq (w : Fin 3 → Re) : k3_pay3 (F := Ideal) (w 0) (w 1) (w 2) = share w 2 := rfl

theorem k3_pay1_apply (a : FVec Ideal S128x4x16 .f32) (w : Re) (v : Vec Ideal S1x128x16 .f32) (p : Fin 128) (f : Fin 4) (d : Fin 16) :
    k3_pay1 a w v (ix4 0 p f d) = v (ix3 0 p d) + a (ix3 p f d) * w := by
  pointwise [k3_pay1]

/-- What the attention leaves at a query cell, of the whole arrays it reads. -/
def fine (q : FVec Ideal S16x1024x4x16 .f32) (kv : FVec Ideal S16x1024x16x128 .f32) (car : FVec Ideal S16x1024x16 .f32) (w : FVec Ideal KernelIdeal.S3 .f32) :
    FVec Ideal S16x1024x4x16 .f32 := fun i =>
  car (ix3 (i 0) (i 1) (i 3)) + msg (fun c => q (ix4 (i 0) (i 1) (i 2) c))
    (fun (x : Fin 64) c => kv (ix4 (i 0) (i 1) ⟨x.val / 4, by omega⟩ ⟨x.val % 4 * 16 + c.val, by omega⟩))
    (fun (x : Fin 64) c => kv (ix4 (i 0) (i 1) ⟨x.val / 4, by omega⟩ ⟨64 + (x.val % 4 * 16 + c.val), by omega⟩)) (i 3) * share (fun a => w (ix1 a)) 2

theorem fine_apply (q : FVec Ideal S16x1024x4x16 .f32) (kv : FVec Ideal S16x1024x16x128 .f32) (car : FVec Ideal S16x1024x16 .f32) (w : FVec Ideal KernelIdeal.S3 .f32)
    (h : Fin 16) (p : Fin 1024) (f : Fin 4) (d : Fin 16) : fine q kv car w (ix4 h p f d)
      = car (ix3 h p d) + msg (fun c => q (ix4 h p f c)) (fun (x : Fin 64) c => kv (ix4 h p ⟨x.val / 4, by omega⟩ ⟨x.val % 4 * 16 + c.val, by omega⟩))
          (fun (x : Fin 64) c => kv (ix4 h p ⟨x.val / 4, by omega⟩ ⟨64 + (x.val % 4 * 16 + c.val), by omega⟩)) d * share (fun a => w (ix1 a)) 2 := rfl

/-! ## The array the region leaves -/

variable (V : (c : Dev nD) → (b : Ref sig .tc) → Buf (Elt Ideal) ((c.tc : Thread nD τ).loc b)) (n : ℕ)

/-- A point's head, and its rows. -/
def ptHead (t : Fin cfg3.N) : Fin 16 := grid3.coords t 0
def ptRow (t : Fin cfg3.N) (p : Fin 128) : Fin 1024 := ⟨(grid3.coords t 1).val * 128 + p.val, by have := (grid3.coords t 1).isLt; change _ < 8 at this; omega⟩

theorem coord_toNat0 (t : Fin cfg3.N) : (BitVec.ofNat 32 (grid3.coords t 0).val).toNat = (grid3.coords t 0).val := by
  have := (grid3.coords t 0).isLt; change _ < 16 at this; rw [BitVec.toNat_ofNat]; omega
theorem coord_toNat1 (t : Fin cfg3.N) : (BitVec.ofNat 32 (grid3.coords t 1).val).toNat = (grid3.coords t 1).val := by
  have := (grid3.coords t 1).isLt; change _ < 8 at this; rw [BitVec.toNat_ofNat]; omega

theorem emb_0 (t : Fin cfg3.N) (p : Fin 128) (f : Fin 4) (d : Fin 16) :
    (win3_0.rect t).emb (ix4 (0 : Fin 1) p f d : S1x128x4x16.Idx) = (ix4 (ptHead t) (ptRow t p) f d : S16x1024x4x16.Idx) := by
  funext a
  refine Fin.ext ?_
  rw [Pipeline.Window.rect_emb_val win3_0 t _ a rfl]
  match a with
  | ⟨0, _⟩ => show (BitVec.ofNat 32 (grid3.coords t 0).val).toNat * 1 + 0 = (grid3.coords t 0).val; rw [coord_toNat0]; omega
  | ⟨1, _⟩ => show (BitVec.ofNat 32 (grid3.coords t 1).val).toNat * 128 + p.val = (grid3.coords t 1).val * 128 + p.val; rw [coord_toNat1]
  | ⟨2, _⟩ => show 0 * 4 + f.val = f.val; omega
  | ⟨3, _⟩ => show 0 * 16 + d.val = d.val; omega
theorem emb_1 (t : Fin cfg3.N) (p : Fin 128) (x : Fin 16) (q : Fin 128) :
    (win3_1.rect t).emb (ix4 (0 : Fin 1) p x q : S1x128x16x128.Idx) = (ix4 (ptHead t) (ptRow t p) x q : S16x1024x16x128.Idx) := by
  funext a
  refine Fin.ext ?_
  rw [Pipeline.Window.rect_emb_val win3_1 t _ a rfl]
  match a with
  | ⟨0, _⟩ => show (BitVec.ofNat 32 (grid3.coords t 0).val).toNat * 1 + 0 = (grid3.coords t 0).val; rw [coord_toNat0]; omega
  | ⟨1, _⟩ => show (BitVec.ofNat 32 (grid3.coords t 1).val).toNat * 128 + p.val = (grid3.coords t 1).val * 128 + p.val; rw [coord_toNat1]
  | ⟨2, _⟩ => show 0 * 16 + x.val = x.val; omega
  | ⟨3, _⟩ => show 0 * 128 + q.val = q.val; omega
theorem emb_2 (t : Fin cfg3.N) (p : Fin 128) (d : Fin 16) :
    (win3_2.rect t).emb (ix3 (0 : Fin 1) p d : S1x128x16.Idx) = (ix3 (ptHead t) (ptRow t p) d : S16x1024x16.Idx) := by
  funext a
  refine Fin.ext ?_
  rw [Pipeline.Window.rect_emb_val win3_2 t _ a rfl]
  match a with
  | ⟨0, _⟩ => show (BitVec.ofNat 32 (grid3.coords t 0).val).toNat * 1 + 0 = (grid3.coords t 0).val; rw [coord_toNat0]; omega
  | ⟨1, _⟩ => show (BitVec.ofNat 32 (grid3.coords t 1).val).toNat * 128 + p.val = (grid3.coords t 1).val * 128 + p.val; rw [coord_toNat1]
  | ⟨2, _⟩ => show 0 * 16 + d.val = d.val; omega
theorem emb_3 (t : Fin cfg3.N) (i : Fin 3) : (win3_3.rect t).emb (ix1 i : KernelIdeal.S3.Idx) = (ix1 i : KernelIdeal.S3.Idx) := by
  funext a
  refine Fin.ext ?_
  rw [Pipeline.Window.rect_emb_val win3_3 t _ a rfl]
  match a with
  | ⟨0, _⟩ => show 0 * 3 + i.val = i.val; omega
theorem emb_4 (t : Fin cfg3.N) (p : Fin 128) (f : Fin 4) (d : Fin 16) :
    (win3_4.rect t).emb (ix4 (0 : Fin 1) p f d : S1x128x4x16.Idx) = (ix4 (ptHead t) (ptRow t p) f d : S16x1024x4x16.Idx) := emb_0 t p f d

theorem outAt_apply (c : Dev nD) (t : Fin cfg3.N) (p : Fin 128) (f : Fin 4) (d : Fin 16) :
    outAt V c t (ix4 0 p f d) = fine (V c main_v29) (V c main_v30) (V c main_v14) (V c main_arg6) (ix4 (ptHead t) (ptRow t p) f d) := by
  have h0 : ∀ p f d, iblk V c 0 t (ix4 (0 : Fin 1) p f d : S1x128x4x16.Idx) = V c main_v29 (ix4 (ptHead t) (ptRow t p) f d) := fun p f d => congrArg (V c main_v29) (emb_0 t p f d)
  have h1 : ∀ p x q, iblk V c 1 t (ix4 (0 : Fin 1) p x q : S1x128x16x128.Idx) = V c main_v30 (ix4 (ptHead t) (ptRow t p) x q) := fun p x q => congrArg (V c main_v30) (emb_1 t p x q)
  have h2 : ∀ p d, iblk V c 2 t (ix3 (0 : Fin 1) p d : S1x128x16.Idx) = V c main_v14 (ix3 (ptHead t) (ptRow t p) d) := fun p d => congrArg (V c main_v14) (emb_2 t p d)
  have h3 : ∀ i, iblk V c 3 t (ix1 i : KernelIdeal.S3.Idx) = V c main_arg6 (ix1 i) := fun i => congrArg (V c main_arg6) (emb_3 t i)
  unfold outAt fine
  rw [k3_pay1_apply, k3_pay2_apply, h2]
  simp only [h0, h1, h3]
  rfl

theorem flushed_eq (c : Dev nD) (t : Fin cfg3.N) :
    (dat V n c).flushed 4 t = (win3_4.blk t).view.read (Elt Ideal) (fine (V c main_v29) (V c main_v30) (V c main_v14) (V c main_arg6)) := by
  show (cfg3.win 4).cut (grid3.coords t) ((dat V n c).after 4 t) = _
  rw [after_4]
  funext y
  obtain ⟨z, p, f, d, rfl⟩ : ∃ (z : Fin 1) (p : Fin 128) (f : Fin 4) (d : Fin 16), y = (ix4 z p f d : S1x128x4x16.Idx) := ⟨y 0, y 1, y 2, y 3, eq_ix4 _⟩
  obtain rfl : z = 0 := Subsingleton.elim _ _
  exact (outAt_apply V c t p f d).trans (congrArg (fine (V c main_v29) (V c main_v30) (V c main_v14) (V c main_arg6)) (emb_4 t p f d).symm)

theorem flush_4 : ∀ t : Fin grid3.N, win3_4.flush t = true := fun t =>
  (Pipeline.Window.flush_reads win3_4 rfl 1 (by decide) (by decide) (Pipeline.Window.sep_of_coord cc3_transform_4 1 1 (fun _ => rfl) (by decide)) (P := 1) (m := 0) (by decide) rfl t).mpr (Nat.mod_one _)

theorem cover_4 (i : S16x1024x4x16.Idx) : ∃ t : Fin cfg3.N, (cfg3.win 4).flush t = true ∧ i ∈ ((cfg3.win 4).blk t).view.set := by
  obtain ⟨h, r, f, d, rfl⟩ : ∃ (h : Fin 16) (r : Fin 1024) (f : Fin 4) (d : Fin 16), i = ix4 h r f d := ⟨i 0, i 1, i 2, i 3, eq_ix4 _⟩
  obtain ⟨t, ht⟩ := grid3.coords_surjective (fun a => match a with | ⟨0, _⟩ => h | ⟨1, _⟩ => (⟨r.val / 128, by omega⟩ : Fin 8))
  refine ⟨t, flush_4 t, ?_⟩
  have e : (win3_4.rect t).emb (ix4 (0 : Fin 1) (⟨r.val % 128, by omega⟩ : Fin 128) f d : S1x128x4x16.Idx) = (ix4 h r f d : S16x1024x4x16.Idx) := by
    rw [emb_4]
    have e0 : ptHead t = h := by unfold ptHead; rw [ht]
    have e1 : ptRow t ⟨r.val % 128, by omega⟩ = r := by
      refine Fin.ext ?_
      show (grid3.coords t 1).val * 128 + r.val % 128 = r.val
      rw [ht]; show r.val / 128 * 128 + r.val % 128 = r.val; omega
    rw [e0, e1]
  have := ((cfg3.win 4).blk t).view.emb_mem_set (ix4 (0 : Fin 1) (⟨r.val % 128, by omega⟩ : Fin 128) f d : S1x128x4x16.Idx)
  rwa [show ((cfg3.win 4).blk t).view.emb (ix4 (0 : Fin 1) (⟨r.val % 128, by omega⟩ : Fin 128) f d : S1x128x4x16.Idx) = ix4 h r f d from e] at this

theorem arr_fine (c : Dev nD) : (dat V n c).arrAt 4 cfg3.N = fine (V c main_v29) (V c main_v30) (V c main_v14) (V c main_arg6) :=
  (dat V n c).arrAt_eq_of_cover 4 _ (fun t _ => flushed_eq V n c t) cover_4

end Cert.Proof.Tail.F0

namespace Cert.Proof.Tail

open Idealize.ShloMosaic

section Kernel

open Cert.KernelIdeal Cert.KernelIdeal.Gen

/-! ## The host's layouts -/

/-- Where a query cell, numbered by coarse cell, lies in its head's image. -/
def place (p : Fin 1024) : Fin 1024 := ⟨(p.val / 64 * 2 + p.val / 2 % 2) * 32 + (p.val / 4 % 16 * 2 + p.val % 2), by omega⟩

/-- A query's token in an image. -/
def tok (h : Fin 16) (n : Fin 1024) (f : Fin 4) (d : Fin 16) : S2x128x64x64.Idx :=
  ix4 ⟨h.val / 8, by omega⟩ ⟨h.val % 8 * 16 + d.val, by omega⟩ ⟨n.val / 32 * 2 + f.val / 2, by omega⟩ ⟨n.val % 32 * 2 + f.val % 2, by omega⟩

theorem quads_apply {F : FTy → Type} (x : S2x128x64x64.Idx → Elt F .f32) (h : Fin 16) (p : Fin 1024) (f : Fin 4) (d : Fin 16) :
    quads x (ix4 h p f d) = x (tok h (place p) f d) := by
  unfold tok place
  pointwise [quads]
  refine congrArg x ?_
  congr 1 <;> exact Fin.ext (by simp only []; omega)

theorem carried_apply {F : FTy → Type} (x : S16x256x4x16.Idx → Elt F .f32) (h : Fin 16) (p : Fin 1024) (d : Fin 16) :
    carried x (ix3 h p d) = x (ix4 h ⟨p.val / 4, by omega⟩ ⟨p.val % 4, by omega⟩ d) := by
  pointwise [carried]

theorem byCell_apply {F : FTy → Type} (x : S262144x128.Idx → Elt F .f32) (h : Fin 16) (p : Fin 1024) (s : Fin 16) (q : Fin 128) :
    byCell x (ix4 h p s q) = x (ix2 ⟨h.val * 16384 + p.val * 16 + s.val, by omega⟩ q) := by
  pointwise [byCell]

/-- Which query cell, by coarse cell, a token of the result is in, and which of its four tokens it is. -/
def cellOf (t : Fin 4096) : Fin 1024 := ⟨t.val / 256 * 64 + t.val / 4 % 16 * 4 + t.val / 128 % 2 * 2 + t.val / 2 % 2, by omega⟩
def quarter (t : Fin 4096) : Fin 4 := ⟨t.val / 64 % 2 * 2 + t.val % 2, by omega⟩

theorem byToken_apply {F : FTy → Type} (x : S16x1024x4x16.Idx → Elt F .f32) (b : Fin 2) (t : Fin 4096) (h : Fin 8) (d : Fin 16) :
    byToken x (ix4 b t h d) = x (ix4 ⟨b.val * 8 + h.val, by omega⟩ (cellOf t) (quarter t) d) := by
  unfold cellOf quarter
  pointwise [byToken]

end Kernel

end Cert.Proof.Tail

namespace Cert.ReferenceIdeal

open Idealize.ShloMosaic Idealize.SL.Sem Cert.ReferenceIdeal.Gen

variable {F : FTy → Type} [FloatOps F]

/-- The three levels' weights. -/
def refShare (w : FVec F S3 .f32) : FVec F S3 .f32 :=
  have e : FVec F S3 .f32 := Host.exp (subf w (broadcastInDim S3 ![] bcast_S_S3 (Host.reduce FloatOps.maximumf w (constant S_ .f32 0xFF800000#32) reducesTo_S3_S_d0 h_S_)))
  Host.divf e (broadcastInDim S3 ![] bcast_S_S3 (Host.reduceAdd e (constant S_ .f32 0x00000000#32) reducesTo_S3_S_d0 h_S_))

/-- The list, rearranged to the image's order of cells. -/
def refList (g : IVec S16x256x4x16 32) : IVec S16x1024x16 32 :=
  shapeCast S16x1024x16 (transpose S16x16x2x16x2x16 [0, 1, 3, 2, 4, 5] (shapeCast S16x16x16x2x2x16 g shapeCasts_S16x256x4x16_S16x16x16x2x2x16) transposes_S16x16x16x2x2x16_S16x16x2x16x2x16_0_1_3_2_4_5) shapeCasts_S16x16x2x16x2x16_S16x1024x16

/-- What the coarser levels carry, rearranged alike. -/
def refCarried (x : FVec F S16x256x4x16 .f32) : FVec F S16x1024x16 .f32 :=
  shapeCast S16x1024x16 (transpose S16x16x2x16x2x16 [0, 1, 3, 2, 4, 5] (shapeCast S16x16x16x2x2x16 x shapeCasts_S16x256x4x16_S16x16x16x2x2x16) transposes_S16x16x16x2x2x16_S16x16x2x16x2x16_0_1_3_2_4_5) shapeCasts_S16x16x2x16x2x16_S16x1024x16

/-- The queries, four tokens to a cell. -/
def refGroups (x : FVec F S2x128x64x64 .f32) : FVec F S16x1024x4x16 .f32 :=
  shapeCast S16x1024x4x16 (transpose S16x32x32x2x2x16 [0, 2, 4, 3, 5, 1] (shapeCast S16x16x32x2x32x2 x shapeCasts_S2x128x64x64_S16x16x32x2x32x2) transposes_S16x16x32x2x32x2_S16x32x32x2x2x16_0_2_4_3_5_1) shapeCasts_S16x32x32x2x2x16_S16x1024x4x16

/-- The scaled scores. -/
def refScore (q : FVec F S16x1024x4x16 .f32) (k : FVec F S16x1024x64x16 .f32) : FVec F S16x1024x4x64 .f32 :=
  mulf (Host.dotGeneral dot_S16x1024x4x16_S16x1024x64x16_S16x1024x4x64_3_3_2_2_01_01 none q k) (broadcastInDim S16x1024x4x64 ![] bcast_S_S16x1024x4x64 (constant S_ .f32 0x3E800000#32))

/-- Their softmax. -/
def refAtt (s : FVec F S16x1024x4x64 .f32) : FVec F S16x1024x4x64 .f32 :=
  have e : FVec F S16x1024x4x64 .f32 := Host.exp (subf s (broadcastInDim S16x1024x4x64 ![0, 1, 2, 3] bcast_S16x1024x4x1_S16x1024x4x64_0_1_2_3 (broadcastInDim S16x1024x4x1 ![0, 1, 2] bcast_S16x1024x4_S16x1024x4x1_0_1_2
    (Host.reduce FloatOps.maximumf s (constant S_ .f32 0xFF800000#32) reducesTo_S16x1024x4x64_S16x1024x4_d3 h_S_))))
  Host.divf e (broadcastInDim S16x1024x4x64 ![0, 1, 2, 3] bcast_S16x1024x4x1_S16x1024x4x64_0_1_2_3 (broadcastInDim S16x1024x4x1 ![0, 1, 2] bcast_S16x1024x4_S16x1024x4x1_0_1_2
    (Host.reduceAdd e (constant S_ .f32 0x00000000#32) reducesTo_S16x1024x4x64_S16x1024x4_d3 h_S_)))

/-- The values, weighted. -/
def refMsg (q : FVec F S16x1024x4x16 .f32) (k v : FVec F S16x1024x64x16 .f32) : FVec F S16x1024x4x16 .f32 :=
  Host.dotGeneral dot_S16x1024x4x64_S16x1024x64x16_S16x1024x4x16_3_2_2_3_01_01 none (refAtt (refScore q k)) v

/-- This level's result, by query cell. -/
def refLevel (x y z : FVec F S2x128x64x64 .f32) (w : FVec F S3 .f32) (car : FVec F S16x256x4x16 .f32) (g : IVec S16x256x4x16 32) : FVec F S16x1024x4x16 .f32 :=
  addf (broadcastInDim S16x1024x4x16 ![0, 1, 2, 3] bcast_S16x1024x1x16_S16x1024x4x16_0_1_2_3 (broadcastInDim S16x1024x1x16 ![0, 1, 3] bcast_S16x1024x16_S16x1024x1x16_0_1_3 (refCarried car)))
    (mulf (refMsg (refGroups x) (refSel y (refList g)) (refSel z (refList g))) (broadcastInDim S16x1024x4x16 ![] bcast_S_S16x1024x4x16 (shapeCast S_ (extractStridedSlice S1 ![2] (refShare w) slices_S3_S1_2) shapeCasts_S1_S_)))

/-- The result in the order of tokens. -/
def refTokens (x : FVec F S16x1024x4x16 .f32) : FVec F S2x4096x8x16 .f32 :=
  transpose S2x4096x8x16 [0, 2, 1, 3] (shapeCast S2x8x4096x16 (shapeCast S16x4096x16 (transpose S16x32x2x32x2x16 [0, 1, 3, 2, 4, 5] (shapeCast S16x32x32x2x2x16 x shapeCasts_S16x1024x4x16_S16x32x32x2x2x16)
    transposes_S16x32x32x2x2x16_S16x32x2x32x2x16_0_1_3_2_4_5) shapeCasts_S16x32x2x32x2x16_S16x4096x16) shapeCasts_S16x4096x16_S2x8x4096x16) transposes_S2x8x4096x16_S2x4096x8x16_0_2_1_3

end Cert.ReferenceIdeal

namespace Cert.Proof.Tail

open Idealize.ShloMosaic
open Cert.ReferenceIdeal (refShare refList refCarried refGroups refScore refAtt refMsg refLevel refTokens refSel)
open Cert.KernelIdeal (S2x128x64x64 S16x256x4x16 S16x1024x4x16 S16x1024x16)

theorem fold_max_three (w : Fin 3 → Re) : Finset.fold max (Ideal.ofBits .f32 4286578688#32) w Finset.univ = max (max (w 0) (w 1)) (w 2) := by
  have hb : (Ideal.ofBits .f32 4286578688#32 : Re) = ⊥ := by
    simp [Ideal.ofBits, Ideal.ieee]
  rw [hb, show (Finset.univ : Finset (Fin 3)) = {0, 1, 2} from rfl, Finset.fold_insert (by decide), Finset.fold_insert (by decide), Finset.fold_singleton, max_bot_right, max_assoc]

theorem refShare_apply (w : FVec Ideal ReferenceIdeal.S3 .f32) (i : Fin 3) : refShare w (ix1 i) = share (fun a => w (ix1 a)) i := by
  pointwise [refShare]
  unfold share
  rw [fold_max_three, Fin.sum_univ_three]

theorem refList_apply (g : IVec ReferenceIdeal.S16x256x4x16 32) (h : Fin 16) (n : Fin 1024) (c : Fin 16) :
    refList g (ix3 h n c) = g (ix4 h ⟨n.val / 64 * 16 + n.val / 2 % 16, by omega⟩ ⟨n.val / 32 % 2 * 2 + n.val % 2, by omega⟩ c) := by
  pointwise [refList]

theorem refCarried_apply (x : FVec Ideal ReferenceIdeal.S16x256x4x16 .f32) (h : Fin 16) (n : Fin 1024) (c : Fin 16) :
    refCarried x (ix3 h n c) = x (ix4 h ⟨n.val / 64 * 16 + n.val / 2 % 16, by omega⟩ ⟨n.val / 32 % 2 * 2 + n.val % 2, by omega⟩ c) := by
  pointwise [refCarried]

theorem refGroups_apply (x : FVec Ideal S2x128x64x64 .f32) (h : Fin 16) (n : Fin 1024) (f : Fin 4) (d : Fin 16) :
    refGroups x (ix4 h n f d) = x (tok h n f d) := by
  unfold tok
  pointwise [refGroups]

theorem refMsg_apply (q : FVec Ideal ReferenceIdeal.S16x1024x4x16 .f32) (k v : FVec Ideal ReferenceIdeal.S16x1024x64x16 .f32) (h : Fin 16) (n : Fin 1024) (f : Fin 4) (d : Fin 16) :
    refMsg q k v (ix4 h n f d) = msg (fun c => q (ix4 h n f c)) (fun (x : Fin 64) c => k (ix4 h n x c)) (fun (x : Fin 64) c => v (ix4 h n x c)) d := by
  unfold msg att score
  pointwise [refMsg, refAtt, refScore]

/-- A cell of the coarser level and which of its four, from a query cell's place: the number it came from. -/
theorem place_cell (p : Fin 1024) : (place p).val / 64 * 16 + (place p).val / 2 % 16 = p.val / 4 ∧ (place p).val / 32 % 2 * 2 + (place p).val % 2 = p.val % 4 := by
  have split : ∀ a b c d : ℕ, b < 2 → c < 16 → d < 2 → ((a * 2 + b) * 32 + (c * 2 + d)) / 64 = a ∧ ((a * 2 + b) * 32 + (c * 2 + d)) / 2 % 16 = c
      ∧ ((a * 2 + b) * 32 + (c * 2 + d)) / 32 % 2 = b ∧ ((a * 2 + b) * 32 + (c * 2 + d)) % 2 = d := fun a b c d hb hc hd => by omega
  obtain ⟨h1, h2, h3, h4⟩ := split (p.val / 64) (p.val / 2 % 2) (p.val / 4 % 16) (p.val % 2) (by omega) (by omega) (by omega)
  unfold place
  simp only [h1, h2, h3, h4]
  omega

theorem refList_place (g : IVec ReferenceIdeal.S16x256x4x16 32) (h : Fin 16) (p : Fin 1024) (c : Fin 16) :
    refList g (ix3 h (place p) c) = g (ix4 h ⟨p.val / 4, by omega⟩ ⟨p.val % 4, by omega⟩ c) := by
  rw [refList_apply]
  refine congrArg g ?_
  congr 1 <;> exact Fin.ext (by first | rfl | exact (place_cell p).1 | exact (place_cell p).2)

theorem refCarried_place (x : FVec Ideal ReferenceIdeal.S16x256x4x16 .f32) (h : Fin 16) (p : Fin 1024) (c : Fin 16) :
    refCarried x (ix3 h (place p) c) = x (ix4 h ⟨p.val / 4, by omega⟩ ⟨p.val % 4, by omega⟩ c) := by
  rw [refCarried_apply]
  refine congrArg x ?_
  congr 1 <;> exact Fin.ext (by first | rfl | exact (place_cell p).1 | exact (place_cell p).2)

theorem refLevel_apply (x y z : FVec Ideal S2x128x64x64 .f32) (w : FVec Ideal ReferenceIdeal.S3 .f32) (car : FVec Ideal S16x256x4x16 .f32) (g : IVec S16x256x4x16 32)
    (h : Fin 16) (n : Fin 1024) (f : Fin 4) (d : Fin 16) : refLevel x y z w car g (ix4 h n f d)
      = refCarried car (ix3 h n d) + refMsg (refGroups x) (refSel y (refList g)) (refSel z (refList g)) (ix4 h n f d) * refShare w (ix1 2) := by
  pointwise [refLevel]

/-- The kernel's attention at a query cell is the reference's at its place. -/
theorem fine_eq (x y z : FVec Ideal S2x128x64x64 .f32) (w : FVec Ideal ReferenceIdeal.S3 .f32) (car : FVec Ideal S16x256x4x16 .f32) (g : IVec S16x256x4x16 32)
    (hI : G0.InRows (list g)) (h : Fin 16) (p : Fin 1024) (f : Fin 4) (d : Fin 16) :
    F0.fine (quads (F := Ideal) x) (byCell (F := Ideal) (G0.gathered (F := Ideal) (table (F := Ideal) y z) (list g))) (carried (F := Ideal) car) w (ix4 h p f d) = refLevel x y z w car g (ix4 h (place p) f d) := by
  rw [refLevel_apply, refMsg_apply, refShare_apply, refCarried_place, F0.fine_apply, carried_apply]
  have hw : ∀ c : Fin 16, (refList g (ix3 h (place p) c)).toNat < 16384
      ∧ list g (ix1 (⟨h.val * 16384 + p.val * 16 + c.val, by omega⟩ : Fin 262144)) = refList g (ix3 h (place p) c) := fun c => by
    have e : list g (ix1 (⟨h.val * 16384 + p.val * 16 + c.val, by omega⟩ : Fin 262144)) = refList g (ix3 h (place p) c) := by
      rw [list_apply, refList_place]
      refine congrArg g ?_
      congr 1 <;> exact Fin.ext (by simp only []; omega)
    exact ⟨e ▸ hI _, e⟩
  have hq : (fun c : Fin 16 => quads (F := Ideal) x (ix4 h p f c)) = fun c => refGroups x (ix4 h (place p) f c) :=
    funext fun c => by rw [quads_apply, refGroups_apply]
  have hk : ∀ (u : Fin 64) (c : Fin 16), byCell (F := Ideal) (G0.gathered (F := Ideal) (table (F := Ideal) y z) (list g)) (ix4 h p (⟨u.val / 4, by omega⟩ : Fin 16) (⟨u.val % 4 * 16 + c.val, by omega⟩ : Fin 128)) = refSel y (refList g) (ix4 h (place p) u c) := fun u c => by
    have hu := hw ⟨u.val / 4, by omega⟩
    rw [byCell_apply, rows_apply y z g _ _ ⟨_, hu.1⟩ (congrArg BitVec.toNat hu.2), dif_pos (by simp only []; omega), refSel_apply y (refList g) h (place p) u c ⟨_, hu.1⟩ rfl]
  have hv : ∀ (u : Fin 64) (c : Fin 16), byCell (F := Ideal) (G0.gathered (F := Ideal) (table (F := Ideal) y z) (list g)) (ix4 h p (⟨u.val / 4, by omega⟩ : Fin 16) (⟨64 + (u.val % 4 * 16 + c.val), by omega⟩ : Fin 128)) = refSel z (refList g) (ix4 h (place p) u c) := fun u c => by
    have hu := hw ⟨u.val / 4, by omega⟩
    rw [byCell_apply, rows_apply y z g _ _ ⟨_, hu.1⟩ (congrArg BitVec.toNat hu.2), dif_neg (by simp only []; omega), refSel_apply z (refList g) h (place p) u c ⟨_, hu.1⟩ rfl]
    exact congrArg (fun q => z (src _ q)) (Fin.ext (by simp only []; omega))
  rw [hq]
  simp only [hk, hv]

theorem refTokens_apply (x : FVec Ideal S16x1024x4x16 .f32) (b : Fin 2) (t : Fin 4096) (h : Fin 8) (d : Fin 16) :
    refTokens x (ix4 b t h d) = x (ix4 ⟨b.val * 8 + h.val, by omega⟩ ⟨t.val / 128 * 32 + t.val / 2 % 32, by omega⟩ (quarter t) d) := by
  unfold quarter
  pointwise [refTokens]

/-- The kernel's result is the reference's. -/
theorem value_eq (x y z : FVec Ideal S2x128x64x64 .f32) (w : FVec Ideal ReferenceIdeal.S3 .f32) (car : FVec Ideal S16x256x4x16 .f32) (g : IVec S16x256x4x16 32)
    (hI : G0.InRows (list g)) :
    byToken (F := Ideal) (F0.fine (quads (F := Ideal) x) (byCell (F := Ideal) (G0.gathered (F := Ideal) (table (F := Ideal) y z) (list g))) (carried (F := Ideal) car) w)
      = refTokens (refLevel x y z w car g) := by
  funext j
  obtain ⟨b, t, h, d, rfl⟩ : ∃ (b : Fin 2) (t : Fin 4096) (h : Fin 8) (d : Fin 16), j = ix4 b t h d := ⟨j 0, j 1, j 2, j 3, eq_ix4 _⟩
  rw [byToken_apply, fine_eq x y z w car g hI, refTokens_apply]
  refine congrArg (fun n => refLevel x y z w car g (ix4 _ n (quarter t) d)) (Fin.ext ?_)
  show ((cellOf t).val / 64 * 2 + (cellOf t).val / 2 % 2) * 32 + ((cellOf t).val / 4 % 16 * 2 + (cellOf t).val % 2) = t.val / 128 * 32 + t.val / 2 % 32
  have split : ∀ a b c d : ℕ, b < 16 → c < 2 → d < 2 → (a * 64 + b * 4 + c * 2 + d) / 64 = a ∧ (a * 64 + b * 4 + c * 2 + d) / 4 % 16 = b
      ∧ (a * 64 + b * 4 + c * 2 + d) / 2 % 2 = c ∧ (a * 64 + b * 4 + c * 2 + d) % 2 = d := fun a b c d hb hc hd => by omega
  obtain ⟨h1, h2, h3, h4⟩ := split (t.val / 256) (t.val / 4 % 16) (t.val / 128 % 2) (t.val / 2 % 2) (by omega) (by omega) (by omega)
  unfold cellOf
  simp only [h1, h2, h3, h4]
  rw [show t.val / 256 * 2 + t.val / 128 % 2 = t.val / 128 by omega, show t.val / 4 % 16 * 2 + t.val / 2 % 2 = t.val / 2 % 32 by omega]

end Cert.Proof.Tail

end
-- ==== Proof.Value1.lean ====
/-
  The coarser fine level at the ideal instance: its attention and what it leaves to the finest, as functions of coordinates
  that the kernel's arrays and the reference's both read.
-/
module

public import proofs.«01_k».proof.Proof.Rows1
public import proofs.«01_k».proof.Proof.Value0

@[expose] public section

noncomputable section

namespace Cert.Proof.Tail

open Idealize.ShloMosaic

section Kernel

open Cert.KernelIdeal Cert.KernelIdeal.Gen

theorem k1_pay4_apply (v0 : Vec Ideal S1x64x4x16 .f32) (v2 : Vec Ideal S1x64x16x128 .f32) (p : Fin 64) (f : Fin 4) (x : Fin 64) :
    k1_pay4 v0 v2 (ix3 p f x) = att (fun c => v0 (ix4 0 p f c)) (fun (x : Fin 64) c => v2 (ix4 0 p ⟨x.val / 4, by omega⟩ ⟨x.val % 4 * 16 + c.val, by omega⟩)) x := by
  unfold att score
  pointwise [k1_pay4, k1_pay3]

theorem k1_pay5_apply (v0 : Vec Ideal S1x64x4x16 .f32) (v2 : Vec Ideal S1x64x16x128 .f32) (p : Fin 64) (f : Fin 4) (d : Fin 16) :
    k1_pay5 v0 v2 (ix3 p f d) = msg (fun c => v0 (ix4 0 p f c))
      (fun (x : Fin 64) c => v2 (ix4 0 p ⟨x.val / 4, by omega⟩ ⟨x.val % 4 * 16 + c.val, by omega⟩))
      (fun (x : Fin 64) c => v2 (ix4 0 p ⟨x.val / 4, by omega⟩ ⟨64 + (x.val % 4 * 16 + c.val), by omega⟩)) d := by
  unfold msg
  simp only [← k1_pay4_apply]
  pointwise [k1_pay5, k1_pay3]

theorem k1_pay10_eq (w : Fin 3 → Re) : k1_pay10 (F := Ideal) (w 0) (w 1) (w 2) = share w 0 := rfl
theorem k1_pay11_eq (w : Fin 3 → Re) : k1_pay11 (F := Ideal) (w 0) (w 1) (w 2) = share w 1 := rfl

theorem k1_pay12_apply (a : FVec Ideal S64x4x16 .f32) (u w : Re) (v : Vec Ideal S1x64x16 .f32) (p : Fin 64) (f : Fin 4) (d : Fin 16) :
    k1_pay12 a u w v (ix4 0 p f d) = v (ix3 0 p d) * u + a (ix3 p f d) * w := by
  pointwise [k1_pay12]

/-- What the level leaves to the finest at a coordinate. -/
theorem midCar_apply (q : FVec Ideal S16x256x4x16 .f32) (kv : FVec Ideal S16x256x16x128 .f32) (c : FVec Ideal S16x256x16 .f32) (w : FVec Ideal KernelIdeal.S3 .f32)
    (h : Fin 16) (n : Fin 256) (f : Fin 4) (d : Fin 16) : F1.midCar (F := Ideal) q kv c w (ix4 h n f d)
      = c (ix3 h n d) * share (fun a => w (ix1 a)) 0 + msg (fun c => q (ix4 h n f c)) (fun (x : Fin 64) c => kv (ix4 h n ⟨x.val / 4, by omega⟩ ⟨x.val % 4 * 16 + c.val, by omega⟩))
          (fun (x : Fin 64) c => kv (ix4 h n ⟨x.val / 4, by omega⟩ ⟨64 + (x.val % 4 * 16 + c.val), by omega⟩)) d * share (fun a => w (ix1 a)) 1 := by
  obtain ⟨k, p, rfl⟩ : ∃ (k : Fin 4) (p : Fin 64), n = ⟨k.val * 64 + p.val, by omega⟩ := ⟨⟨n.val / 64, by omega⟩, ⟨n.val % 64, by omega⟩, Fin.ext (by show n.val = n.val / 64 * 64 + n.val % 64; omega)⟩
  rw [F1.midCar_block]
  unfold F1.carriedOf
  rw [k1_pay12_apply, k1_pay5_apply, k1_pay10_eq (fun a => w (ix1 a)), k1_pay11_eq (fun a => w (ix1 a))]
  rfl

/-- A coarse query's token in an image. -/
def tok1 (h : Fin 16) (n : Fin 256) (f : Fin 4) (d : Fin 16) : S2x128x32x32.Idx :=
  ix4 ⟨h.val / 8, by omega⟩ ⟨h.val % 8 * 16 + d.val, by omega⟩ ⟨n.val / 16 * 2 + f.val / 2, by omega⟩ ⟨n.val % 16 * 2 + f.val % 2, by omega⟩

theorem quads1_apply {F : FTy → Type} (x : S2x128x32x32.Idx → Elt F .f32) (h : Fin 16) (n : Fin 256) (f : Fin 4) (d : Fin 16) :
    quads1 x (ix4 h n f d) = x (tok1 h n f d) := by
  unfold tok1
  pointwise [quads1]

theorem byCell1_apply {F : FTy → Type} (x : S65536x128.Idx → Elt F .f32) (h : Fin 16) (n : Fin 256) (s : Fin 16) (q : Fin 128) :
    byCell1 x (ix4 h n s q) = x (ix2 ⟨h.val * 4096 + n.val * 16 + s.val, by omega⟩ q) := by
  pointwise [byCell1]

end Kernel

end Cert.Proof.Tail

namespace Cert.ReferenceIdeal

open Idealize.ShloMosaic Idealize.SL.Sem Cert.ReferenceIdeal.Gen

variable {F : FTy → Type} [FloatOps F]

/-- The coarser queries, four tokens to a cell. -/
def refGroups1 (x : FVec F S2x128x32x32 .f32) : FVec F S16x256x4x16 .f32 :=
  shapeCast S16x256x4x16 (transpose S16x16x16x2x2x16 [0, 2, 4, 3, 5, 1] (shapeCast S16x16x16x2x16x2 x shapeCasts_S2x128x32x32_S16x16x16x2x16x2) transposes_S16x16x16x2x16x2_S16x16x16x2x2x16_0_2_4_3_5_1) shapeCasts_S16x16x16x2x2x16_S16x256x4x16

/-- The scaled scores. -/
def refScore1 (q : FVec F S16x256x4x16 .f32) (k : FVec F S16x256x64x16 .f32) : FVec F S16x256x4x64 .f32 :=
  mulf (Host.dotGeneral dot_S16x256x4x16_S16x256x64x16_S16x256x4x64_3_3_2_2_01_01 none q k) (broadcastInDim S16x256x4x64 ![] bcast_S_S16x256x4x64 (constant S_ .f32 0x3E800000#32))

/-- Their softmax. -/
def refAtt1 (s : FVec F S16x256x4x64 .f32) : FVec F S16x256x4x64 .f32 :=
  have e : FVec F S16x256x4x64 .f32 := Host.exp (subf s (broadcastInDim S16x256x4x64 ![0, 1, 2, 3] bcast_S16x256x4x1_S16x256x4x64_0_1_2_3 (broadcastInDim S16x256x4x1 ![0, 1, 2] bcast_S16x256x4_S16x256x4x1_0_1_2
    (Host.reduce FloatOps.maximumf s (constant S_ .f32 0xFF800000#32) reducesTo_S16x256x4x64_S16x256x4_d3 h_S_))))
  Host.divf e (broadcastInDim S16x256x4x64 ![0, 1, 2, 3] bcast_S16x256x4x1_S16x256x4x64_0_1_2_3 (broadcastInDim S16x256x4x1 ![0, 1, 2] bcast_S16x256x4_S16x256x4x1_0_1_2
    (Host.reduceAdd e (constant S_ .f32 0x00000000#32) reducesTo_S16x256x4x64_S16x256x4_d3 h_S_)))

/-- The coarser attention. -/
def refWeights (x y : FVec F S2x128x32x32 .f32) (g : IVec S16x256x16 32) : FVec F S16x256x4x64 .f32 := refAtt1 (refScore1 (refGroups1 x) (refSel1 y g))

/-- What the coarser levels leave, by coarse cell. -/
def refMid (x y z : FVec F S2x128x32x32 .f32) (w : FVec F S3 .f32) (c : FVec F S16x256x16 .f32) (g : IVec S16x256x16 32) : FVec F S16x256x4x16 .f32 :=
  addf (broadcastInDim S16x256x4x16 ![0, 1, 2, 3] bcast_S16x256x1x16_S16x256x4x16_0_1_2_3 (mulf (broadcastInDim S16x256x1x16 ![0, 1, 3] bcast_S16x256x16_S16x256x1x16_0_1_3 c)
      (broadcastInDim S16x256x1x16 ![] bcast_S_S16x256x1x16 (shapeCast S_ (extractStridedSlice S1 ![0] (refShare w) slices_S3_S1_0) shapeCasts_S1_S_))))
    (mulf (Host.dotGeneral dot_S16x256x4x64_S16x256x64x16_S16x256x4x16_3_2_2_3_01_01 none (refWeights x y g) (refSel1 z g))
      (broadcastInDim S16x256x4x16 ![] bcast_S_S16x256x4x16 (shapeCast S_ (extractStridedSlice S1 ![1] (refShare w) slices_S3_S1_1) shapeCasts_S1_S_)))

end Cert.ReferenceIdeal

namespace Cert.Proof.Tail

open Idealize.ShloMosaic
open Cert.ReferenceIdeal (refShare refGroups1 refScore1 refAtt1 refWeights refMid refSel1)
open Cert.KernelIdeal (S2x128x32x32 S16x256x4x16 S16x256x16)

theorem refGroups1_apply (x : FVec Ideal S2x128x32x32 .f32) (h : Fin 16) (n : Fin 256) (f : Fin 4) (d : Fin 16) :
    refGroups1 x (ix4 h n f d) = x (tok1 h n f d) := by
  unfold tok1
  pointwise [refGroups1]

theorem refAtt1_apply (q : FVec Ideal ReferenceIdeal.S16x256x4x16 .f32) (k : FVec Ideal ReferenceIdeal.S16x256x64x16 .f32) (h : Fin 16) (n : Fin 256) (f : Fin 4) (x : Fin 64) :
    refAtt1 (refScore1 q k) (ix4 h n f x) = att (fun c => q (ix4 h n f c)) (fun (x : Fin 64) c => k (ix4 h n x c)) x := by
  unfold att score
  pointwise [refAtt1, refScore1]

theorem refMid_read (x y z : FVec Ideal S2x128x32x32 .f32) (w : FVec Ideal ReferenceIdeal.S3 .f32) (c : FVec Ideal S16x256x16 .f32) (g : IVec S16x256x16 32)
    (h : Fin 16) (n : Fin 256) (f : Fin 4) (d : Fin 16) : refMid x y z w c g (ix4 h n f d)
      = c (ix3 h n d) * refShare w (ix1 0) + (∑ u, refWeights x y g (ix4 h n f u) * refSel1 z g (ix4 h n u d)) * refShare w (ix1 1) := by
  pointwise [refMid]

/-- The kernel's keys of a coarse cell are the reference's, and its values. -/
theorem near_eq (y z : FVec Ideal S2x128x32x32 .f32) (g : IVec S16x256x16 32) (hI : G1.InRows (list1 g)) (h : Fin 16) (n : Fin 256) (u : Fin 64) (c : Fin 16) :
    byCell1 (F := Ideal) (G1.gathered (F := Ideal) (table1 (F := Ideal) y z) (list1 g)) (ix4 h n (⟨u.val / 4, by omega⟩ : Fin 16) (⟨u.val % 4 * 16 + c.val, by omega⟩ : Fin 128)) = refSel1 y g (ix4 h n u c)
    ∧ byCell1 (F := Ideal) (G1.gathered (F := Ideal) (table1 (F := Ideal) y z) (list1 g)) (ix4 h n (⟨u.val / 4, by omega⟩ : Fin 16) (⟨64 + (u.val % 4 * 16 + c.val), by omega⟩ : Fin 128)) = refSel1 z g (ix4 h n u c) := by
  have e : list1 g (ix1 (⟨h.val * 4096 + n.val * 16 + u.val / 4, by omega⟩ : Fin 65536)) = g (ix3 h n ⟨u.val / 4, by omega⟩) := by
    rw [list1_apply]
    refine congrArg g ?_
    congr 1 <;> exact Fin.ext (by simp only []; omega)
  have hu : (g (ix3 h n ⟨u.val / 4, by omega⟩)).toNat < 4096 := e ▸ hI _
  constructor
  · rw [byCell1_apply, rows1_apply y z g _ _ ⟨_, hu⟩ (congrArg BitVec.toNat e), dif_pos (by simp only []; omega), refSel1_apply y g h n u c ⟨_, hu⟩ rfl]
  · rw [byCell1_apply, rows1_apply y z g _ _ ⟨_, hu⟩ (congrArg BitVec.toNat e), dif_neg (by simp only []; omega), refSel1_apply z g h n u c ⟨_, hu⟩ rfl]
    exact congrArg (fun q => z (src1 _ q)) (Fin.ext (by simp only []; omega))

/-- What the kernel leaves to the finest level is what the reference does. -/
theorem mid_eq (x y z : FVec Ideal S2x128x32x32 .f32) (w : FVec Ideal ReferenceIdeal.S3 .f32) (c : FVec Ideal S16x256x16 .f32) (g : IVec S16x256x16 32) (hI : G1.InRows (list1 g)) :
    F1.midCar (F := Ideal) (quads1 (F := Ideal) x) (byCell1 (F := Ideal) (G1.gathered (F := Ideal) (table1 (F := Ideal) y z) (list1 g))) c w = refMid x y z w c g := by
  funext j
  obtain ⟨h, n, f, d, rfl⟩ : ∃ (h : Fin 16) (n : Fin 256) (f : Fin 4) (d : Fin 16), j = ix4 h n f d := ⟨j 0, j 1, j 2, j 3, eq_ix4 _⟩
  rw [midCar_apply, refMid_read, refShare_apply, refShare_apply]
  have hq : (fun c : Fin 16 => quads1 (F := Ideal) x (ix4 h n f c)) = fun c => refGroups1 x (ix4 h n f c) :=
    funext fun c => by rw [quads1_apply, refGroups1_apply]
  rw [hq]
  unfold msg
  simp only [fun u c => (near_eq y z g hI h n u c).1, fun u c => (near_eq y z g hI h n u c).2]
  simp only [refWeights, refAtt1_apply]

/-- The attention of a block of the kernel is the reference's. -/
theorem weights_eq (x y z : FVec Ideal S2x128x32x32 .f32) (g : IVec S16x256x16 32) (hI : G1.InRows (list1 g)) (h : Fin 16) (k : Fin 4) (p : Fin 64) (f : Fin 4) (u : Fin 64) :
    KernelIdeal.Gen.k1_pay4 (F := Ideal) (F1.cut4 (F := Ideal) (quads1 (F := Ideal) x) h k) (F1.cut4 (F := Ideal) (byCell1 (F := Ideal) (G1.gathered (F := Ideal) (table1 (F := Ideal) y z) (list1 g))) h k) (ix3 p f u)
      = refWeights x y g (ix4 h ⟨k.val * 64 + p.val, by omega⟩ f u) := by
  unfold refWeights
  rw [k1_pay4_apply, refAtt1_apply]
  have hq : (fun c : Fin 16 => F1.cut4 (F := Ideal) (quads1 (F := Ideal) x) h k (ix4 0 p f c)) = fun c => refGroups1 x (ix4 h ⟨k.val * 64 + p.val, by omega⟩ f c) :=
    funext fun c => by rw [refGroups1_apply]; exact quads1_apply (F := Ideal) x h ⟨k.val * 64 + p.val, by omega⟩ f c
  have hk : (fun (u : Fin 64) (c : Fin 16) => F1.cut4 (F := Ideal) (byCell1 (F := Ideal) (G1.gathered (F := Ideal) (table1 (F := Ideal) y z) (list1 g))) h k (ix4 0 p (⟨u.val / 4, by omega⟩ : Fin 16) (⟨u.val % 4 * 16 + c.val, by omega⟩ : Fin 128)))
      = fun u c => refSel1 y g (ix4 h ⟨k.val * 64 + p.val, by omega⟩ u c) := funext fun u => funext fun c => (near_eq y z g hI h ⟨k.val * 64 + p.val, by omega⟩ u c).1
  rw [hq, hk]

end Cert.Proof.Tail

end
-- ==== Proof.Picks.lean ====
/-
  The kernel's rounds and the reference's sort choose the same candidates: each round takes the first place of the greatest
  weight left and strikes it out with a number below every weight, so its choices are the head of the stable sort.
-/
module

public import proofs.«01_k».proof.Proof.Top
public import proofs.«01_k».proof.Proof.Value1

@[expose] public section

noncomputable section

namespace Cert.Proof.Tail.F1

open Cert.KernelIdeal Cert.KernelIdeal.Gen

open Idealize.ShloMosaic

/-- The number a round strikes out with. -/
def low : Re := FloatOps.ofBits .f32 0xF149F2CA#32

/-- The fold of the greater, from below everything, is the greatest. -/
theorem fold_best {N : ℕ} [NeZero N] (w : Fin N → Re) : Finset.fold max (Ideal.ofBits .f32 4286578688#32) (fun x => w x) Finset.univ = w (best w) := by
  refine le_antisymm ((Finset.fold_max_le _).2 ⟨?_, fun x _ => best_max w x⟩) ((Finset.le_fold_max _).2 (.inr ⟨best w, Finset.mem_univ _, le_rfl⟩))
  simp [Ideal.ofBits, Ideal.ieee]

theorem pick_apply (w : FVec Ideal S64x4x64 .f32) (p : Fin 64) (q : Fin 4) : pick w (ix2 p q) = BitVec.ofNat 32 (best fun u => w (ix3 p q u)).val := by
  refine Eq.trans (b := leastOf (fun x => if w (ix3 p q x) = Finset.fold max (Ideal.ofBits .f32 4286578688#32) (fun x => w (ix3 p q x)) Finset.univ then BitVec.ofNat 32 x.val else 128#32)) ?_ ?_
  · unfold pick
    rw [min_read]
    pointwise
  · rw [fold_best fun u => w (ix3 p q u)]
    exact leastOf_mark 128 (by decide) (by decide) (fun x => w (ix3 p q x) = w (ix3 p q (best fun u => w (ix3 p q u)))) _ rfl
      fun k hk e => absurd (best_first (fun u => w (ix3 p q u)) k e) (not_le.2 hk)

theorem strike_apply (w : FVec Ideal S64x4x64 .f32) (j : IVec S64x4 32) (p : Fin 64) (q : Fin 4) (t : Fin 64) (hj : j (ix2 p q) = BitVec.ofNat 32 t.val) (u : Fin 64) :
    strike w j (ix3 p q u) = struck low (fun u => w (ix3 p q u)) t u := by
  refine Eq.trans (b := Scalar.select (IntOp.cmpi .eq (BitVec.ofNat 32 u.val) (j (ix2 p q))) low (w (ix3 p q u))) ?_ ?_
  · pointwise [strike]
    rfl
  · rw [hj]
    unfold struck Scalar.select IntOp.cmpi
    have e : (BitVec.ofNat 32 u.val = BitVec.ofNat 32 t.val) ↔ u = t := by
      rw [← BitVec.toNat_inj, BitVec.toNat_ofNat, BitVec.toNat_ofNat, Nat.mod_eq_of_lt (by omega), Nat.mod_eq_of_lt (by omega), Fin.ext_iff]
    by_cases h : u = t
    · simp [h]
    · rw [if_neg h, beq_eq_false_iff_ne.2 (mt e.1 h)]
      rfl

theorem left_apply (w : FVec Ideal S64x4x64 .f32) (n : ℕ) (p : Fin 64) (q : Fin 4) (u : Fin 64) :
    left w n (ix3 p q u) = rest low (fun u => w (ix3 p q u)) n u := by
  induction n generalizing u with
  | zero => rfl
  | succ n ih =>
    show strike (left w n) (pick (left w n)) (ix3 p q u) = struck low _ _ u
    have e : (fun u => left w n (ix3 p q u)) = rest low (fun u => w (ix3 p q u)) n := funext ih
    rw [strike_apply (left w n) _ p q _ (pick_apply (left w n) p q) u, e]

/-- The place a round picks. -/
theorem pick_left (w : FVec Ideal S64x4x64 .f32) (n : ℕ) (p : Fin 64) (q : Fin 4) :
    pick (left w n) (ix2 p q) = BitVec.ofNat 32 (nth low (fun u => w (ix3 p q u)) n).val := by
  rw [pick_apply, show (fun u => left w n (ix3 p q u)) = rest low (fun u => w (ix3 p q u)) n from funext fun u => left_apply w n p q u]
  rfl

end Cert.Proof.Tail.F1

namespace Cert.Proof.Tail

open Cert.ReferenceIdeal Cert.ReferenceIdeal.Gen
open Idealize.ShloMosaic

theorem head_apply (y : IVec S16x256x4x64 32) (h : Fin 16) (n : Fin 256) (f : Fin 4) (r : Fin 16) :
    extractStridedSlice S16x256x4x16 (fun _ => 0) y sliceFits_S16x256x4x64_S16x256x4x16 (ix4 h n f r) = y (ix4 h n f (⟨r.val, by omega⟩ : Fin 64)) :=
  congrArg y (funext fun b => Fin.ext (by fin_cases b <;> exact Nat.zero_add _))

theorem places_sorted (B : Re × BitVec 32 → Re × BitVec 32 → BitVec 1) (x : FVec Ideal S16x256x4x64 .f32) (y : IVec S16x256x4x64 32) (j : S16x256x4x64.Idx) :
    (Host.sort2 S16x256x4x64 3 B x y).2 j
      = y (j.along (3 : Fin 4) (sortedFrom (fun k k' : Fin 64 => B (x (j.along (3 : Fin 4) k), y (j.along (3 : Fin 4) k)) (x (j.along (3 : Fin 4) k'), y (j.along (3 : Fin 4) k')) == 1#1) (j (3 : Fin 4)))) := rfl

/-- The reference's choice, read. -/
theorem topK_apply (x : FVec Ideal S16x256x4x64 .f32) (h : Fin 16) (n : Fin 256) (f : Fin 4) (r : Fin 16) (hx : ∀ u, F1.low < x (ix4 h n f u)) :
    (Host.topK S16x256x4x16 3 (FloatOps.cmpfTotal .gt) x sliceFits_S16x256x4x64_S16x256x4x16).2 (ix4 h n f r)
      = BitVec.ofNat 32 (nth F1.low (fun u => x (ix4 h n f u)) r.val).val := by
  rw [← sortedFrom_eq_nth (N := 64) (a := fun u => x (ix4 h n f u)) hx (by decide) r.val r.isLt]
  have hal : ∀ k : Fin 64, Shape.Idx.along (s := S16x256x4x64) (ix4 h n f (⟨r.val, by omega⟩ : Fin 64)) (3 : Fin 4) k = ix4 h n f k := fun k => by
    funext b; apply Fin.ext; fin_cases b <;> rfl
  have hs : (fun k k' : Fin 64 => (FloatOps.cmpfTotal (F := Ideal) (φ := .f32) .gt (x (ix4 h n f k)) (x (ix4 h n f k')) == 1#1)) = fun k k' => decide (x (ix4 h n f k') < x (ix4 h n f k)) := by
    funext k k'
    show (BitVec.ofBool (decide (x (ix4 h n f k') < x (ix4 h n f k))) == 1#1) = _
    cases decide (x (ix4 h n f k') < x (ix4 h n f k)) <;> rfl
  rw [← hs]
  unfold Host.topK; dsimp only
  refine Eq.trans (head_apply _ h n f r) ?_
  refine Eq.trans (places_sorted _ x _ _) ?_
  have hk : ∀ k : Fin 64, (fun i : S16x256x4x64.Idx => if hd : 3 < S16x256x4x64.rank then iotaInDim S16x256x4x64 32 ⟨3, hd⟩ i else 0#32)
      (Shape.Idx.along (s := S16x256x4x64) (ix4 h n f (⟨r.val, by omega⟩ : Fin 64)) (3 : Fin 4) k) = BitVec.ofNat 32 k.val := fun k => by rw [hal]; rfl
  refine (hk _).trans (congrArg (fun k : Fin 64 => BitVec.ofNat 32 k.val) ?_)
  refine congrArg (fun B : Fin 64 → Fin 64 → Bool => sortedFrom B (⟨r.val, by omega⟩ : Fin 64)) (funext fun k => funext fun k' => ?_)
  show (FloatOps.cmpfTotal (F := Ideal) (φ := .f32) .gt (x _) (x _) == 1#1) = _
  rw [hal, hal]

end Cert.Proof.Tail

end
-- ==== Proof.Cells.lean ====
/-
  The cells the reference keeps of the second finest level, and that they are the rows the kernel lists for the finest one.
-/
module

public import proofs.«01_k».proof.Proof.Picks

@[expose] public section

noncomputable section

namespace Cert.ReferenceIdeal

open Cert.ReferenceIdeal.Gen
open Idealize.ShloMosaic

variable {F : FTy → Type} [FloatOps F]

/-- The indices of the sixteen greatest, … -/
def refBest (a : FVec F S16x256x4x64 .f32) : IVec S16x256x4x16 32 :=
  (Host.topK S16x256x4x16 3 (FloatOps.cmpfTotal .gt) a sliceFits_S16x256x4x64_S16x256x4x16).2

/-- … counted from the front, … -/
def refFront (i : IVec S16x256x4x16 32) : IVec S16x256x4x16x1 32 :=
  shapeCast _ (select (cmpi .slt i (broadcastInDim S16x256x4x16 ![] bcast_S_S16x256x4x16 (constantI S_ 32 0#32)))
    (addi i (broadcastInDim S16x256x4x16 ![] bcast_S_S16x256x4x16 (constantI S_ 32 64#32))) i) shapeCasts_S16x256x4x16_S16x256x4x16x1

/-- … whether they are in range, … -/
def refWithin (i : IVec S16x256x4x16x1 32) : IVec S16x256x4x16 1 :=
  Host.reduce IntOp.andi (andi (cmpi .sge i (broadcastInDim S16x256x4x16x1 ![] bcast_S_S16x256x4x16x1 (constantI S_ 32 0#32)))
    (cmpi .sle i (broadcastInDim S16x256x4x16x1 ![0, 1, 2, 3, 4] bcast_S1x1x1x1x1_S16x256x4x16x1_0_1_2_3_4
      (broadcastInDim S1x1x1x1x1 ![4] bcast_S1_S1x1x1x1x1_4 (constantI S1 32 63#32))))) (constantI S_ 1 1#1) reducesTo_S16x256x4x16x1_S16x256x4x16_d4 h_S_

/-- … and the candidates at them. -/
def refTaken (c : IVec S16x256x64 32) (i : IVec S16x256x4x16x1 32) : IVec S16x256x4x16 32 :=
  Host.gather gather_S16x256x4x64_S16x256x4x16x1_S16x256x4x16_n_3_012_012_3_4_1111
    (broadcastInDim S16x256x4x64 ![0, 1, 2, 3] bcast_S16x256x1x64_S16x256x4x64_0_1_2_3 (broadcastInDim S16x256x1x64 ![0, 1, 3] bcast_S16x256x64_S16x256x1x64_0_1_3 c)) i

/-- The candidates of a cell the reference keeps. -/
def refKept (c : IVec S16x256x64 32) (i : IVec S16x256x4x16 32) : IVec S16x256x4x16 32 :=
  select (refWithin (refFront i)) (refTaken c (refFront i)) (broadcastInDim S16x256x4x16 ![] bcast_S_S16x256x4x16 (constantI S_ 32 2147483648#32))

/-- Those cells, from the arguments. -/
def refCells (x y : FVec F S2x128x32x32 .f32) (g : IVec S16x256x16 32) : IVec S16x256x4x16 32 := refKept (refNear g) (refBest (refWeights x y g))

/-- The place a result index reads. -/
theorem taken_apply (x : IVec S16x256x4x64 32) (i : IVec S16x256x4x16x1 32) (h : Fin 16) (n : Fin 256) (f : Fin 4) (r : Fin 16) :
    Host.gather gather_S16x256x4x64_S16x256x4x16x1_S16x256x4x16_n_3_012_012_3_4_1111 x i (ix4 h n f r)
      = x (ix4 h n f ⟨min (i (ix5 h n f r (0 : Fin 1))).toInt.toNat 63, by omega⟩) := by
  unfold Host.gather
  refine congrArg x (funext fun a => Fin.ext ?_)
  show GatherDims.start gather_S16x256x4x64_S16x256x4x16x1_S16x256x4x16_n_3_012_012_3_4_1111 (ix4 h n f r) i a
    + GatherDims.batchCoord gather_S16x256x4x64_S16x256x4x16x1_S16x256x4x16_n_3_012_012_3_4_1111 (ix4 h n f r) a
    + GatherDims.offCoord gather_S16x256x4x64_S16x256x4x16x1_S16x256x4x16_n_3_012_012_3_4_1111 (ix4 h n f r) a = _
  have hb : ∀ a : Fin 4, a ∈ ([0, 1, 2] : List (Fin 4)) →
      GatherDims.start gather_S16x256x4x64_S16x256x4x16x1_S16x256x4x16_n_3_012_012_3_4_1111 (ix4 h n f r) i a = 0
      ∧ GatherDims.offCoord gather_S16x256x4x64_S16x256x4x16x1_S16x256x4x16_n_3_012_012_3_4_1111 (ix4 h n f r) a = 0 := fun a ha =>
    ⟨GatherDims.start_batching _ _ _ _ ha, GatherDims.offCoord_eq_zero _ _ _ fun hk => ((GatherDims.mem_sKept _ _).1 hk).2 ha⟩
  have hc : a = (0 : Fin 4) ∨ a = (1 : Fin 4) ∨ a = (2 : Fin 4) ∨ a = (3 : Fin 4) := by
    match a with
    | ⟨0, _⟩ => exact .inl rfl
    | ⟨1, _⟩ => exact .inr (.inl rfl)
    | ⟨2, _⟩ => exact .inr (.inr (.inl rfl))
    | ⟨3, _⟩ => exact .inr (.inr (.inr rfl))
  rcases hc with rfl | rfl | rfl | rfl
  · rw [(hb 0 (by decide)).1, (hb 0 (by decide)).2, Nat.zero_add, Nat.add_zero]
    unfold GatherDims.batchCoord
    rw [dif_pos (by decide)]
    rfl
  · rw [(hb 1 (by decide)).1, (hb 1 (by decide)).2, Nat.zero_add, Nat.add_zero]
    unfold GatherDims.batchCoord
    rw [dif_pos (by decide)]
    rfl
  · rw [(hb 2 (by decide)).1, (hb 2 (by decide)).2, Nat.zero_add, Nat.add_zero]
    unfold GatherDims.batchCoord
    rw [dif_pos (by decide)]
    rfl
  · rw [GatherDims.batchCoord_eq_zero _ _ _ (by decide), GatherDims.offCoord_eq_zero _ _ _ fun hk => ((GatherDims.mem_sKept _ _).1 hk).1 (by decide)]
    have hs : GatherDims.siIdx gather_S16x256x4x64_S16x256x4x16x1_S16x256x4x16_n_3_012_012_3_4_1111 (ix4 h n f r) ⟨0, by decide⟩ = ix5 h n f r (0 : Fin 1) := by
      funext b; refine Fin.ext ?_
      match b with
      | ⟨0, _⟩ => rfl
      | ⟨1, _⟩ => rfl
      | ⟨2, _⟩ => rfl
      | ⟨3, _⟩ => rfl
      | ⟨4, _⟩ => rfl
    unfold GatherDims.start
    rw [dif_pos (by decide)]
    show min (i (GatherDims.siIdx gather_S16x256x4x64_S16x256x4x16x1_S16x256x4x16_n_3_012_012_3_4_1111 (ix4 h n f r) ⟨0, _⟩)).toInt.toNat 63 + 0 + 0 = _
    rw [hs]
    rfl

theorem front_word : ∀ j : Fin 64, Scalar.select (IntOp.cmpi .slt (BitVec.ofNat 32 j.val) 0#32) (IntOp.addi (BitVec.ofNat 32 j.val) 64#32) (BitVec.ofNat 32 j.val) = BitVec.ofNat 32 j.val := by
  decide +kernel
theorem within_word : ∀ j : Fin 64, IntOp.andi (IntOp.cmpi .sge (BitVec.ofNat 32 j.val) 0#32) (IntOp.cmpi .sle (BitVec.ofNat 32 j.val) 63#32) = 1#1 := by decide +kernel
theorem clamp_word : ∀ j : Fin 64, min (BitVec.ofNat 32 j.val).toInt.toNat 63 = j.val := by decide +kernel

theorem refFront_apply (i : IVec S16x256x4x16 32) (h : Fin 16) (n : Fin 256) (f : Fin 4) (r : Fin 16) (j : Fin 64) (hj : i (ix4 h n f r) = BitVec.ofNat 32 j.val) :
    refFront i (ix5 h n f r (0 : Fin 1)) = BitVec.ofNat 32 j.val := by
  refine Eq.trans (b := Scalar.select (IntOp.cmpi .slt (i (ix4 h n f r)) 0#32) (IntOp.addi (i (ix4 h n f r)) 64#32) (i (ix4 h n f r))) ?_ ?_
  · pointwise [refFront]
  · rw [hj, front_word]

theorem refWithin_apply (i : IVec S16x256x4x16x1 32) (h : Fin 16) (n : Fin 256) (f : Fin 4) (r : Fin 16) (j : Fin 64) (hj : i (ix5 h n f r (0 : Fin 1)) = BitVec.ofNat 32 j.val) :
    refWithin i (ix4 h n f r) = 1#1 := by
  refine Eq.trans (b := Finset.fold IntOp.andi 1#1 (fun u : Fin 1 => IntOp.andi (IntOp.cmpi .sge (i (ix5 h n f r u)) 0#32) (IntOp.cmpi .sle (i (ix5 h n f r u)) 63#32)) Finset.univ) ?_ ?_
  · pointwise [refWithin]
  · rw [Finset.univ_unique, Finset.fold_singleton]
    show IntOp.andi (IntOp.andi (IntOp.cmpi .sge (i (ix5 h n f r (0 : Fin 1))) 0#32) (IntOp.cmpi .sle (i (ix5 h n f r (0 : Fin 1))) 63#32)) 1#1 = 1#1
    rw [hj, within_word]
    rfl

theorem spread_apply (c : IVec S16x256x64 32) (h : Fin 16) (n : Fin 256) (f : Fin 4) (u : Fin 64) :
    broadcastInDim S16x256x4x64 ![0, 1, 2, 3] bcast_S16x256x1x64_S16x256x4x64_0_1_2_3 (broadcastInDim S16x256x1x64 ![0, 1, 3] bcast_S16x256x64_S16x256x1x64_0_1_3 c) (ix4 h n f u)
      = c (ix3 h n u) := by
  pointwise

theorem refTaken_apply (c : IVec S16x256x64 32) (i : IVec S16x256x4x16x1 32) (h : Fin 16) (n : Fin 256) (f : Fin 4) (r : Fin 16) (j : Fin 64)
    (hj : i (ix5 h n f r (0 : Fin 1)) = BitVec.ofNat 32 j.val) : refTaken c i (ix4 h n f r) = c (ix3 h n j) := by
  unfold refTaken
  rw [taken_apply, show (⟨min (i (ix5 h n f r (0 : Fin 1))).toInt.toNat 63, by omega⟩ : Fin 64) = j from Fin.ext (by simp only [hj, clamp_word])]
  exact spread_apply c h n f j

/-- A candidate kept, read. -/
theorem refKept_apply (c : IVec S16x256x64 32) (i : IVec S16x256x4x16 32) (h : Fin 16) (n : Fin 256) (f : Fin 4) (r : Fin 16) (j : Fin 64)
    (hj : i (ix4 h n f r) = BitVec.ofNat 32 j.val) : refKept c i (ix4 h n f r) = c (ix3 h n j) := by
  have e := refFront_apply i h n f r j hj
  unfold refKept
  simp only [Idealize.ShloMosaic.select]
  rw [refWithin_apply _ h n f r j e, refTaken_apply _ _ h n f r j e]
  unfold Scalar.select
  exact if_pos rfl

end Cert.ReferenceIdeal

namespace Cert.Proof.Tail

open Idealize.ShloMosaic
open Cert.ReferenceIdeal (refNear refWeights refCells)
open Cert.KernelIdeal (S2x128x32x32 S16x256x4x16 S16x256x16)

/-- A row listed for the finest level is the first token of the candidate's quadrant. -/
theorem near_toNat (g : IVec S16x256x16 32) (hg : InLocal g) (h : Fin 16) (n : Fin 256) (j : Fin 64) :
    (refNear g (ix3 h n j)).toNat
      = F1.rowN h.val (IntOp.subi (g (ix3 h n ⟨j.val / 4, by omega⟩)) (IntOp.muli (BitVec.ofNat 32 h.val) 256#32)).toNat (j.val % 4) := by
  have h1 := toNat_of_local h.isLt (hg h n ⟨j.val / 4, by omega⟩)
  have h2 := hg h n ⟨j.val / 4, by omega⟩
  generalize (IntOp.subi (g (ix3 h n ⟨j.val / 4, by omega⟩)) (IntOp.muli (BitVec.ofNat 32 h.val) 256#32)).toNat = P at h1 h2 ⊢
  rw [refNear_apply]
  have h3 := firstWord1_toNat (v := g (ix3 h n ⟨j.val / 4, by omega⟩)) (by omega)
  have h4 := lit0_toNat ⟨j.val % 4, by omega⟩
  simp only [IntOp.addi, BitVec.toNat_add, h3, h4, h1]
  unfold F1.rowN
  omega

/-- The kernel lists the cells the reference keeps, where no weight is as low as the number a choice is struck out with. -/
theorem rows_eq (x y z : FVec Ideal S2x128x32x32 .f32) (g : IVec S16x256x16 32) (hg : InLocal g) (hlow : ∀ h n f u, F1.low < refWeights x y g (ix4 h n f u)) :
    F1.midRow (F := Ideal) (quads1 (F := Ideal) x) (byCell1 (F := Ideal) (G1.gathered (F := Ideal) (table1 (F := Ideal) y z) (list1 g))) g = refCells x y g := by
  funext j
  obtain ⟨h, n, f, s, rfl⟩ : ∃ (h : Fin 16) (n : Fin 256) (f : Fin 4) (s : Fin 16), j = ix4 h n f s := ⟨j 0, j 1, j 2, j 3, eq_ix4 _⟩
  have hI := inRows1 hg
  obtain ⟨k, p, rfl⟩ : ∃ (k : Fin 4) (p : Fin 64), n = ⟨k.val * 64 + p.val, by omega⟩ :=
    ⟨⟨n.val / 64, by omega⟩, ⟨n.val % 64, by omega⟩, Fin.ext (by simp only []; omega)⟩
  rw [F1.midRow_block]
  unfold F1.chosenOf F1.chosen
  rw [F1.columns_apply]
  have ew : (fun u => KernelIdeal.Gen.k1_pay4 (F := Ideal) (F1.cut4 (F := Ideal) (quads1 (F := Ideal) x) h k)
      (F1.cut4 (F := Ideal) (byCell1 (F := Ideal) (G1.gathered (F := Ideal) (table1 (F := Ideal) y z) (list1 g))) h k) (ix3 p f u))
      = fun u => refWeights x y g (ix4 h ⟨k.val * 64 + p.val, by omega⟩ f u) := funext fun u => weights_eq x y z g hI h k p f u
  have ej := F1.pick_left (KernelIdeal.Gen.k1_pay4 (F := Ideal) (F1.cut4 (F := Ideal) (quads1 (F := Ideal) x) h k)
      (F1.cut4 (F := Ideal) (byCell1 (F := Ideal) (G1.gathered (F := Ideal) (table1 (F := Ideal) y z) (list1 g))) h k)) s.val p f
  rw [ew] at ej
  have er : ReferenceIdeal.refBest (refWeights x y g) (ix4 h ⟨k.val * 64 + p.val, by omega⟩ f s) = _ :=
    topK_apply (refWeights x y g) h ⟨k.val * 64 + p.val, by omega⟩ f s (fun u => hlow h _ f u)
  unfold refCells
  rw [ReferenceIdeal.refKept_apply _ _ h _ f s _ er]
  generalize nth F1.low (fun u => refWeights x y g (ix4 h ⟨k.val * 64 + p.val, by omega⟩ f u)) s.val = t at ej
  have et : (BitVec.ofNat 32 t.val).toNat = t.val := by rw [BitVec.toNat_ofNat]; omega
  have hl : ∀ r : Fin 16, KernelIdeal.Gen.k1_pay13 (F := Ideal) (BitVec.ofNat 32 h.val) (F1.cut3 (F := Ideal) g h k) (ix2 p r)
      = IntOp.subi (g (ix3 h ⟨k.val * 64 + p.val, by omega⟩ r)) (IntOp.muli (BitVec.ofNat 32 h.val) 256#32) := fun r => F1.locals_apply _ _ p r
  apply BitVec.eq_of_toNat_eq
  rw [F1.choice_toNat h.val h.isLt _ _ p f (fun r => by rw [hl]; exact hg h _ r) (F1.pick_le _ p f), ej, et, near_toNat g hg]
  unfold F1.parentW
  rw [dif_pos (by omega)]
  exact congrArg (fun v : BitVec 32 => F1.rowN h.val v.toNat (t.val % 4)) (hl _)

end Cert.Proof.Tail

end
-- ==== Proof.Finite.lean ====
/-
  With finite queries and keys the attention is positive, so above the number a choice is struck out with.
-/
module

public import proofs.«01_k».proof.Proof.Cells

@[expose] public section

noncomputable section

namespace Cert.Proof.Tail

open Idealize.ShloMosaic
open Cert.ReferenceIdeal (refSel1 refGroups1 refWeights)
open Cert.KernelIdeal (S2x128x32x32 S16x256x16)

/-- A real number. -/
def IsReal (x : Re) : Prop := ∃ r : ℝ, x = ((r : EReal) : Re)
/-- A positive one. -/
def IsPos (x : Re) : Prop := ∃ r : ℝ, 0 < r ∧ x = ((r : EReal) : Re)

theorem IsReal.add {x y : Re} : IsReal x → IsReal y → IsReal (x + y) := fun ⟨a, ha⟩ ⟨b, hb⟩ => ⟨a + b, by rw [ha, hb]; exact (EReal.coe_add a b).symm⟩
theorem IsReal.sub {x y : Re} : IsReal x → IsReal y → IsReal (x - y) := fun ⟨a, ha⟩ ⟨b, hb⟩ => ⟨a - b, by rw [ha, hb]; exact (EReal.coe_sub a b).symm⟩
theorem IsReal.mul {x y : Re} : IsReal x → IsReal y → IsReal (x * y) := fun ⟨a, ha⟩ ⟨b, hb⟩ => ⟨a * b, by rw [ha, hb]; exact (EReal.coe_mul a b).symm⟩
theorem IsReal.sum {n : ℕ} {f : Fin n → Re} (h : ∀ i, IsReal (f i)) : IsReal (∑ i, f i) :=
  Finset.sum_induction f IsReal (fun _ _ => IsReal.add) ⟨0, rfl⟩ fun i _ => h i
theorem IsPos.add {x y : Re} : IsPos x → IsPos y → IsPos (x + y) := fun ⟨a, pa, ha⟩ ⟨b, pb, hb⟩ =>
  ⟨a + b, add_pos pa pb, by rw [ha, hb]; exact (EReal.coe_add a b).symm⟩
theorem IsPos.sum {N : ℕ} [NeZero N] {f : Fin N → Re} (h : ∀ i, IsPos (f i)) : IsPos (∑ i, f i) :=
  Finset.sum_induction_nonempty f IsPos (fun _ _ => IsPos.add) ⟨0, Finset.mem_univ _⟩ fun i _ => h i
theorem IsReal.exp {x : Re} : IsReal x → IsPos (Ideal.exp x) := fun ⟨a, ha⟩ => ⟨Real.exp a, Real.exp_pos a, by rw [ha]; rfl⟩
theorem IsPos.div {x y : Re} : IsPos x → IsPos y → IsPos (Ideal.div x y) := fun ⟨a, pa, ha⟩ ⟨b, pb, hb⟩ => ⟨a * b⁻¹, mul_pos pa (inv_pos.2 pb), by
  have hn : ¬ ((b : EReal) = 0) := fun e => pb.ne' (EReal.coe_eq_zero.1 e)
  rw [ha, hb]
  unfold Ideal.div
  rw [if_neg hn, ← EReal.coe_inv, ← EReal.coe_mul]⟩

theorem low_neg : F1.low < 0 := by
  unfold F1.low
  simp [Ideal.ofBits_def, Ideal.ofBits, Ideal.ieee]
  rw [← EReal.coe_pow, ← EReal.coe_mul]
  exact EReal.coe_pos.2 (by norm_num)

theorem score_real {N : ℕ} {q : Fin 16 → Re} {k : Fin N → Fin 16 → Re} (hq : ∀ c, IsReal (q c)) (hk : ∀ u c, IsReal (k u c)) (u : Fin N) : IsReal (score q k u) := by
  unfold score
  refine (IsReal.sum fun c => (hq c).mul (hk u c)).mul ⟨1 / 4, ?_⟩
  simp [Ideal.ofBits, Ideal.ieee]
  rw [← EReal.coe_mul]
  norm_num

theorem att_above {N : ℕ} [NeZero N] {q : Fin 16 → Re} {k : Fin N → Fin 16 → Re} (hq : ∀ c, IsReal (q c)) (hk : ∀ u c, IsReal (k u c)) (u : Fin N) : F1.low < att q k u := by
  have hs := score_real hq hk
  have he : ∀ u, IsPos (Ideal.exp (score q k u - Finset.fold max (Ideal.ofBits .f32 4286578688#32) (score q k) Finset.univ)) := fun u => by
    rw [F1.fold_best (score q k)]
    exact ((hs u).sub (hs _)).exp
  obtain ⟨r, pr, hr⟩ := (he u).div (IsPos.sum he)
  unfold att
  rw [hr]
  exact low_neg.trans (EReal.coe_pos.2 pr)

/-- The reference's weights are above it. -/
theorem weights_above (x y : FVec Ideal S2x128x32x32 .f32) (g : IVec S16x256x16 32) (hg : InLocal g) (hx : ∀ i, IsReal (x i)) (hy : ∀ i, IsReal (y i))
    (h : Fin 16) (n : Fin 256) (f : Fin 4) (u : Fin 64) : F1.low < refWeights x y g (ix4 h n f u) := by
  unfold refWeights
  rw [refAtt1_apply]
  refine att_above (fun c => ?_) (fun u c => ?_) u
  · rw [refGroups1_apply]
    exact hx _
  · have hI := inRows1 hg (ix1 (⟨h.val * 4096 + n.val * 16 + u.val / 4, by omega⟩ : Fin 65536))
    have e : list1 g (ix1 (⟨h.val * 4096 + n.val * 16 + u.val / 4, by omega⟩ : Fin 65536)) = g (ix3 h n ⟨u.val / 4, by omega⟩) := by
      rw [list1_apply]
      refine congrArg g ?_
      congr 1 <;> exact Fin.ext (by simp only []; omega)
    rw [e] at hI
    rw [refSel1_apply y g h n u c ⟨_, hI⟩ rfl]
    exact hy _

end Cert.Proof.Tail

end
-- ==== Proof.Res.lean ====
/- What the reference returns, from its arguments. -/
module

public import proofs.«01_k».proof.Proof.Finite

@[expose] public section

noncomputable section

namespace Cert.ReferenceIdeal

open Cert.ReferenceIdeal.Gen
open Idealize.ShloMosaic Idealize.SL.Sem

variable {F : FTy → Type} [FloatOps F]

theorem front_eq (V : Valuation τ sig (Elt F)) : Value.res_main_call2_v5 V
    = refFront (refBest (refWeights (V (Proc.devRef .tc main_arg1)) (V (Proc.devRef .tc main_arg3)) (V (Proc.devRef .tc main_arg8)))) := rfl

theorem list_eq (V : Valuation τ sig (Elt F)) : Value.res_main_v76 V
    = refList (refCells (V (Proc.devRef .tc main_arg1)) (V (Proc.devRef .tc main_arg3)) (V (Proc.devRef .tc main_arg8))) := rfl

theorem run_result (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v138) = refTokens (refLevel (m ((c.tc : Thread nD τ).loc main_arg0)) (m ((c.tc : Thread nD τ).loc main_arg2)) (m ((c.tc : Thread nD τ).loc main_arg4))
          (m ((c.tc : Thread nD τ).loc main_arg6))
          (refMid (m ((c.tc : Thread nD τ).loc main_arg1)) (m ((c.tc : Thread nD τ).loc main_arg3)) (m ((c.tc : Thread nD τ).loc main_arg5)) (m ((c.tc : Thread nD τ).loc main_arg6))
            (m ((c.tc : Thread nD τ).loc main_arg7)) (m ((c.tc : Thread nD τ).loc main_arg8)))
          (refCells (m ((c.tc : Thread nD τ).loc main_arg1)) (m ((c.tc : Thread nD τ).loc main_arg3)) (m ((c.tc : Thread nD τ).loc main_arg8))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨(h c).1.trans (by rfl), (h c).2⟩) (Value.run m ρ)

end Cert.ReferenceIdeal

end
-- ==== Proof.Same.lean ====
/- The kernel and its idealization are one text: the same bodies, the same host code. A run of the one is a run of the other. -/
module

public import proofs.«01_k».proof.Defs
public import proofs.«01_k».proof.Proof.Gen.Kernel
public import proofs.«01_k».proof.Proof.Gen.KernelIdeal

@[expose] public section

noncomputable section

namespace Cert.Proof

open Idealize.ShloMosaic Idealize.SL.Sem

attribute [local instance] Cert.Kernel.Gen.facts Cert.KernelIdeal.Gen.facts

set_option maxHeartbeats 4000000 in
theorem bodies_eq : Cert.Kernel.defs₀ (F := Bits) = Cert.KernelIdeal.defs₀ (F := Bits) := by
  funext p l a
  match p, l, a with
  | .scVector c s, 0, _ => rfl
  | .scVector c s, 1, _ => rfl
  | .scVector c s, 2, _ => rfl
  | .scVector c s, 3, _ => rfl
  | .scScalar c, 0, _ => rfl
  | .scScalar c, 1, _ => rfl
  | .scScalar c, 2, _ => rfl
  | .scScalar c, 3, _ => rfl
  | .tc, 0, _ => rfl
  | .tc, 1, (t, s) => rfl
  | .tc, 2, _ => rfl
  | .tc, 3, (t, s) => rfl

set_option maxHeartbeats 4000000 in
theorem defs_eq : Cert.Kernel.defs (F := Bits) = Cert.KernelIdeal.defs (F := Bits) :=
  congrArg (fun x => Cert.KernelIdeal.sc.defs (Pipeline.defs Cert.KernelIdeal.pcfgs x)) bodies_eq

set_option maxHeartbeats 20000000 in
theorem main_eq : Cert.Kernel.main (F := Bits) = Cert.KernelIdeal.main (F := Bits) := by
  funext d
  unfold Cert.Kernel.main Cert.KernelIdeal.main
  repeat (refine congrArg₂ Bind.bind (by rfl) (funext fun _ => ?_))
  rfl

set_option maxHeartbeats 4000000 in
theorem threads_eq : Cert.Kernel.threads (F := Bits) = Cert.KernelIdeal.threads (F := Bits) :=
  congrArg (fun x => Cert.KernelIdeal.sc.threads x) main_eq

set_option maxHeartbeats 4000000 in
/-- What holds after every run of the idealization's text on words holds after every run of the kernel. -/
theorem run_same (m : (ℓ : Loc Cert.KernelIdeal.nD Cert.KernelIdeal.τ Cert.KernelIdeal.sig) → Buf (Elt Bits) ℓ) (ρ : Dev Cert.KernelIdeal.nD → PrngReg)
    (Q : _) (h : θ_run (Cert.KernelIdeal.defs (F := Bits)) (Cert.KernelIdeal.threads (F := Bits)) ⟨m, fun _ => 0, ρ⟩ Q) :
    θ_run (Cert.Kernel.defs (F := Bits)) (Cert.Kernel.threads (F := Bits)) ⟨m, fun _ => 0, ρ⟩ Q :=
  cast (congrArg₂ (fun D T => θ_run D T ⟨m, fun _ => 0, ρ⟩ Q) defs_eq threads_eq).symm h

end Cert.Proof

end
-- ==== Proof.CoarseRound.lean ====
/-
  The coarse level's kernel body in closed form: one message block, and sixteen columns of cells, each the first position of
  the greatest weight left and its strike. The body's text repeats the round sixteen times.
-/
module

public import proofs.«01_k».proof.Proof.Gen.CoarseIdeal
public import proofs.«01_k».proof.Proof.Gen.CoarseIdeal.Value

@[expose] public section

noncomputable section

namespace Cert.Proof.Coarse

open Cert.CoarseIdeal Cert.CoarseIdeal.Gen

open Idealize.ShloMosaic

variable {F : FTy → Type} [FloatOps F]

/-- The positions along the candidates. -/
abbrev places : IVec S256x256 32 := iota .tc S256x256 32 [1] iota_S256x256_d1_w32

/-- The first position of the greatest weight left. -/
def pick (w : FVec F S256x256 .f32) : IVec S256 32 :=
  multiReductionI .minsi [1] S256
    (select (cmpf .oeq w (broadcastTo S256x256 (shapeCast S256x1 (multiReduction .maximumf [1] S256 w 0xFF800000#32 reduces_S256x256_S256 (.inl rfl) rfl)
        shapeCasts_S256_S256x1) broadcasts_S256x1_S256x256)) places (broadcast S256x256 512#32))
    2147483647#32 reduces_S256x256_S256 rfl

/-- The weights with a position struck out. -/
def strike (w : FVec F S256x256 .f32) (j : IVec S256 32) : FVec F S256x256 .f32 :=
  select (cmpi .eq places (broadcastTo S256x256 (shapeCast S256x1 j shapeCasts_S256_S256x1) broadcasts_S256x1_S256x256))
    (broadcast S256x256 (Scalar.ofBits .f32 0xF149F2CA#32)) w

/-- The weights left after `n` rounds. -/
def left (w : FVec F S256x256 .f32) : ℕ → FVec F S256x256 .f32
  | 0 => w
  | n + 1 => strike (left w n) (pick (left w n))

/-- The cell round `n` writes, in the head's part of the cells. -/
def chosen (b : BitVec 32) (w : FVec F S256x256 .f32) (n : ℕ) : IVec S256 32 := addi (pick (left w n)) (broadcast S256 (Scalar.muli b 256#32))

/-- The sixteen columns side by side. -/
def columns (f : ℕ → IVec S256 32) : IVec S1x256x16 32 :=
  k0_pay1 (f 4) (f 5) (f 6) (f 7) (f 8) (f 9) (f 10) (f 11) (f 12) (f 13) (f 14) (f 15) (k0_pay54 (f 0)) (k0_pay55 (f 1)) (k0_pay56 (f 2)) (k0_pay57 (f 3))

theorem message_eq (i : grid0.Coords) (x0 x1 x2 : Vec F S1x256x16 .f32) : out0_3 i x0 x1 x2 = k0_pay3 x0 x1 x2 := by
  have z3 : (![0, 0, 0] : Fin 3 → Nat) = fun _ => 0 := by decide
  unfold out0_3
  rw [View.canon_unit_zero z3, View.ld_unit_zero (S := S1x256x16) z3, View.ld_unit_zero (S := S1x256x16) z3, View.ld_unit_zero (S := S1x256x16) z3]

set_option maxRecDepth 65536 in
theorem cells_run (i : grid0.Coords) (x0 x1 x2 : Vec F S1x256x16 .f32) : out0_4 i x0 x1 x2
    = View.canon [⟨r0_0, columns (chosen (BitVec.ofNat 32 (i 0).val) (k0_pay2 (View.ld x0 r0_0) (View.ld x1 r0_0)))⟩] := rfl

theorem cells_eq (i : grid0.Coords) (x0 x1 x2 : Vec F S1x256x16 .f32) : out0_4 i x0 x1 x2
    = columns (chosen (BitVec.ofNat 32 (i 0).val) (k0_pay2 x0 x1)) := by
  have z3 : (![0, 0, 0] : Fin 3 → Nat) = fun _ => 0 := by decide
  rw [cells_run, View.canon_unit_zero z3, View.ld_unit_zero (S := S1x256x16) z3, View.ld_unit_zero (S := S1x256x16) z3]

end Cert.Proof.Coarse

end
-- ==== Proof.CoarseValue.lean ====
/-
  The coarse level's two arrays after the run, from its queries, keys and values by head and cell, and those off the
  images.
-/
module

public import proofs.«01_k».proof.Proof.CoarseRound
public import proofs.«01_k».proof.Proof.Attend
public import Idealize.ShloMosaic.Lib.Pipeline.Covers
public import Idealize.ShloMosaic.Lib.Pointwise
public import Idealize.ShloMosaic.Lib.StableHlo.Run

@[expose] public section

noncomputable section

namespace Cert.Proof.Coarse

open Cert.CoarseIdeal Cert.CoarseIdeal.Gen

open Idealize.ShloMosaic Idealize.ShloMosaic.TcCoe
open Tail (Re att score msg)

/-! ## A head's block -/

/-- One head of an array. -/
def cut {α : Type} (x : S16x256x16.Idx → α) (h : Fin 16) : S1x256x16.Idx → α := fun j => x (ix3 h (j 1) (j 2))

theorem cut_apply {α : Type} (x : S16x256x16.Idx → α) (h : Fin 16) (n : Fin 256) (d : Fin 16) : cut x h (ix3 0 n d) = x (ix3 h n d) := rfl

theorem weights_apply (x0 x1 : Vec Ideal S1x256x16 .f32) (n u : Fin 256) :
    k0_pay2 x0 x1 (ix2 n u) = att (fun c => x0 (ix3 0 n c)) (fun (u : Fin 256) c => x1 (ix3 0 u c)) u := by
  unfold att score
  pointwise [k0_pay2]

theorem message_apply (x0 x1 x2 : Vec Ideal S1x256x16 .f32) (n : Fin 256) (d : Fin 16) :
    k0_pay3 x0 x1 x2 (ix3 0 n d) = msg (fun c => x0 (ix3 0 n c)) (fun (u : Fin 256) c => x1 (ix3 0 u c)) (fun (u : Fin 256) c => x2 (ix3 0 u c)) d := by
  unfold msg
  simp only [← weights_apply]
  pointwise [k0_pay3]

theorem columns_apply (f : ℕ → IVec S256 32) (n : Fin 256) (r : Fin 16) : columns f (ix3 0 n r) = f r.val (ix1 n) := by
  pointwise [columns, k0_pay1, k0_pay54, k0_pay55, k0_pay56, k0_pay57]
  fin_cases r <;> rfl

/-! ## The arrays -/

/-- The head of a point. -/
def ptHead (t : Fin cfg0.N) : Fin 16 := grid0.coords t 0

theorem coord_toNat (t : Fin cfg0.N) : (BitVec.ofNat 32 (grid0.coords t 0).val).toNat = (grid0.coords t 0).val := by
  have : (grid0.coords t 0).val < 16 := (grid0.coords t 0).isLt
  rw [BitVec.toNat_ofNat]; omega

theorem emb_0 (t : Fin cfg0.N) (z : Fin 1) (n : Fin 256) (d : Fin 16) : (win0_0.rect t).emb (ix3 z n d : S1x256x16.Idx) = (ix3 (ptHead t) n d : S16x256x16.Idx) := by
  obtain rfl : z = 0 := Subsingleton.elim _ _
  funext a
  refine Fin.ext ?_
  rw [Pipeline.Window.rect_emb_val win0_0 t _ a rfl]
  match a with
  | ⟨0, _⟩ => show (BitVec.ofNat 32 (grid0.coords t 0).val).toNat * 1 + 0 = (grid0.coords t 0).val; rw [coord_toNat]; omega
  | ⟨1, _⟩ => show 0 * 256 + n.val = n.val; omega
  | ⟨2, _⟩ => show 0 * 16 + d.val = d.val; omega

section Any

variable {F : FTy → Type} [FloatOps F] (m : (ℓ : Loc nD τ sig) → Buf (Elt F) ℓ)

/-- The messages, from queries, keys and values by head and cell. -/
def messages (q k v : FVec F S16x256x16 .f32) : FVec F S16x256x16 .f32 := fun j => k0_pay3 (cut q (j 0)) (cut k (j 0)) (cut v (j 0)) (ix3 0 (j 1) (j 2))

/-- The cells chosen. -/
def cells (q k : FVec F S16x256x16 .f32) : IVec S16x256x16 32 := fun j => columns (chosen (BitVec.ofNat 32 (j 0).val) (k0_pay2 (cut q (j 0)) (cut k (j 0)))) (ix3 0 (j 1) (j 2))

theorem iblk_0 (c : Dev nD) (t : Fin cfg0.N) : iblk m c 0 t = cut (V m c main_v2) (ptHead t) := funext fun y => by
  obtain ⟨z, n, d, rfl⟩ : ∃ (z : Fin 1) (n : Fin 256) (d : Fin 16), y = (ix3 z n d : S1x256x16.Idx) := ⟨y 0, y 1, y 2, eq_ix3 _⟩
  exact congrArg (V m c main_v2) (emb_0 t z n d)
theorem iblk_1 (c : Dev nD) (t : Fin cfg0.N) : iblk m c 1 t = cut (V m c main_v5) (ptHead t) := funext fun y => by
  obtain ⟨z, n, d, rfl⟩ : ∃ (z : Fin 1) (n : Fin 256) (d : Fin 16), y = (ix3 z n d : S1x256x16.Idx) := ⟨y 0, y 1, y 2, eq_ix3 _⟩
  exact congrArg (V m c main_v5) (emb_0 t z n d)
theorem iblk_2 (c : Dev nD) (t : Fin cfg0.N) : iblk m c 2 t = cut (V m c main_v8) (ptHead t) := funext fun y => by
  obtain ⟨z, n, d, rfl⟩ : ∃ (z : Fin 1) (n : Fin 256) (d : Fin 16), y = (ix3 z n d : S1x256x16.Idx) := ⟨y 0, y 1, y 2, eq_ix3 _⟩
  exact congrArg (V m c main_v8) (emb_0 t z n d)

theorem flushed_3 (c : Dev nD) (t : Fin cfg0.N) :
    (dats m 0 c).flushed 3 t = (win0_3.blk t).view.read (Elt F) (messages (V m c main_v2) (V m c main_v5) (V m c main_v8)) := by
  rw [Value.flushed3, message_eq, iblk_0, iblk_1, iblk_2]
  funext y
  obtain ⟨z, n, d, rfl⟩ : ∃ (z : Fin 1) (n : Fin 256) (d : Fin 16), y = (ix3 z n d : S1x256x16.Idx) := ⟨y 0, y 1, y 2, eq_ix3 _⟩
  refine Eq.trans ?_ (congrArg (messages (V m c main_v2) (V m c main_v5) (V m c main_v8)) (emb_0 t z n d).symm)
  obtain rfl : z = 0 := Subsingleton.elim _ _
  rfl

theorem flushed_4 (c : Dev nD) (t : Fin cfg0.N) :
    (dats m 0 c).flushed 4 t = (win0_4.blk t).view.read (Elt F) (cells (F := F) (V m c main_v2) (V m c main_v5)) := by
  rw [Value.flushed4, cells_eq, iblk_0, iblk_1]
  funext y
  obtain ⟨z, n, d, rfl⟩ : ∃ (z : Fin 1) (n : Fin 256) (d : Fin 16), y = (ix3 z n d : S1x256x16.Idx) := ⟨y 0, y 1, y 2, eq_ix3 _⟩
  refine Eq.trans ?_ (congrArg (cells (F := F) (V m c main_v2) (V m c main_v5)) (emb_0 t z n d).symm)
  obtain rfl : z = 0 := Subsingleton.elim _ _
  rfl

theorem flush_3 : ∀ t : Fin grid0.N, win0_3.flush t = true := by decide +kernel
theorem flush_4 : ∀ t : Fin grid0.N, win0_4.flush t = true := by decide +kernel

theorem mem_block (i : S16x256x16.Idx) : ∃ t : Fin cfg0.N, i ∈ ((cfg0.win 3).blk t).view.set := by
  obtain ⟨h, n, d, rfl⟩ : ∃ (h : Fin 16) (n : Fin 256) (d : Fin 16), i = ix3 h n d := ⟨i 0, i 1, i 2, eq_ix3 _⟩
  obtain ⟨t, ht⟩ := grid0.coords_surjective (fun a => match a with | ⟨0, _⟩ => h)
  refine ⟨t, ?_⟩
  have e : (win0_0.rect t).emb (ix3 (0 : Fin 1) n d : S1x256x16.Idx) = (ix3 h n d : S16x256x16.Idx) := by
    rw [emb_0]
    have e0 : ptHead t = h := by unfold ptHead; rw [ht]
    rw [e0]
  have := ((cfg0.win 3).blk t).view.emb_mem_set (ix3 (0 : Fin 1) n d : S1x256x16.Idx)
  rwa [show ((cfg0.win 3).blk t).view.emb (ix3 (0 : Fin 1) n d : S1x256x16.Idx) = ix3 h n d from e] at this

theorem arr_message (c : Dev nD) : (dats m 0 c).arrAt 3 cfg0.N = messages (V m c main_v2) (V m c main_v5) (V m c main_v8) :=
  (dats m 0 c).arrAt_eq_of_cover 3 _ (fun t _ => flushed_3 m c t) fun i => (mem_block i).imp fun t ht => ⟨flush_3 t, ht⟩
theorem arr_cells (c : Dev nD) : (dats m 0 c).arrAt 4 cfg0.N = cells (F := F) (V m c main_v2) (V m c main_v5) :=
  (dats m 0 c).arrAt_eq_of_cover 4 _ (fun t _ => flushed_4 m c t) fun i => (mem_block i).imp fun t ht => ⟨flush_4 t, ht⟩

/-! ## The host's layout -/

/-- An image's channels by head and cell. -/
def byCell (x : FVec F S2x128x16x16 .f32) : FVec F S16x256x16 .f32 :=
  shapeCast S16x256x16 (transpose S2x8x16x16x16 [0, 1, 3, 4, 2] (shapeCast S2x8x16x16x16 x shapeCasts_S2x128x16x16_S2x8x16x16x16) transposes_S2x8x16x16x16_S2x8x16x16x16_0_1_3_4_2) shapeCasts_S2x8x16x16x16_S16x256x16

theorem V_q (c : Dev nD) : V m c main_v2 = byCell (m ((c : Thread nD τ).loc main_arg0)) := by
  unfold V; after_results_simp <;> rfl
theorem V_k (c : Dev nD) : V m c main_v5 = byCell (m ((c : Thread nD τ).loc main_arg1)) := by
  unfold V; after_results_simp <;> rfl
theorem V_v (c : Dev nD) : V m c main_v8 = byCell (m ((c : Thread nD τ).loc main_arg2)) := by
  unfold V; after_results_simp <;> rfl

end Any

/-- A cell's channel in an image. -/
def tok (h : Fin 16) (n : Fin 256) (d : Fin 16) : S2x128x16x16.Idx :=
  ix4 ⟨h.val / 8, by omega⟩ ⟨h.val % 8 * 16 + d.val, by omega⟩ ⟨n.val / 16, by omega⟩ ⟨n.val % 16, by omega⟩

theorem byCell_apply (x : FVec Ideal S2x128x16x16 .f32) (h : Fin 16) (n : Fin 256) (d : Fin 16) : byCell x (ix3 h n d) = x (tok h n d) := by
  unfold tok
  pointwise [byCell]

end Cert.Proof.Coarse

end
-- ==== Proof.CoarsePicks.lean ====
/-
  The coarse level's rounds choose what the reference's sort does: each takes the first place of the greatest weight left and
  strikes it out with a number below every weight.
-/
module

public import proofs.«01_k».proof.Proof.CoarseValue
public import proofs.«01_k».proof.Proof.Finite

@[expose] public section

noncomputable section

namespace Cert.Proof.Coarse

open Cert.CoarseIdeal Cert.CoarseIdeal.Gen

open Idealize.ShloMosaic
open Tail (Re best best_first struck rest nth att)
open Tail.F1 (leastOf leastOf_mark low fold_best)

theorem min_read (x : IVec S256x256 32) (p : Fin 256) :
    multiReductionI .minsi [1] S256 x 2147483647#32 reduces_S256x256_S256 rfl (ix1 p) = leastOf fun k : Fin 256 => x (ix2 p k) := by
  unfold leastOf
  pointwise

theorem pick_apply (w : FVec Ideal S256x256 .f32) (p : Fin 256) : pick w (ix1 p) = BitVec.ofNat 32 (best fun u : Fin 256 => w (ix2 p u)).val := by
  refine Eq.trans (b := leastOf (fun x : Fin 256 => if w (ix2 p x) = Finset.fold max (Ideal.ofBits .f32 4286578688#32) (fun x : Fin 256 => w (ix2 p x)) Finset.univ then BitVec.ofNat 32 x.val else 512#32)) ?_ ?_
  · unfold pick
    rw [min_read]
    pointwise
  · rw [fold_best fun u : Fin 256 => w (ix2 p u)]
    exact leastOf_mark 512 (by decide) (by decide) (fun x : Fin 256 => w (ix2 p x) = w (ix2 p (best fun u => w (ix2 p u)))) _ rfl
      fun k hk e => absurd (best_first (fun u : Fin 256 => w (ix2 p u)) k e) (not_le.2 hk)

theorem strike_apply (w : FVec Ideal S256x256 .f32) (j : IVec S256 32) (p t : Fin 256) (hj : j (ix1 p) = BitVec.ofNat 32 t.val) (u : Fin 256) :
    strike w j (ix2 p u) = struck low (fun u : Fin 256 => w (ix2 p u)) t u := by
  refine Eq.trans (b := Scalar.select (IntOp.cmpi .eq (BitVec.ofNat 32 u.val) (j (ix1 p))) low (w (ix2 p u))) ?_ ?_
  · pointwise [strike]
    rfl
  · rw [hj]
    unfold struck Scalar.select IntOp.cmpi
    have e : (BitVec.ofNat 32 u.val = BitVec.ofNat 32 t.val) ↔ u = t := by
      rw [← BitVec.toNat_inj, BitVec.toNat_ofNat, BitVec.toNat_ofNat, Nat.mod_eq_of_lt (by omega), Nat.mod_eq_of_lt (by omega), Fin.ext_iff]
    by_cases h : u = t
    · simp [h]
    · rw [if_neg h, beq_eq_false_iff_ne.2 (mt e.1 h)]
      rfl

theorem left_apply (w : FVec Ideal S256x256 .f32) (n : ℕ) (p u : Fin 256) :
    left w n (ix2 p u) = rest low (fun u : Fin 256 => w (ix2 p u)) n u := by
  induction n generalizing u with
  | zero => rfl
  | succ n ih =>
    show strike (left w n) (pick (left w n)) (ix2 p u) = struck low _ _ u
    have e : (fun u : Fin 256 => left w n (ix2 p u)) = rest low (fun u : Fin 256 => w (ix2 p u)) n := funext ih
    rw [strike_apply (left w n) _ p _ (pick_apply (left w n) p) u, e]

/-- The place a round picks. -/
theorem pick_left (w : FVec Ideal S256x256 .f32) (n : ℕ) (p : Fin 256) :
    pick (left w n) (ix1 p) = BitVec.ofNat 32 (nth low (fun u : Fin 256 => w (ix2 p u)) n).val := by
  rw [pick_apply, show (fun u : Fin 256 => left w n (ix2 p u)) = rest low (fun u : Fin 256 => w (ix2 p u)) n from funext fun u => left_apply w n p u]
  rfl

theorem chosen_apply (b : BitVec 32) (w : FVec Ideal S256x256 .f32) (n : ℕ) (p : Fin 256) :
    chosen b w n (ix1 p) = IntOp.addi (pick (left w n) (ix1 p)) (IntOp.muli b 256#32) := rfl

theorem cells_at (q k : FVec Ideal S16x256x16 .f32) (h : Fin 16) (n : Fin 256) (r : Fin 16) :
    cells (F := Ideal) q k (ix3 h n r) = columns (chosen (BitVec.ofNat 32 h.val) (k0_pay2 (F := Ideal) (cut q h) (cut k h))) (ix3 0 n r) := by
  unfold cells
  rfl

/-- A cell chosen, at a coordinate. -/
theorem cells_apply (q k : FVec Ideal S16x256x16 .f32) (h : Fin 16) (n : Fin 256) (r : Fin 16) : cells (F := Ideal) q k (ix3 h n r)
    = IntOp.addi (BitVec.ofNat 32 (nth low (att (fun c => q (ix3 h n c)) (fun (u : Fin 256) c => k (ix3 h u c))) r.val).val) (IntOp.muli (BitVec.ofNat 32 h.val) 256#32) := by
  rw [cells_at, columns_apply, chosen_apply, pick_left, show (fun u : Fin 256 => k0_pay2 (F := Ideal) (cut q h) (cut k h) (ix2 n u)) = att (fun c => q (ix3 h n c)) (fun (u : Fin 256) c => k (ix3 h u c)) from
    funext fun u => weights_apply _ _ n u]

/-- A message, at a coordinate. -/
theorem messages_apply (q k v : FVec Ideal S16x256x16 .f32) (h : Fin 16) (n : Fin 256) (d : Fin 16) : messages (F := Ideal) q k v (ix3 h n d)
    = Tail.msg (fun c => q (ix3 h n c)) (fun (u : Fin 256) c => k (ix3 h u c)) (fun (u : Fin 256) c => v (ix3 h u c)) d := message_apply _ _ _ n d

end Cert.Proof.Coarse

end
-- ==== Proof.CoarseRef.lean ====
/-
  The coarse level's reference, read, and equal to the kernel's two arrays.
-/
module

public import proofs.«01_k».proof.Proof.CoarsePicks
public import proofs.«01_k».proof.Proof.Gen.CoarseReferenceIdeal
public import proofs.«01_k».proof.Proof.Gen.CoarseReferenceIdeal.Run

@[expose] public section

noncomputable section

namespace Cert.CoarseReferenceIdeal

open Idealize.ShloMosaic Idealize.SL.Sem Cert.CoarseReferenceIdeal.Gen

variable {F : FTy → Type} [FloatOps F]

/-- An image's channels by head and cell. -/
def refCells (x : FVec F S2x128x16x16 .f32) : FVec F S16x256x16 .f32 :=
  transpose S16x256x16 [0, 2, 1] (shapeCast S16x16x256 x shapeCasts_S2x128x16x16_S16x16x256) transposes_S16x16x256_S16x256x16_0_2_1

/-- The scaled scores. -/
def refScore (q k : FVec F S16x256x16 .f32) : FVec F S16x256x256 .f32 :=
  mulf (Host.dotGeneral dot_S16x256x16_S16x256x16_S16x256x256_2_2_1_1_0_0 none q k) (broadcastInDim S16x256x256 ![] bcast_S_S16x256x256 (constant S_ .f32 0x3E800000#32))

/-- Their softmax. -/
def refAtt (s : FVec F S16x256x256 .f32) : FVec F S16x256x256 .f32 :=
  have e : FVec F S16x256x256 .f32 := Host.exp (subf s (broadcastInDim S16x256x256 ![0, 1, 2] bcast_S16x256x1_S16x256x256_0_1_2 (broadcastInDim S16x256x1 ![0, 1] bcast_S16x256_S16x256x1_0_1
    (Host.reduce FloatOps.maximumf s (constant S_ .f32 0xFF800000#32) reducesTo_S16x256x256_S16x256_d2 h_S_))))
  Host.divf e (broadcastInDim S16x256x256 ![0, 1, 2] bcast_S16x256x1_S16x256x256_0_1_2 (broadcastInDim S16x256x1 ![0, 1] bcast_S16x256_S16x256x1_0_1
    (Host.reduceAdd e (constant S_ .f32 0x00000000#32) reducesTo_S16x256x256_S16x256_d2 h_S_)))

/-- The weights of the images' cells. -/
def refWeights (x y : FVec F S2x128x16x16 .f32) : FVec F S16x256x256 .f32 := refAtt (refScore (refCells x) (refCells y))

/-- The messages. -/
def refMessages (x y z : FVec F S2x128x16x16 .f32) : FVec F S16x256x16 .f32 :=
  Host.dotGeneral dot_S16x256x256_S16x256x16_S16x256x16_2_1_1_2_0_0 none (refWeights x y) (refCells z)

/-- The places of the sixteen best. -/
def refBest (a : FVec F S16x256x256 .f32) : IVec S16x256x16 32 := (Host.topK S16x256x16 2 (FloatOps.cmpfTotal .gt) a sliceFits_S16x256x256_S16x256x16).2

/-- Their cells. -/
def refChosen (x y : FVec F S2x128x16x16 .f32) : IVec S16x256x16 32 :=
  addi (refBest (refWeights x y)) (broadcastInDim S16x256x16 ![0, 1, 2] bcast_S16x1x1_S16x256x16_0_1_2
    (muli (broadcastInDim S16x1x1 ![0] bcast_S16_S16x1x1_0 (iotaInDim S16 32 0)) (broadcastInDim S16x1x1 ![] bcast_S_S16x1x1 (constantI S_ 32 256#32))))

theorem run_result (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v18) = refMessages (m ((c.tc : Thread nD τ).loc main_arg0)) (m ((c.tc : Thread nD τ).loc main_arg1)) (m ((c.tc : Thread nD τ).loc main_arg2))
      ∧ r.2.mem ((c.tc : Thread nD τ).loc main_v24) = refChosen (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (by rfl), (h c).2.1.trans (by rfl), (h c).2.2⟩) (Value.run m ρ)

end Cert.CoarseReferenceIdeal

namespace Cert.Proof.Coarse

open Idealize.ShloMosaic
open Cert.CoarseReferenceIdeal Cert.CoarseReferenceIdeal.Gen
open Tail (Re nth att sortedFrom_eq_nth IsReal att_above)
open Tail.F1 (low)

theorem refCells_apply (x : FVec Ideal S2x128x16x16 .f32) (h : Fin 16) (n : Fin 256) (d : Fin 16) : refCells x (ix3 h n d) = x (tok h n d) := by
  unfold tok
  pointwise [refCells]

/-- The two layouts agree. -/
theorem byCell_eq (x : FVec Ideal S2x128x16x16 .f32) : byCell x = refCells x := by
  funext j
  obtain ⟨h, n, d, rfl⟩ : ∃ (h : Fin 16) (n : Fin 256) (d : Fin 16), j = ix3 h n d := ⟨j 0, j 1, j 2, eq_ix3 _⟩
  rw [refCells_apply]
  exact byCell_apply x h n d

theorem refAtt_apply (q k : FVec Ideal S16x256x16 .f32) (h : Fin 16) (n u : Fin 256) :
    refAtt (refScore q k) (ix3 h n u) = att (fun c => q (ix3 h n c)) (fun (u : Fin 256) c => k (ix3 h u c)) u := by
  unfold att Tail.score
  pointwise [refAtt, refScore]

theorem refMessages_read (x y z : FVec Ideal S2x128x16x16 .f32) (h : Fin 16) (n : Fin 256) (d : Fin 16) :
    refMessages x y z (ix3 h n d) = ∑ u : Fin 256, refWeights x y (ix3 h n u) * refCells z (ix3 h u d) := by
  pointwise [refMessages]

/-- The messages are the reference's. -/
theorem messages_eq (x y z : FVec Ideal S2x128x16x16 .f32) : messages (F := Ideal) (byCell x) (byCell y) (byCell z) = refMessages x y z := by
  funext j
  obtain ⟨h, n, d, rfl⟩ : ∃ (h : Fin 16) (n : Fin 256) (d : Fin 16), j = ix3 h n d := ⟨j 0, j 1, j 2, eq_ix3 _⟩
  rw [byCell_eq, byCell_eq, byCell_eq, refMessages_read]
  refine (messages_apply _ _ _ h n d).trans ?_
  unfold Tail.msg
  simp only [refWeights, refAtt_apply]

theorem head_apply (y : IVec S16x256x256 32) (h : Fin 16) (n : Fin 256) (r : Fin 16) :
    extractStridedSlice S16x256x16 (fun _ => 0) y sliceFits_S16x256x256_S16x256x16 (ix3 h n r) = y (ix3 h n (⟨r.val, by omega⟩ : Fin 256)) :=
  congrArg y (funext fun b => Fin.ext (by fin_cases b <;> exact Nat.zero_add _))

theorem places_sorted (B : Re × BitVec 32 → Re × BitVec 32 → BitVec 1) (x : FVec Ideal S16x256x256 .f32) (y : IVec S16x256x256 32) (j : S16x256x256.Idx) :
    (Host.sort2 S16x256x256 2 B x y).2 j
      = y (j.along (2 : Fin 3) (sortedFrom (fun k k' : Fin 256 => B (x (j.along (2 : Fin 3) k), y (j.along (2 : Fin 3) k)) (x (j.along (2 : Fin 3) k'), y (j.along (2 : Fin 3) k')) == 1#1) (j (2 : Fin 3)))) := rfl

/-- The reference's choice, read. -/
theorem refBest_apply (x : FVec Ideal S16x256x256 .f32) (h : Fin 16) (n : Fin 256) (r : Fin 16) (hx : ∀ u : Fin 256, low < x (ix3 h n u)) :
    refBest x (ix3 h n r) = BitVec.ofNat 32 (nth low (fun u : Fin 256 => x (ix3 h n u)) r.val).val := by
  rw [← sortedFrom_eq_nth (N := 256) (a := fun u => x (ix3 h n u)) hx (by decide) r.val r.isLt]
  have hal : ∀ k : Fin 256, Shape.Idx.along (s := S16x256x256) (ix3 h n (⟨r.val, by omega⟩ : Fin 256)) (2 : Fin 3) k = ix3 h n k := fun k => by
    funext b; apply Fin.ext; fin_cases b <;> rfl
  have hs : (fun k k' : Fin 256 => (FloatOps.cmpfTotal (F := Ideal) (φ := .f32) .gt (x (ix3 h n k)) (x (ix3 h n k')) == 1#1)) = fun k k' => decide (x (ix3 h n k') < x (ix3 h n k)) := by
    funext k k'
    show (BitVec.ofBool (decide (x (ix3 h n k') < x (ix3 h n k))) == 1#1) = _
    cases decide (x (ix3 h n k') < x (ix3 h n k)) <;> rfl
  rw [← hs]
  unfold refBest Host.topK; dsimp only
  refine Eq.trans (head_apply _ h n r) ?_
  refine Eq.trans (places_sorted _ x _ _) ?_
  have hk : ∀ k : Fin 256, (fun i : S16x256x256.Idx => if hd : 2 < S16x256x256.rank then iotaInDim S16x256x256 32 ⟨2, hd⟩ i else 0#32)
      (Shape.Idx.along (s := S16x256x256) (ix3 h n (⟨r.val, by omega⟩ : Fin 256)) (2 : Fin 3) k) = BitVec.ofNat 32 k.val := fun k => by rw [hal]; rfl
  refine (hk _).trans (congrArg (fun k : Fin 256 => BitVec.ofNat 32 k.val) ?_)
  refine congrArg (fun B : Fin 256 → Fin 256 → Bool => sortedFrom B (⟨r.val, by omega⟩ : Fin 256)) (funext fun k => funext fun k' => ?_)
  show (FloatOps.cmpfTotal (F := Ideal) (φ := .f32) .gt (x _) (x _) == 1#1) = _
  rw [hal, hal]

theorem refChosen_read (x y : FVec Ideal S2x128x16x16 .f32) (h : Fin 16) (n : Fin 256) (r : Fin 16) :
    refChosen x y (ix3 h n r) = IntOp.addi (refBest (refWeights x y) (ix3 h n r)) (IntOp.muli (BitVec.ofNat 32 h.val) 256#32) := by
  pointwise [refChosen]

/-- The cells chosen are the reference's, of finite queries and keys. -/
theorem cells_eq_ref (x y : FVec Ideal S2x128x16x16 .f32) (hx : ∀ i, IsReal (x i)) (hy : ∀ i, IsReal (y i)) : cells (F := Ideal) (byCell x) (byCell y) = refChosen x y := by
  funext j
  obtain ⟨h, n, r, rfl⟩ : ∃ (h : Fin 16) (n : Fin 256) (r : Fin 16), j = ix3 h n r := ⟨j 0, j 1, j 2, eq_ix3 _⟩
  have hw : (fun u : Fin 256 => refWeights x y (ix3 h n u)) = att (fun c => refCells x (ix3 h n c)) (fun (u : Fin 256) c => refCells y (ix3 h u c)) :=
    funext fun u => refAtt_apply _ _ h n u
  rw [byCell_eq, byCell_eq, refChosen_read, refBest_apply, hw]
  · exact cells_apply _ _ h n r
  · intro u
    refine lt_of_lt_of_eq (att_above (fun c => ?_) (fun u c => ?_) u) (congrFun hw u).symm
    · rw [refCells_apply]; exact hx _
    · rw [refCells_apply]; exact hy _

end Cert.Proof.Coarse

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Coarse
public import proofs.«01_k».proof.Proof.Gen.Coarse.Frame
public import proofs.«01_k».proof.Proof.Gen.CoarseIdeal
public import proofs.«01_k».proof.Proof.Gen.CoarseIdeal.Frame
public import proofs.«01_k».proof.Proof.Gen.CoarseIdeal.Value
public import proofs.«01_k».proof.Proof.Gen.CoarseReferenceIdeal
public import proofs.«01_k».proof.Proof.Gen.CoarseReferenceIdeal.Run
public import proofs.«01_k».proof.Proof.Gen.Pre_in_rows
public import proofs.«01_k».proof.Proof.Gen.Pre_in_rows_and_finite
public import proofs.«01_k».proof.Proof.Gen.Pre_finite
public import proofs.«01_k».proof.Proof.Res
public import proofs.«01_k».proof.Proof.Same
public import proofs.«01_k».proof.Proof.CoarseRef
public import Idealize.ShloMosaic.Adequacy
public import Idealize.ShloMosaic.Init

@[expose] public section

noncomputable section

namespace Cert.Proof

open Idealize.ShloMosaic Idealize.SL.Sem
open Cert.KernelIdeal (S2x128x64x64 S2x128x32x32 S3 S16x256x16)
open Tail (Re IsReal InLocal)

instance : Subsingleton Cert.Pre_in_rows.S_.Idx := ⟨fun a b => funext fun d => d.elim0⟩
instance : Subsingleton Cert.Pre_finite.S_.Idx := ⟨fun a b => funext fun d => d.elim0⟩

/-! ## The preconditions, read -/

theorem local_of_words {v : BitVec 32} (e : IntOp.andi (IntOp.cmpi .sge v 0#32) (IntOp.cmpi .slt v 256#32) = 1#1) : v.toNat < 256 := by
  obtain ⟨e1, e2⟩ := IntOp.andi_eq_one.1 e
  rw [IntOp.cmpi_sge] at e1
  rw [IntOp.cmpi_slt] at e2
  have c1 : (0#32 : BitVec 32).toInt = 0 := by decide
  have c2 : (256#32 : BitVec 32).toInt = 256 := by decide
  rw [c1] at e1
  rw [c2] at e2
  have := BitVec.toInt_eq_toNat_cond (x := v)
  split at this <;> omega

theorem real_of_word {x : Re} (e : FloatOps.cmpf (F := Ideal) (φ := .f32) .olt (FloatOps.absf (F := Ideal) (φ := .f32) x) (FloatOps.ofBits (F := Ideal) .f32 0x7F800000#32) = 1#1) : IsReal x := by
  have hi : (FloatOps.ofBits (F := Ideal) .f32 0x7F800000#32 : Re) = (⊤ : EReal) := by simp [Ideal.ofBits_def, Ideal.ofBits, Ideal.ieee]
  rw [Ideal.cmpf_def, Ideal.absf_def, hi] at e
  have h : max (x : EReal) (-x) < ⊤ := by
    by_contra hc
    have e' : BitVec.ofBool (decide (max (x : EReal) (-x) < ⊤)) = 1#1 := e
    rw [decide_eq_false hc] at e'
    exact absurd e' (by decide)
  induction x using EReal.rec with
  | bot => simp at h
  | top => simp at h
  | coe r => exact ⟨r, rfl⟩

section
variable {F : FTy → Type} [FloatOps F] (x0 y0 z0 : FVec F S2x128x64x64 .f32) (x1 y1 z1 : FVec F S2x128x32x32 .f32) (w : FVec F S3 .f32) (c : FVec F S16x256x16 .f32) (g : IVec S16x256x16 32)

/-- Every coarse cell is one of its head's. -/
theorem local_of_pre (h : Cert.Pre_in_rows.fn (F := F) x0 x1 y0 y1 z0 z1 w c g = fun _ => 1#1) : InLocal g := fun h' n k =>
  local_of_words (Host.reduce_andi_all _ _ _ _ _ (congrFun h ix0) (ix3 h' n k))

theorem local_of_pre_finite (h : Cert.Pre_in_rows_and_finite.fn (F := F) x0 x1 y0 y1 z0 z1 w c g = fun _ => 1#1) : InLocal g := fun h' n k =>
  local_of_words (Host.reduce_andi_all _ _ _ _ _ (IntOp.andi_eq_one.1 (IntOp.andi_eq_one.1 (congrFun h ix0)).1).1 (ix3 h' n k))
end

section
variable (x0 y0 z0 : FVec Ideal S2x128x64x64 .f32) (x1 y1 z1 : FVec Ideal S2x128x32x32 .f32) (w : FVec Ideal S3 .f32) (c : FVec Ideal S16x256x16 .f32) (g : IVec S16x256x16 32)
  (h : Cert.Pre_in_rows_and_finite.fn (F := Ideal) x0 x1 y0 y1 z0 z1 w c g = fun _ => 1#1)
include h

/-- The second finest level's queries are finite, … -/
theorem queries_of_pre (i : S2x128x32x32.Idx) : IsReal (x1 i) :=
  real_of_word (Host.reduce_andi_all _ _ _ _ _ (IntOp.andi_eq_one.1 (IntOp.andi_eq_one.1 (congrFun h ix0)).1).2 i)

/-- … and its keys. -/
theorem keys_of_pre (i : S2x128x32x32.Idx) : IsReal (y1 i) :=
  real_of_word (Host.reduce_andi_all _ _ _ _ _ (IntOp.andi_eq_one.1 (congrFun h ix0)).2 i)
end

section
variable (x y z : FVec Ideal Cert.CoarseIdeal.S2x128x16x16 .f32) (h : Cert.Pre_finite.fn (F := Ideal) x y z = fun _ => 1#1)
include h

/-- The coarse level's queries are finite, … -/
theorem coarse_queries_of_pre (i : Cert.CoarseIdeal.S2x128x16x16.Idx) : IsReal (x i) :=
  real_of_word (Host.reduce_andi_all _ _ _ _ _ (IntOp.andi_eq_one.1 (congrFun h ix0)).1 i)

/-- … and its keys. -/
theorem coarse_keys_of_pre (i : Cert.CoarseIdeal.S2x128x16x16.Idx) : IsReal (y i) :=
  real_of_word (Host.reduce_andi_all _ _ _ _ _ (IntOp.andi_eq_one.1 (congrFun h ix0)).2 i)
end

/-! ## The claims -/

theorem frame_kernel : Cert.quiescent_Kernel := fun m ρ hp =>
  run_same m ρ _ ((θ_run Cert.KernelIdeal.defs _ _).mono (fun _ h => ⟨fun c => (h.1 c).2, h.2⟩)
    (Tail.run_read (F := Bits) m ρ (fun d => Tail.inRows1 (local_of_pre _ _ _ _ _ _ _ _ _ (hp d)))
      fun d => Tail.inRows0 (Tail.midRows_lt m d (local_of_pre _ _ _ _ _ _ _ _ _ (hp d)))))

theorem frame_ideal : Cert.quiescent_KernelIdeal := fun m ρ hp =>
  (θ_run Cert.KernelIdeal.defs _ _).mono (fun _ h => ⟨fun c => (h.1 c).2, h.2⟩)
    (Tail.run_read (F := Ideal) m ρ (fun d => Tail.inRows1 (local_of_pre _ _ _ _ _ _ _ _ _ (hp d)))
      fun d => Tail.inRows0 (Tail.midRows_lt m d (local_of_pre _ _ _ _ _ _ _ _ _ (hp d))))

theorem frame_ideal_finite : Cert.quiescent_KernelIdeal_pre_in_rows_and_finite := fun m ρ hp =>
  (θ_run Cert.KernelIdeal.defs _ _).mono (fun _ h => ⟨fun c => (h.1 c).2, h.2⟩)
    (Tail.run_read (F := Ideal) m ρ (fun d => Tail.inRows1 (local_of_pre_finite _ _ _ _ _ _ _ _ _ (hp d)))
      fun d => Tail.inRows0 (Tail.midRows_lt m d (local_of_pre_finite _ _ _ _ _ _ _ _ _ (hp d))))

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.run_result (F := Ideal) m ρ)

theorem frame_reference_finite : Cert.quiescent_ReferenceIdeal_pre_in_rows_and_finite := fun m ρ _ =>
  (θ_run Cert.ReferenceIdeal.defs _ _).mono (fun r h => ⟨fun c => (h c).2, sem_eq_zero_of_no_sems (by decide) r.2⟩)
    (Cert.ReferenceIdeal.run_result (F := Ideal) m ρ)

/-- The value: the second finest level's attention on the coarse cells' quadrants and its sixteen best, then the finest level's on those,
    added up by the levels' weights, in the order of tokens. -/
theorem algebraic : Cert.algebraic_KernelIdeal_ReferenceIdeal_pre_in_rows_and_finite := by
  intro m ρ m' ρ' hp hag
  have hg := fun d => local_of_pre_finite _ _ _ _ _ _ _ _ _ (hp d)
  refine ⟨fun c => Tail.byToken (F := Ideal) ((Tail.F0.dat (Tail.E7 m) 2 c).arrAt 4 Cert.KernelIdeal.cfg3.N),
    (θ_run Cert.KernelIdeal.defs _ _).mono (fun _ h c => h.1 c) (Tail.run_read (F := Ideal) m ρ (fun d => Tail.inRows1 (hg d)) fun d => Tail.inRows0 (Tail.midRows_lt m d (hg d))),
    (θ_run Cert.ReferenceIdeal.defs _ _).mono (fun _ h c => ⟨(h c).1.trans ?_, (h c).2⟩) (Cert.ReferenceIdeal.run_result (F := Ideal) m' ρ')⟩
  obtain ⟨e0, e1, e2, e3, e4, e5, e6, e7, e8⟩ := hag c
  rw [e0, e1, e2, e3, e4, e5, e6, e7, e8]
  show _ = Tail.byToken (F := Ideal) ((Tail.F0.dat (Tail.E7 m) 2 c).arrAt 4 Cert.KernelIdeal.cfg3.N)
  have hJ := Tail.inRows0 (Tail.midRows_lt m c (hg c))
  rw [Tail.F0.arr_fine, Tail.V7_q, Tail.V7_kv, Tail.V7_car, Tail.V7_arg6, Tail.value_eq _ _ _ _ _ _ hJ, Tail.midRows_eq, Tail.midOut_eq]
  unfold Tail.kv1
  rw [Tail.mid_eq _ _ _ _ _ _ (Tail.inRows1 (hg c)), Tail.rows_eq _ _ _ _ (hg c)
    (Tail.weights_above _ _ _ (hg c) (queries_of_pre _ _ _ _ _ _ _ _ _ (hp c)) (keys_of_pre _ _ _ _ _ _ _ _ _ (hp c)))]

theorem frame_coarse : Cert.quiescent_Coarse := fun m ρ _ => Cert.Coarse.Gen.frame (F := Bits) m ρ

theorem frame_coarse_ideal : Cert.quiescent_CoarseIdeal := fun m ρ _ => Cert.CoarseIdeal.Gen.frame (F := Ideal) m ρ

theorem frame_coarse_ideal_finite : Cert.quiescent_CoarseIdeal_pre_finite := fun m ρ _ => Cert.CoarseIdeal.Gen.frame (F := Ideal) m ρ

theorem frame_coarse_reference : Cert.quiescent_CoarseReferenceIdeal := fun m ρ _ =>
  (θ_run Cert.CoarseReferenceIdeal.defs _ _).mono (fun r h => ⟨fun c => (h c).2.2, sem_eq_zero_of_no_sems (by decide) r.2⟩)
    (Cert.CoarseReferenceIdeal.run_result (F := Ideal) m ρ)

theorem frame_coarse_reference_finite : Cert.quiescent_CoarseReferenceIdeal_pre_finite := fun m ρ _ =>
  (θ_run Cert.CoarseReferenceIdeal.defs _ _).mono (fun r h => ⟨fun c => (h c).2.2, sem_eq_zero_of_no_sems (by decide) r.2⟩)
    (Cert.CoarseReferenceIdeal.run_result (F := Ideal) m ρ)

/-- The coarse level's two results: the attention's message, and the cells of its sixteen best. -/
theorem algebraic_coarse : Cert.algebraic_CoarseIdeal_CoarseReferenceIdeal_pre_finite := by
  intro m ρ m' ρ' hp hag
  refine ⟨fun c => (Cert.CoarseIdeal.Gen.dats m 0 c).arrAt 3 Cert.CoarseIdeal.cfg0.N, fun c => (Cert.CoarseIdeal.Gen.dats m 0 c).arrAt 4 Cert.CoarseIdeal.cfg0.N,
    Cert.CoarseIdeal.Value.run_blocks (F := Ideal) m ρ,
    (θ_run Cert.CoarseReferenceIdeal.defs _ _).mono (fun _ h c => ⟨(h c).1.trans ?_, (h c).2.1.trans ?_, (h c).2.2⟩) (Cert.CoarseReferenceIdeal.run_result (F := Ideal) m' ρ')⟩
  · obtain ⟨e0, e1, e2⟩ := hag c
    rw [e0, e1, e2]
    refine Eq.symm ((Coarse.arr_message (F := Ideal) m c).trans ?_)
    rw [Coarse.V_q, Coarse.V_k, Coarse.V_v]
    exact Coarse.messages_eq _ _ _
  · obtain ⟨e0, e1, -⟩ := hag c
    rw [e0, e1]
    refine Eq.symm ((Coarse.arr_cells (F := Ideal) m c).trans ?_)
    rw [Coarse.V_q, Coarse.V_k]
    exact Coarse.cells_eq_ref _ _ (coarse_queries_of_pre _ _ _ (hp c)) (coarse_keys_of_pre _ _ _ (hp c))

theorem claim : Cert.Claim := ⟨Cert.Kernel.Gen.facts, Cert.KernelIdeal.Gen.facts, Cert.ReferenceIdeal.Gen.facts,
  Cert.Coarse.Gen.facts, Cert.CoarseIdeal.Gen.facts, Cert.CoarseReferenceIdeal.Gen.facts,
  Cert.Pre_in_rows.Gen.facts, Cert.Pre_in_rows_and_finite.Gen.facts, Cert.Pre_finite.Gen.facts,
  frame_kernel, frame_ideal, frame_ideal_finite, frame_reference, frame_reference_finite,
  frame_coarse, frame_coarse_ideal, frame_coarse_ideal_finite, frame_coarse_reference, frame_coarse_reference_finite,
  trivial, algebraic, trivial, algebraic_coarse⟩

end Cert.Proof

end
